-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_act [hPre_finite_act : Cert.Pre_finite_act.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_act.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_act [hPre_finite_act : Cert.Pre_finite_act.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_act.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_merge [hPre_finite_merge : Cert.Pre_finite_merge.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_merge.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_merge [hPre_finite_merge : Cert.Pre_finite_merge.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_merge.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_ln [hPre_finite_ln : Cert.Pre_finite_ln.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_ln.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_ln [hPre_finite_ln : Cert.Pre_finite_ln.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_ln.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite_ln [hPre_finite_ln : Cert.Pre_finite_ln.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite_ln.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite_ln [hPre_finite_ln : Cert.Pre_finite_ln.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite_ln.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite_act [hKernel12Ideal : Cert.Kernel12Ideal.Facts] [hPre_finite_act : Cert.Pre_finite_act.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_act m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite_act [hReference12Ideal : Cert.Reference12Ideal.Facts] [hPre_finite_act : Cert.Pre_finite_act.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_act m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Kernel13Ideal_pre_finite_merge [hKernel13Ideal : Cert.Kernel13Ideal.Facts] [hPre_finite_merge : Cert.Pre_finite_merge.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_merge m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Reference13Ideal_pre_finite_merge [hReference13Ideal : Cert.Reference13Ideal.Facts] [hPre_finite_merge : Cert.Pre_finite_merge.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_merge m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_finite_ln [hKernel14Ideal : Cert.Kernel14Ideal.Facts] [hPre_finite_ln : Cert.Pre_finite_ln.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_ln m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_finite_ln [hReference14Ideal : Cert.Reference14Ideal.Facts] [hPre_finite_ln : Cert.Pre_finite_ln.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_ln m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Kernel29Ideal_pre_finite_ln [hKernel29Ideal : Cert.Kernel29Ideal.Facts] [hPre_finite_ln : Cert.Pre_finite_ln.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite_ln m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Reference29Ideal_pre_finite_ln [hReference29Ideal : Cert.Reference29Ideal.Facts] [hPre_finite_ln : Cert.Pre_finite_ln.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite_ln m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "cubic" .f32 0x3D372713#32 ((8943 / 200000 : ℝ) : EReal)
  ∧ IdealRules.named_const.Statement Cert.Kernel12Ideal.κ "slope" .f32 0x3E095D4F#32 ((26829 / 200000 : ℝ) : EReal)

def algebraic_Kernel12Ideal_Reference12Ideal_pre_finite_act [hKernel12Ideal : Cert.Kernel12Ideal.Facts] [hReference12Ideal : Cert.Reference12Ideal.Facts] [hPre_finite_act : Cert.Pre_finite_act.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_act m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_v43) = v1 c
          ∧ r.2.mem ((c.tc : Thread Cert.Reference12Ideal.nD Cert.Reference12Ideal.τ).loc Cert.Reference12Ideal.main_v41) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite_merge [hKernel13Ideal : Cert.Kernel13Ideal.Facts] [hReference13Ideal : Cert.Reference13Ideal.Facts] [hPre_finite_merge : Cert.Pre_finite_merge.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_merge m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)) (v5 : (c : Dev Cert.Kernel13Ideal.nD) → Buf (Elt Ideal) ((c.tc : Thread Cert.Kernel13Ideal.nD Cert.Kernel13Ideal.τ).loc Cert.Kernel13Ideal.main_v0_5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_v0_5) = v5 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v87) = v0 c
          ∧ r.2.mem ((c.tc : Thread Cert.Reference13Ideal.nD Cert.Reference13Ideal.τ).loc Cert.Reference13Ideal.main_v67) = v1 c
          ∧ r.2.mem ((c.tc : Thread Cert.Reference13Ideal.nD Cert.Reference13Ideal.τ).loc Cert.Reference13Ideal.main_v88) = v2 c
          ∧ r.2.mem ((c.tc : Thread Cert.Reference13Ideal.nD Cert.Reference13Ideal.τ).loc Cert.Reference13Ideal.main_v73) = v3 c
          ∧ r.2.mem ((c.tc : Thread Cert.Reference13Ideal.nD Cert.Reference13Ideal.τ).loc Cert.Reference13Ideal.main_v51) = v4 c
          ∧ r.2.mem ((c.tc : Thread Cert.Reference13Ideal.nD Cert.Reference13Ideal.τ).loc Cert.Reference13Ideal.main_v70) = v5 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal_pre_finite_ln [hKernel14Ideal : Cert.Kernel14Ideal.Facts] [hReference14Ideal : Cert.Reference14Ideal.Facts] [hPre_finite_ln : Cert.Pre_finite_ln.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_ln m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v66) = v0 c
          ∧ r.2.mem ((c.tc : Thread Cert.Reference14Ideal.nD Cert.Reference14Ideal.τ).loc Cert.Reference14Ideal.main_v72) = v1 c
          ∧ r.2.mem ((c.tc : Thread Cert.Reference14Ideal.nD Cert.Reference14Ideal.τ).loc Cert.Reference14Ideal.main_v40) = v2 c
          ∧ r.2.mem ((c.tc : Thread Cert.Reference14Ideal.nD Cert.Reference14Ideal.τ).loc Cert.Reference14Ideal.main_v37) = v3 c
          ∧ r.2.mem ((c.tc : Thread Cert.Reference14Ideal.nD Cert.Reference14Ideal.τ).loc Cert.Reference14Ideal.main_v71) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v6)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  IdealRules.named_const.Statement Cert.Kernel22Ideal.κ "cubic" .f32 0x3D372713#32 ((8943 / 200000 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_v17) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v29) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_v18) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal_pre_finite_ln [hKernel29Ideal : Cert.Kernel29Ideal.Facts] [hReference29Ideal : Cert.Reference29Ideal.Facts] [hPre_finite_ln : Cert.Pre_finite_ln.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite_ln m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)) (v4 : (c : Dev Cert.Kernel29Ideal.nD) → Buf (Elt Ideal) ((c.tc : Thread Cert.Kernel29Ideal.nD Cert.Kernel29Ideal.τ).loc Cert.Kernel29Ideal.main_v0_4)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_v0_4) = v4 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v66) = v0 c
          ∧ r.2.mem ((c.tc : Thread Cert.Reference29Ideal.nD Cert.Reference29Ideal.τ).loc Cert.Reference29Ideal.main_v72) = v1 c
          ∧ r.2.mem ((c.tc : Thread Cert.Reference29Ideal.nD Cert.Reference29Ideal.τ).loc Cert.Reference29Ideal.main_v40) = v2 c
          ∧ r.2.mem ((c.tc : Thread Cert.Reference29Ideal.nD Cert.Reference29Ideal.τ).loc Cert.Reference29Ideal.main_v37) = v3 c
          ∧ r.2.mem ((c.tc : Thread Cert.Reference29Ideal.nD Cert.Reference29Ideal.τ).loc Cert.Reference29Ideal.main_v71) = v4 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v8) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v29) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v20) = v0 c
          ∧ r.2.mem ((c.tc : Thread Cert.Reference33Ideal.nD Cert.Reference33Ideal.τ).loc Cert.Reference33Ideal.main_v15) = v1 c
          ∧ r.2.mem ((c.tc : Thread Cert.Reference33Ideal.nD Cert.Reference33Ideal.τ).loc Cert.Reference33Ideal.main_v12) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite_act : Cert.Pre_finite_act.Facts) (hPre_finite_merge : Cert.Pre_finite_merge.Facts) (hPre_finite_ln : Cert.Pre_finite_ln.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_act (hKernel12Ideal := hKernel12Ideal) (hPre_finite_act := hPre_finite_act)
    ∧ quiescent_Reference12Ideal (hReference12Ideal := hReference12Ideal)
    ∧ quiescent_Reference12Ideal_pre_finite_act (hReference12Ideal := hReference12Ideal) (hPre_finite_act := hPre_finite_act)
    ∧ quiescent_Kernel13 (hKernel13 := hKernel13)
    ∧ quiescent_Kernel13Ideal (hKernel13Ideal := hKernel13Ideal)
    ∧ quiescent_Kernel13Ideal_pre_finite_merge (hKernel13Ideal := hKernel13Ideal) (hPre_finite_merge := hPre_finite_merge)
    ∧ quiescent_Reference13Ideal (hReference13Ideal := hReference13Ideal)
    ∧ quiescent_Reference13Ideal_pre_finite_merge (hReference13Ideal := hReference13Ideal) (hPre_finite_merge := hPre_finite_merge)
    ∧ quiescent_Kernel14 (hKernel14 := hKernel14)
    ∧ quiescent_Kernel14Ideal (hKernel14Ideal := hKernel14Ideal)
    ∧ quiescent_Kernel14Ideal_pre_finite_ln (hKernel14Ideal := hKernel14Ideal) (hPre_finite_ln := hPre_finite_ln)
    ∧ quiescent_Reference14Ideal (hReference14Ideal := hReference14Ideal)
    ∧ quiescent_Reference14Ideal_pre_finite_ln (hReference14Ideal := hReference14Ideal) (hPre_finite_ln := hPre_finite_ln)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite_ln (hKernel29Ideal := hKernel29Ideal) (hPre_finite_ln := hPre_finite_ln)
    ∧ quiescent_Reference29Ideal (hReference29Ideal := hReference29Ideal)
    ∧ quiescent_Reference29Ideal_pre_finite_ln (hReference29Ideal := hReference29Ideal) (hPre_finite_ln := hPre_finite_ln)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_act (hKernel12Ideal := hKernel12Ideal) (hReference12Ideal := hReference12Ideal) (hPre_finite_act := hPre_finite_act)
    ∧ preserves_Kernel13_Kernel13Ideal
    ∧ algebraic_Kernel13Ideal_Reference13Ideal_pre_finite_merge (hKernel13Ideal := hKernel13Ideal) (hReference13Ideal := hReference13Ideal) (hPre_finite_merge := hPre_finite_merge)
    ∧ preserves_Kernel14_Kernel14Ideal
    ∧ algebraic_Kernel14Ideal_Reference14Ideal_pre_finite_ln (hKernel14Ideal := hKernel14Ideal) (hReference14Ideal := hReference14Ideal) (hPre_finite_ln := hPre_finite_ln)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite_ln (hKernel29Ideal := hKernel29Ideal) (hReference29Ideal := hReference29Ideal) (hPre_finite_ln := hPre_finite_ln)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite_act.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn_part1 {F : FTy → Type} [FloatOps F] (main_v5 : IVec S_ 1) (main_v11 : IVec S_ 1) (main_v13 : IVec S8192x1024 1) (main_v15 : IVec S8192x1024 1) : IVec S_ 1 :=
  let main_v16 : IVec S8192x1024 1 := andi main_v13 main_v15
  let main_c_6 : IVec S_ 1 := constantI S_ 1 1#1
  let main_v17 : IVec S_ 1 := (fun x v => Host.reduce IntOp.andi x v reducesTo_S8192x1024_S_d0_1 h_S_) main_v16 main_c_6
  let main_v18 : IVec S_ 1 := andi main_v5 main_v11
  let main_v19 : IVec S_ 1 := andi main_v18 main_v17
  main_v19

def fn {F : FTy → Type} [FloatOps F] (main_arg0 : FVec F S8192x1024 .f32) (main_arg1 : FVec F S8192x1024 .f32) (main_arg2 : FVec F S1x1024 .f32) (main_arg3 : FVec F S8192x1024 .f32) (main_arg4 : FVec F S8192x1024 .f32) : IVec S_ 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_arg3 main_v6
  let main_cst_2 : FVec F S_ .f32 := constant S_ .f32 0xFF800000#32
  let main_v8 : FVec F S8192x1024 .f32 := broadcastInDim S8192x1024 ![] bcast_S_S8192x1024 main_cst_2
  let main_v9 : IVec S8192x1024 1 := cmpf .ogt main_arg3 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_cst_4 : FVec F S_ .f32 := constant S_ .f32 0x7F800000#32
  let main_v12 : FVec F S8192x1024 .f32 := broadcastInDim S8192x1024 ![] bcast_S_S8192x1024 main_cst_4
  let main_v13 : IVec S8192x1024 1 := cmpf .olt main_arg4 main_v12
  let main_cst_5 : FVec F S_ .f32 := constant S_ .f32 0xFF800000#32
  let main_v14 : FVec F S8192x1024 .f32 := broadcastInDim S8192x1024 ![] bcast_S_S8192x1024 main_cst_5
  let main_v15 : IVec S8192x1024 1 := cmpf .ogt main_arg4 main_v14
  fn_part1 (F := F) main_v5 main_v11 main_v13 main_v15
-- ==== Pre_finite_ln.lean ====
abbrev S8192x2048 : Shape := ⟨2, ![8192, 2048]⟩
abbrev S6x2048 : Shape := ⟨2, ![6, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S6x2048 : S_.BroadcastsInDim S6x2048 (![] : Fin 0 → Fin S6x2048.rank)
  reducesTo_S6x2048_S_d0_1 : S6x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_v29 : IVec S_ 1) (main_v32 : IVec S_ 1) : IVec S_ 1 :=
  let main_v33 : IVec S_ 1 := andi main_v32 main_v29
  main_v33

def fn_part1 {F : FTy → Type} [FloatOps F] (main_arg3 : FVec F S1x2048 .f32) (main_arg5 : FVec F S8192x2048 .f32) (main_v5 : IVec S_ 1) (main_v11 : IVec S_ 1) (main_v13 : IVec S6x2048 1) (main_v15 : IVec S6x2048 1) : IVec S_ 1 :=
  let main_v16 : IVec S6x2048 1 := andi main_v13 main_v15
  let main_c_6 : IVec S_ 1 := constantI S_ 1 1#1
  let main_v17 : IVec S_ 1 := (fun x v => Host.reduce IntOp.andi x v reducesTo_S6x2048_S_d0_1 h_S_) main_v16 main_c_6
  let main_cst_7 : FVec F S_ .f32 := constant S_ .f32 0x7F800000#32
  let main_v18 : FVec F S1x2048 .f32 := broadcastInDim S1x2048 ![] bcast_S_S1x2048 main_cst_7
  let main_v19 : IVec S1x2048 1 := cmpf .olt main_arg3 main_v18
  let main_cst_8 : FVec F S_ .f32 := constant S_ .f32 0xFF800000#32
  let main_v20 : FVec F S1x2048 .f32 := broadcastInDim S1x2048 ![] bcast_S_S1x2048 main_cst_8
  let main_v21 : IVec S1x2048 1 := cmpf .ogt main_arg3 main_v20
  let main_v22 : IVec S1x2048 1 := andi main_v19 main_v21
  let main_c_9 : IVec S_ 1 := constantI S_ 1 1#1
  let main_v23 : IVec S_ 1 := (fun x v => Host.reduce IntOp.andi x v reducesTo_S1x2048_S_d0_1 h_S_) main_v22 main_c_9
  let main_cst_10 : FVec F S_ .f32 := constant S_ .f32 0x7F800000#32
  let main_v24 : FVec F S8192x2048 .f32 := broadcastInDim S8192x2048 ![] bcast_S_S8192x2048 main_cst_10
  let main_v25 : IVec S8192x2048 1 := cmpf .olt main_arg5 main_v24
  let main_cst_11 : FVec F S_ .f32 := constant S_ .f32 0xFF800000#32
  let main_v26 : FVec F S8192x2048 .f32 := broadcastInDim S8192x2048 ![] bcast_S_S8192x2048 main_cst_11
  let main_v27 : IVec S8192x2048 1 := cmpf .ogt main_arg5 main_v26
  let main_v28 : IVec S8192x2048 1 := andi main_v25 main_v27
  let main_c_12 : IVec S_ 1 := constantI S_ 1 1#1
  let main_v29 : IVec S_ 1 := (fun x v => Host.reduce IntOp.andi x v reducesTo_S8192x2048_S_d0_1 h_S_) main_v28 main_c_12
  let main_v30 : IVec S_ 1 := andi main_v5 main_v11
  let main_v31 : IVec S_ 1 := andi main_v30 main_v17
  let main_v32 : IVec S_ 1 := andi main_v31 main_v23
  fn_part2 (F := F) main_v29 main_v32

def fn {F : FTy → Type} [FloatOps F] (main_arg0 : FVec F S8192x2048 .f32) (main_arg1 : FVec F S8192x2048 .f32) (main_arg2 : FVec F S6x2048 .f32) (main_arg3 : FVec F S1x2048 .f32) (main_arg4 : FVec F S1x2048 .f32) (main_arg5 : FVec F S8192x2048 .f32) : IVec S_ 1 :=
  let main_cst : FVec F S_ .f32 := constant S_ .f32 0x7F800000#32
  let main_v0 : FVec F S8192x2048 .f32 := broadcastInDim S8192x2048 ![] bcast_S_S8192x2048 main_cst
  let main_v1 : IVec S8192x2048 1 := cmpf .olt main_arg0 main_v0
  let main_cst_0 : FVec F S_ .f32 := constant S_ .f32 0xFF800000#32
  let main_v2 : FVec F S8192x2048 .f32 := broadcastInDim S8192x2048 ![] bcast_S_S8192x2048 main_cst_0
  let main_v3 : IVec S8192x2048 1 := cmpf .ogt main_arg0 main_v2
  let main_v4 : IVec S8192x2048 1 := andi main_v1 main_v3
  let main_c : IVec S_ 1 := constantI S_ 1 1#1
  let main_v5 : IVec S_ 1 := (fun x v => Host.reduce IntOp.andi x v reducesTo_S8192x2048_S_d0_1 h_S_) main_v4 main_c
  let main_cst_1 : FVec F S_ .f32 := constant S_ .f32 0x7F800000#32
  let main_v6 : FVec F S8192x2048 .f32 := broadcastInDim S8192x2048 ![] bcast_S_S8192x2048 main_cst_1
  let main_v7 : IVec S8192x2048 1 := cmpf .olt main_arg1 main_v6
  let main_cst_2 : FVec F S_ .f32 := constant S_ .f32 0xFF800000#32
  let main_v8 : FVec F S8192x2048 .f32 := broadcastInDim S8192x2048 ![] bcast_S_S8192x2048 main_cst_2
  let main_v9 : IVec S8192x2048 1 := cmpf .ogt main_arg1 main_v8
  let main_v10 : IVec S8192x2048 1 := andi main_v7 main_v9
  let main_c_3 : IVec S_ 1 := constantI S_ 1 1#1
  let main_v11 : IVec S_ 1 := (fun x v => Host.reduce IntOp.andi x v reducesTo_S8192x2048_S_d0_1 h_S_) main_v10 main_c_3
  let main_cst_4 : FVec F S_ .f32 := constant S_ .f32 0x7F800000#32
  let main_v12 : FVec F S6x2048 .f32 := broadcastInDim S6x2048 ![] bcast_S_S6x2048 main_cst_4
  let main_v13 : IVec S6x2048 1 := cmpf .olt main_arg2 main_v12
  let main_cst_5 : FVec F S_ .f32 := constant S_ .f32 0xFF800000#32
  let main_v14 : FVec F S6x2048 .f32 := broadcastInDim S6x2048 ![] bcast_S_S6x2048 main_cst_5
  let main_v15 : IVec S6x2048 1 := cmpf .ogt main_arg2 main_v14
  fn_part1 (F := F) main_arg3 main_arg5 main_v5 main_v11 main_v13 main_v15
-- ==== Pre_finite_merge.lean ====
abbrev S8192x1024 : Shape := ⟨2, ![8192, 1024]⟩
abbrev S1x1024 : Shape := ⟨2, ![1, 1024]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part2 {F : FTy → Type} [FloatOps F] (main_arg5 : FVec F S1x1024 .f32) (main_arg6 : FVec F S8192x2048 .f32) (main_v5 : IVec S_ 1) (main_v11 : IVec S_ 1) (main_v17 : IVec S_ 1) (main_v23 : IVec S_ 1) (main_v29 : IVec S_ 1) (main_v31 : IVec S1x1024 1) : IVec S_ 1 :=
  let main_cst_14 : FVec F S_ .f32 := constant S_ .f32 0xFF800000#32
  let main_v32 : FVec F S1x1024 .f32 := broadcastInDim S1x1024 ![] bcast_S_S1x1024 main_cst_14
  let main_v33 : IVec S1x1024 1 := cmpf .ogt main_arg5 main_v32
  let main_v34 : IVec S1x1024 1 := andi main_v31 main_v33
  let main_c_15 : IVec S_ 1 := constantI S_ 1 1#1
  let main_v35 : IVec S_ 1 := (fun x v => Host.reduce IntOp.andi x v reducesTo_S1x1024_S_d0_1 h_S_) main_v34 main_c_15
  let main_cst_16 : FVec F S_ .f32 := constant S_ .f32 0x7F800000#32
  let main_v36 : FVec F S8192x2048 .f32 := broadcastInDim S8192x2048 ![] bcast_S_S8192x2048 main_cst_16
  let main_v37 : IVec S8192x2048 1 := cmpf .olt main_arg6 main_v36
  let main_cst_17 : FVec F S_ .f32 := constant S_ .f32 0xFF800000#32
  let main_v38 : FVec F S8192x2048 .f32 := broadcastInDim S8192x2048 ![] bcast_S_S8192x2048 main_cst_17
  let main_v39 : IVec S8192x2048 1 := cmpf .ogt main_arg6 main_v38
  let main_v40 : IVec S8192x2048 1 := andi main_v37 main_v39
  let main_c_18 : IVec S_ 1 := constantI S_ 1 1#1
  let main_v41 : IVec S_ 1 := (fun x v => Host.reduce IntOp.andi x v reducesTo_S8192x2048_S_d0_1 h_S_) main_v40 main_c_18
  let main_v42 : IVec S_ 1 := andi main_v5 main_v11
  let main_v43 : IVec S_ 1 := andi main_v42 main_v17
  let main_v44 : IVec S_ 1 := andi main_v43 main_v23
  let main_v45 : IVec S_ 1 := andi main_v44 main_v29
  let main_v46 : IVec S_ 1 := andi main_v45 main_v35
  let main_v47 : IVec S_ 1 := andi main_v46 main_v41
  main_v47

def fn_part1 {F : FTy → Type} [FloatOps F] (main_arg3 : FVec F S1x1024 .f32) (main_arg4 : FVec F S1x1024 .f32) (main_arg5 : FVec F S1x1024 .f32) (main_arg6 : FVec F S8192x2048 .f32) (main_v5 : IVec S_ 1) (main_v11 : IVec S_ 1) (main_v13 : IVec S8192x1024 1) (main_v15 : IVec S8192x1024 1) : IVec S_ 1 :=
  let main_v16 : IVec S8192x1024 1 := andi main_v13 main_v15
  let main_c_6 : IVec S_ 1 := constantI S_ 1 1#1
  let main_v17 : IVec S_ 1 := (fun x v => Host.reduce IntOp.andi x v reducesTo_S8192x1024_S_d0_1 h_S_) main_v16 main_c_6
  let main_cst_7 : FVec F S_ .f32 := constant S_ .f32 0x7F800000#32
  let main_v18 : FVec F S1x1024 .f32 := broadcastInDim S1x1024 ![] bcast_S_S1x1024 main_cst_7
  let main_v19 : IVec S1x1024 1 := cmpf .olt main_arg3 main_v18
  let main_cst_8 : FVec F S_ .f32 := constant S_ .f32 0xFF800000#32
  let main_v20 : FVec F S1x1024 .f32 := broadcastInDim S1x1024 ![] bcast_S_S1x1024 main_cst_8
  let main_v21 : IVec S1x1024 1 := cmpf .ogt main_arg3 main_v20
  let main_v22 : IVec S1x1024 1 := andi main_v19 main_v21
  let main_c_9 : IVec S_ 1 := constantI S_ 1 1#1
  let main_v23 : IVec S_ 1 := (fun x v => Host.reduce IntOp.andi x v reducesTo_S1x1024_S_d0_1 h_S_) main_v22 main_c_9
  let main_cst_10 : FVec F S_ .f32 := constant S_ .f32 0x7F800000#32
  let main_v24 : FVec F S1x1024 .f32 := broadcastInDim S1x1024 ![] bcast_S_S1x1024 main_cst_10
  let main_v25 : IVec S1x1024 1 := cmpf .olt main_arg4 main_v24
  let main_cst_11 : FVec F S_ .f32 := constant S_ .f32 0xFF800000#32
  let main_v26 : FVec F S1x1024 .f32 := broadcastInDim S1x1024 ![] bcast_S_S1x1024 main_cst_11
  let main_v27 : IVec S1x1024 1 := cmpf .ogt main_arg4 main_v26
  let main_v28 : IVec S1x1024 1 := andi main_v25 main_v27
  let main_c_12 : IVec S_ 1 := constantI S_ 1 1#1
  let main_v29 : IVec S_ 1 := (fun x v => Host.reduce IntOp.andi x v reducesTo_S1x1024_S_d0_1 h_S_) main_v28 main_c_12
  let main_cst_13 : FVec F S_ .f32 := constant S_ .f32 0x7F800000#32
  let main_v30 : FVec F S1x1024 .f32 := broadcastInDim S1x1024 ![] bcast_S_S1x1024 main_cst_13
  let main_v31 : IVec S1x1024 1 := cmpf .olt main_arg5 main_v30
  fn_part2 (F := F) main_arg5 main_arg6 main_v5 main_v11 main_v17 main_v23 main_v29 main_v31

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) (main_arg5 : FVec F S1x1024 .f32) (main_arg6 : FVec F S8192x2048 .f32) : IVec S_ 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_arg1 main_v6
  let main_cst_2 : FVec F S_ .f32 := constant S_ .f32 0xFF800000#32
  let main_v8 : FVec F S8192x1024 .f32 := broadcastInDim S8192x1024 ![] bcast_S_S8192x1024 main_cst_2
  let main_v9 : IVec S8192x1024 1 := cmpf .ogt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_cst_4 : FVec F S_ .f32 := constant S_ .f32 0x7F800000#32
  let main_v12 : FVec F S8192x1024 .f32 := broadcastInDim S8192x1024 ![] bcast_S_S8192x1024 main_cst_4
  let main_v13 : IVec S8192x1024 1 := cmpf .olt main_arg2 main_v12
  let main_cst_5 : FVec F S_ .f32 := constant S_ .f32 0xFF800000#32
  let main_v14 : FVec F S8192x1024 .f32 := broadcastInDim S8192x1024 ![] bcast_S_S8192x1024 main_cst_5
  let main_v15 : IVec S8192x1024 1 := cmpf .ogt main_arg2 main_v14
  fn_part1 (F := F) main_arg3 main_arg4 main_arg5 main_arg6 main_v5 main_v11 main_v13 main_v15
-- ==== Kernel.lean ====
abbrev S8192x8192 : Shape := ⟨2, ![8192, 8192]⟩
abbrev S8192x2048 : Shape := ⟨2, ![8192, 2048]⟩
abbrev S4x2048x2048 : Shape := ⟨3, ![4, 2048, 2048]⟩
abbrev S8192x4x2048 : Shape := ⟨3, ![8192, 4, 2048]⟩
abbrev S4x8192x2048 : Shape := ⟨3, ![4, 8192, 2048]⟩
abbrev S1024x2048 : Shape := ⟨2, ![1024, 2048]⟩
abbrev S1x1024x2048 : Shape := ⟨3, ![1, 1024, 2048]⟩
abbrev S1x1024x1024 : Shape := ⟨3, ![1, 1024, 1024]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S4x2048x2048, .bf16⟩
  | .hbm, ⟨6, _⟩ => ⟨S8192x8192, .bf16⟩
  | .hbm, ⟨7, _⟩ => ⟨S8192x4x2048, .bf16⟩
  | .hbm, ⟨8, _⟩ => ⟨S4x8192x2048, .bf16⟩
  | .hbm, ⟨9, _⟩ => ⟨S4x8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S8192x8192 : Shape := ⟨2, ![8192, 8192]⟩
abbrev S8192x2048 : Shape := ⟨2, ![8192, 2048]⟩
abbrev S_ : Shape := ⟨0, ![]⟩
abbrev S8192x4x2048 : Shape := ⟨3, ![8192, 4, 2048]⟩
abbrev S4x8192x2048 : Shape := ⟨3, ![4, 8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x4x2048, .f32⟩
  | .hbm, ⟨22, _⟩ => ⟨S4x8192x2048, .f32⟩
  | .hbm, ⟨23, _⟩ => ⟨S4x8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel2.lean ====
abbrev S8192x8192 : Shape := ⟨2, ![8192, 8192]⟩
abbrev S8192x2048 : Shape := ⟨2, ![8192, 2048]⟩
abbrev S8192x4x2048 : Shape := ⟨3, ![8192, 4, 2048]⟩
abbrev S4x8192x2048 : Shape := ⟨3, ![4, 8192, 2048]⟩
abbrev S4x2048x2048 : Shape := ⟨3, ![4, 2048, 2048]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x8192, .bf16⟩
  | .hbm, ⟨4, _⟩ => ⟨S8192x4x2048, .bf16⟩
  | .hbm, ⟨5, _⟩ => ⟨S4x8192x2048, .bf16⟩
  | .hbm, ⟨6, _⟩ => ⟨S8192x2048, .bf16⟩
  | .hbm, ⟨7, _⟩ => ⟨S4x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S4x2048x2048, .f32⟩
  | .hbm, ⟨11, _⟩ => ⟨S4x2048x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel3.lean ====
abbrev S8192x2048 : Shape := ⟨2, ![8192, 2048]⟩
abbrev S2048x8192 : Shape := ⟨2, ![2048, 8192]⟩
abbrev S8192x8192 : Shape := ⟨2, ![8192, 8192]⟩
abbrev S8192x4x2048 : Shape := ⟨3, ![8192, 4, 2048]⟩
abbrev S4x8192x2048 : Shape := ⟨3, ![4, 8192, 2048]⟩
abbrev S2048x4x2048 : Shape := ⟨3, ![2048, 4, 2048]⟩
abbrev S4x2048x2048 : Shape := ⟨3, ![4, 2048, 2048]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .bf16⟩
  | .hbm, ⟨4, _⟩ => ⟨S8192x4x2048, .bf16⟩
  | .hbm, ⟨5, _⟩ => ⟨S4x8192x2048, .bf16⟩
  | .hbm, ⟨6, _⟩ => ⟨S2048x8192, .bf16⟩
  | .hbm, ⟨7, _⟩ => ⟨S2048x4x2048, .bf16⟩
  | .hbm, ⟨8, _⟩ => ⟨S4x2048x2048, .bf16⟩
  | .hbm, ⟨9, _⟩ => ⟨S8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S8192x2048 : Shape := ⟨2, ![8192, 2048]⟩
abbrev S2048x8192 : Shape := ⟨2, ![2048, 8192]⟩
abbrev S8192x8192 : Shape := ⟨2, ![8192, 8192]⟩
abbrev S8192x4x2048 : Shape := ⟨3, ![8192, 4, 2048]⟩
abbrev S4x8192x2048 : Shape := ⟨3, ![4, 8192, 2048]⟩
abbrev S4x2048x2048 : Shape := ⟨3, ![4, 2048, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x2048, .bf16⟩
  | .hbm, ⟨4, _⟩ => ⟨S8192x8192, .bf16⟩
  | .hbm, ⟨5, _⟩ => ⟨S8192x4x2048, .bf16⟩
  | .hbm, ⟨6, _⟩ => ⟨S4x8192x2048, .bf16⟩
  | .hbm, ⟨7, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x8192 : Shape := ⟨2, ![2048, 8192]⟩
abbrev S8192x8192 : Shape := ⟨2, ![8192, 8192]⟩
abbrev S2048x4x2048 : Shape := ⟨3, ![2048, 4, 2048]⟩
abbrev S4x2048x2048 : Shape := ⟨3, ![4, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | .hbm, ⟨5, _⟩ => ⟨S2048x8192, .f32⟩
  | .hbm, ⟨6, _⟩ => ⟨S2048x4x2048, .f32⟩
  | .hbm, ⟨7, _⟩ => ⟨S4x2048x2048, .f32⟩
  | .hbm, ⟨8, _⟩ => ⟨S4x2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S2048x4096 : Shape := ⟨2, ![2048, 4096]⟩
abbrev S8192x4096 : Shape := ⟨2, ![8192, 4096]⟩
abbrev S8192x4x1024 : Shape := ⟨3, ![8192, 4, 1024]⟩
abbrev S4x8192x1024 : Shape := ⟨3, ![4, 8192, 1024]⟩
abbrev S2048x4x1024 : Shape := ⟨3, ![2048, 4, 1024]⟩
abbrev S4x2048x1024 : Shape := ⟨3, ![4, 2048, 1024]⟩
abbrev S1x1024x1024 : Shape := ⟨3, ![1, 1024, 1024]⟩
abbrev S1x2048x1024 : Shape := ⟨3, ![1, 2048, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .bf16⟩
  | .hbm, ⟨4, _⟩ => ⟨S8192x4x1024, .bf16⟩
  | .hbm, ⟨5, _⟩ => ⟨S4x8192x1024, .bf16⟩
  | .hbm, ⟨6, _⟩ => ⟨S2048x4096, .bf16⟩
  | .hbm, ⟨7, _⟩ => ⟨S2048x4x1024, .bf16⟩
  | .hbm, ⟨8, _⟩ => ⟨S4x2048x1024, .bf16⟩
  | .hbm, ⟨9, _⟩ => ⟨S8192x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S8192x2048 : Shape := ⟨2, ![8192, 2048]⟩
abbrev S2048x4096 : Shape := ⟨2, ![2048, 4096]⟩
abbrev S8192x4096 : Shape := ⟨2, ![8192, 4096]⟩
abbrev S8192x4x1024 : Shape := ⟨3, ![8192, 4, 1024]⟩
abbrev S4x8192x1024 : Shape := ⟨3, ![4, 8192, 1024]⟩
abbrev S4x2048x1024 : Shape := ⟨3, ![4, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x2048, .bf16⟩
  | .hbm, ⟨4, _⟩ => ⟨S8192x4096, .bf16⟩
  | .hbm, ⟨5, _⟩ => ⟨S8192x4x1024, .bf16⟩
  | .hbm, ⟨6, _⟩ => ⟨S4x8192x1024, .bf16⟩
  | .hbm, ⟨7, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x4096 : Shape := ⟨2, ![2048, 4096]⟩
abbrev S8192x4096 : Shape := ⟨2, ![8192, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .f32⟩
  | .hbm, ⟨4, _⟩ => ⟨S4096x2048, .f32⟩
  | .hbm, ⟨5, _⟩ => ⟨S2048x4096, .f32⟩
  | .hbm, ⟨6, _⟩ => ⟨S2048x4x1024, .f32⟩
  | .hbm, ⟨7, _⟩ => ⟨S4x2048x1024, .f32⟩
  | .hbm, ⟨8, _⟩ => ⟨S4x2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S6x2048 : Shape := ⟨2, ![6, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S6x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S6x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S8192x2048 : Shape := ⟨2, ![8192, 2048]⟩
abbrev S6x2048 : Shape := ⟨2, ![6, 2048]⟩
abbrev S1x2048 : Shape := ⟨2, ![1, 2048]⟩
abbrev S_ : Shape := ⟨0, ![]⟩
abbrev S2048 : Shape := ⟨1, ![2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S6x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S_, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel12Ideal.lean ====
variable {F : FTy → Type} [FloatOps F] [Named F]
def κ : String → Option EReal := fun
  | "cubic" => some ((8943 / 200000 : ℝ) : EReal)
  | "slope" => some ((26829 / 200000 : ℝ) : EReal)
  | _ => none
-- ==== Reference12Ideal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S8192x2048 : Shape := ⟨2, ![8192, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference13Ideal.lean ====
abbrev S8192x1024 : Shape := ⟨2, ![8192, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x2048, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x2048, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S8192x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192, .f32⟩
  | .hbm, ⟨105, _⟩ => ⟨S8192x1, .f32⟩
  | .hbm, ⟨106, _⟩ => ⟨S8192x1024, .f32⟩
  | .hbm, ⟨107, _⟩ => ⟨S8192x1024, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_19 : Ref sig .tc := ⟨.hbm, 109, rfl⟩
abbrev main_v82 : Ref sig .tc := ⟨.hbm, 110, rfl⟩
abbrev main_v83 : Ref sig .tc := ⟨.hbm, 111, rfl⟩
abbrev main_cst_20 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== Kernel14.lean ====
abbrev S8192x2048 : Shape := ⟨2, ![8192, 2048]⟩
abbrev S6x2048 : Shape := ⟨2, ![6, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S6x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference14Ideal.lean ====
abbrev S8192x2048 : Shape := ⟨2, ![8192, 2048]⟩
abbrev S6x2048 : Shape := ⟨2, ![6, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 98
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x1, .f32⟩
  | .hbm, ⟨67, _⟩ => ⟨S8192x2048, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x2048, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S_, .f32⟩
  | .hbm, ⟨95, _⟩ => ⟨S2048, .f32⟩
  | .hbm, ⟨96, _⟩ => ⟨S1x2048, .f32⟩
  | .hbm, ⟨97, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Kernel15.lean ====
abbrev S8192x2048 : Shape := ⟨2, ![8192, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S3x8192x1024 : Shape := ⟨3, ![3, 8192, 1024]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S2048x4x1024, .bf16⟩
  | .hbm, ⟨5, _⟩ => ⟨S4x2048x1024, .bf16⟩
  | .hbm, ⟨6, _⟩ => ⟨S3x8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x4096 : Shape := ⟨2, ![2048, 4096]⟩
abbrev S8192x4096 : Shape := ⟨2, ![8192, 4096]⟩
abbrev S8192x4x1024 : Shape := ⟨3, ![8192, 4, 1024]⟩
abbrev S4x8192x1024 : Shape := ⟨3, ![4, 8192, 1024]⟩
abbrev S3x8192x1024 : Shape := ⟨3, ![3, 8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4x1024, .f32⟩
  | .hbm, ⟨4, _⟩ => ⟨S4x8192x1024, .f32⟩
  | .hbm, ⟨5, _⟩ => ⟨S3x8192x1024, .f32⟩
  | .hbm, ⟨6, _⟩ => ⟨S3x8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S8192x2048 : Shape := ⟨2, ![8192, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S2048x4x1024, .bf16⟩
  | .hbm, ⟨5, _⟩ => ⟨S4x2048x1024, .bf16⟩
  | .hbm, ⟨6, _⟩ => ⟨S1x2048x1024, .bf16⟩
  | .hbm, ⟨7, _⟩ => ⟨S2048x1024, .bf16⟩
  | .hbm, ⟨8, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x4096 : Shape := ⟨2, ![2048, 4096]⟩
abbrev S8192x4096 : Shape := ⟨2, ![8192, 4096]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8192x2048 : Shape := ⟨2, ![8192, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4x8192x2048 : Shape := ⟨3, ![4, 8192, 2048]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S4x8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S2048x8192 : Shape := ⟨2, ![2048, 8192]⟩
abbrev S8192x8192 : Shape := ⟨2, ![8192, 8192]⟩
abbrev S8192x4x2048 : Shape := ⟨3, ![8192, 4, 2048]⟩
abbrev S4x8192x2048 : Shape := ⟨3, ![4, 8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x4x2048, .f32⟩
  | .hbm, ⟨4, _⟩ => ⟨S4x8192x2048, .f32⟩
  | .hbm, ⟨5, _⟩ => ⟨S4x8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8192x8192 : Shape := ⟨2, ![8192, 8192]⟩
abbrev S8192x2048 : Shape := ⟨2, ![8192, 2048]⟩
abbrev S8192x4x2048 : Shape := ⟨3, ![8192, 4, 2048]⟩
abbrev S4x8192x2048 : Shape := ⟨3, ![4, 8192, 2048]⟩
abbrev S4x2048x2048 : Shape := ⟨3, ![4, 2048, 2048]⟩
abbrev S1x1024x2048 : Shape := ⟨3, ![1, 1024, 2048]⟩
abbrev S1x2048x1024 : Shape := ⟨3, ![1, 2048, 1024]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .bf16⟩
  | .hbm, ⟨3, _⟩ => ⟨S8192x4x2048, .bf16⟩
  | .hbm, ⟨4, _⟩ => ⟨S4x8192x2048, .bf16⟩
  | .hbm, ⟨5, _⟩ => ⟨S8192x2048, .bf16⟩
  | .hbm, ⟨6, _⟩ => ⟨S4x2048x2048, .bf16⟩
  | .hbm, ⟨7, _⟩ => ⟨S8192x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel21.lean ====
abbrev S8192x2048 : Shape := ⟨2, ![8192, 2048]⟩
abbrev S6x2048 : Shape := ⟨2, ![6, 2048]⟩
abbrev S256x2048 : Shape := ⟨2, ![256, 2048]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S6x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S6x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S8192x2048 : Shape := ⟨2, ![8192, 2048]⟩
abbrev S6x2048 : Shape := ⟨2, ![6, 2048]⟩
abbrev S1x2048 : Shape := ⟨2, ![1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S6x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel22.lean ====
abbrev S8192x1024 : Shape := ⟨2, ![8192, 1024]⟩
abbrev S1x1024 : Shape := ⟨2, ![1, 1024]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel22Ideal.lean ====
variable {F : FTy → Type} [FloatOps F] [Named F]
def κ : String → Option EReal := fun
  | "cubic" => some ((8943 / 200000 : ℝ) : EReal)
  | _ => none
-- ==== Reference22Ideal.lean ====
abbrev S8192x1024 : Shape := ⟨2, ![8192, 1024]⟩
abbrev S1x1024 : Shape := ⟨2, ![1, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel23.lean ====
abbrev S8192x1024 : Shape := ⟨2, ![8192, 1024]⟩
abbrev S1x1024 : Shape := ⟨2, ![1, 1024]⟩
abbrev S8192x2048 : Shape := ⟨2, ![8192, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x2048, .bf16⟩
  | .local _ .vmem, ⟨10, _⟩ => ⟨S256x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x2048, .f32⟩
  | .hbm, ⟨48, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel24.lean ====
abbrev S8192x2048 : Shape := ⟨2, ![8192, 2048]⟩
abbrev S6x2048 : Shape := ⟨2, ![6, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S1x2048, .f32⟩
  | .hbm, ⟨4, _⟩ => ⟨S1x2048, .f32⟩
  | .hbm, ⟨5, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S6x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference24Ideal.lean ====
abbrev S8192x2048 : Shape := ⟨2, ![8192, 2048]⟩
abbrev S6x2048 : Shape := ⟨2, ![6, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference25Ideal.lean ====
abbrev S8192x2048 : Shape := ⟨2, ![8192, 2048]⟩
abbrev S_ : Shape := ⟨0, ![]⟩
abbrev S8192 : Shape := ⟨1, ![8192]⟩
abbrev S2048 : Shape := ⟨1, ![2048]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel26.lean ====
abbrev S16x2048 : Shape := ⟨2, ![16, 2048]⟩
abbrev S2048x3072 : Shape := ⟨2, ![2048, 3072]⟩
abbrev S1x3072 : Shape := ⟨2, ![1, 3072]⟩
abbrev S16x3072 : Shape := ⟨2, ![16, 3072]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x3072, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 1], ![false, false, false]⟩

def k0_cond2 (i : grid0.Coords) : BitVec 1 :=
  let arg2 : BitVec 32 := BitVec.ofNat 32 (i 2).val
  let c0_i32_10 : BitVec 32 := 0#32
  let v19 : BitVec 1 := Scalar.cmpi .eq arg2 c0_i32_10
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference26Ideal.lean ====
abbrev S16x2048 : Shape := ⟨2, ![16, 2048]⟩
abbrev S2048x3072 : Shape := ⟨2, ![2048, 3072]⟩
abbrev S1x3072 : Shape := ⟨2, ![1, 3072]⟩
abbrev S_ : Shape := ⟨0, ![]⟩
abbrev S16x3072 : Shape := ⟨2, ![16, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x3072, .f32⟩
  | .hbm, ⟨13, _⟩ => ⟨S16x3072, .f32⟩
  | .hbm, ⟨14, _⟩ => ⟨S16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel27.lean ====
abbrev S16x2048 : Shape := ⟨2, ![16, 2048]⟩
abbrev S2048x3072 : Shape := ⟨2, ![2048, 3072]⟩
abbrev S1x3072 : Shape := ⟨2, ![1, 3072]⟩
abbrev S16x3072 : Shape := ⟨2, ![16, 3072]⟩
abbrev S16x1024 : Shape := ⟨2, ![16, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x3072, .f32⟩
  | .hbm, ⟨4, _⟩ => ⟨S2048x3072, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def k0_cond2 (i : grid0.Coords) : BitVec 1 :=
  let arg2 : BitVec 32 := BitVec.ofNat 32 (i 2).val
  let c0_i32_10 : BitVec 32 := 0#32
  let v19 : BitVec 1 := Scalar.cmpi .eq arg2 c0_i32_10
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S16x2048 : Shape := ⟨2, ![16, 2048]⟩
abbrev S2048x3072 : Shape := ⟨2, ![2048, 3072]⟩
abbrev S1x3072 : Shape := ⟨2, ![1, 3072]⟩
abbrev S16x3072 : Shape := ⟨2, ![16, 3072]⟩
abbrev S_ : Shape := ⟨0, ![]⟩
abbrev S3072x2048 : Shape := ⟨2, ![3072, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S1x3072, .f32⟩
  | .hbm, ⟨3, _⟩ => ⟨S16x3072, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x3072, .f32⟩
  | .hbm, ⟨14, _⟩ => ⟨S16x3072, .f32⟩
  | .hbm, ⟨15, _⟩ => ⟨S16x3072, .f32⟩
  | .hbm, ⟨16, _⟩ => ⟨S3072x2048, .f32⟩
  | .hbm, ⟨17, _⟩ => ⟨S2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel28.lean ====
abbrev S8192x2048 : Shape := ⟨2, ![8192, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S8192x2048 : Shape := ⟨2, ![8192, 2048]⟩
abbrev S6x2048 : Shape := ⟨2, ![6, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S6x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference29Ideal.lean ====
abbrev S8192x2048 : Shape := ⟨2, ![8192, 2048]⟩
abbrev S6x2048 : Shape := ⟨2, ![6, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 98
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x1, .f32⟩
  | .hbm, ⟨67, _⟩ => ⟨S8192x2048, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x2048, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S_, .f32⟩
  | .hbm, ⟨95, _⟩ => ⟨S2048, .f32⟩
  | .hbm, ⟨96, _⟩ => ⟨S1x2048, .f32⟩
  | .hbm, ⟨97, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Kernel30.lean ====
abbrev S8x1024x2048 : Shape := ⟨3, ![8, 1024, 2048]⟩
abbrev S1024x2048 : Shape := ⟨2, ![1024, 2048]⟩
abbrev S8x32x2048 : Shape := ⟨3, ![8, 32, 2048]⟩
abbrev S32x2048 : Shape := ⟨2, ![32, 2048]⟩
abbrev S1x32x2048 : Shape := ⟨3, ![1, 32, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .local _ .vmem, ⟨0, _⟩ => ⟨S8x32x2048, .bf16⟩
  | .local _ .vmem, ⟨1, _⟩ => ⟨S8x32x2048, .bf16⟩
  | .local _ .vmem, ⟨2, _⟩ => ⟨S32x2048, .f32⟩
  | .local _ .vmem, ⟨3, _⟩ => ⟨S32x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference30Ideal.lean ====
abbrev S8x1024x2048 : Shape := ⟨3, ![8, 1024, 2048]⟩
abbrev S_ : Shape := ⟨0, ![]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .f32⟩
  | .hbm, ⟨2, _⟩ => ⟨S_, .f32⟩
  | .hbm, ⟨3, _⟩ => ⟨S1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S8192x2048 : Shape := ⟨2, ![8192, 2048]⟩
abbrev S6x2048 : Shape := ⟨2, ![6, 2048]⟩
abbrev S256x2048 : Shape := ⟨2, ![256, 2048]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S6x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S6x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S8192x2048 : Shape := ⟨2, ![8192, 2048]⟩
abbrev S6x2048 : Shape := ⟨2, ![6, 2048]⟩
abbrev S1x2048 : Shape := ⟨2, ![1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S6x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel32.lean ====
abbrev S8192x2048 : Shape := ⟨2, ![8192, 2048]⟩
abbrev S6x2048 : Shape := ⟨2, ![6, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S1x2048, .f32⟩
  | .hbm, ⟨4, _⟩ => ⟨S1x2048, .f32⟩
  | .hbm, ⟨5, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S6x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference32Ideal.lean ====
abbrev S8192x2048 : Shape := ⟨2, ![8192, 2048]⟩
abbrev S6x2048 : Shape := ⟨2, ![6, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S6x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel33.lean ====
abbrev S8192x2048 : Shape := ⟨2, ![8192, 2048]⟩
abbrev S6x2048 : Shape := ⟨2, ![6, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S6x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S6x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference33Ideal.lean ====
abbrev S8192x2048 : Shape := ⟨2, ![8192, 2048]⟩
abbrev S6x2048 : Shape := ⟨2, ![6, 2048]⟩
abbrev S1x2048 : Shape := ⟨2, ![1, 2048]⟩
abbrev S_ : Shape := ⟨0, ![]⟩
abbrev S2048 : Shape := ⟨1, ![2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S6x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S_, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Mlp2X.lean ====
/- THE GRADIENT OF THE SECOND MLP PRODUCT IN ITS INPUT (`Kernel`, `Reference`): over the extended reals the tiled kernel
   and the differentiated squared ReLU end with equal arrays. The kernel writes `2·max(a, 0)·(dff·wᵀ)`, the reference
   `dff·wᵀ·(2·max(a, 0))` where `a > 0` and zero elsewhere: one value, since `max(a, 0)` is zero where `a > 0` fails. -/
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Proof.Mlp2X

section
open Cert.ReferenceIdeal Cert.ReferenceIdeal.Gen Idealize.ShloMosaic Idealize.ShloMosaic.TcCoe

/-- The reference's term over the argument arrays. -/
abbrev REF (a : FVec Ideal S8192x8192 .f32) (w : FVec Ideal S8192x2048 .f32) (g : FVec Ideal S8192x2048 .f32) :
    FVec Ideal S4x8192x2048 .bf16 :=
  truncf .bf16 (transpose S4x8192x2048 [1, 0, 2] (shapeCast _ (select (cmpf .ogt a (broadcastInDim S8192x8192 ![] bcast_S_S8192x8192 (constant S_ .f32 0x00000000#32))) (mulf (Host.dotGeneral dot_S8192x2048_S8192x2048_S8192x8192_1_1_0_0_n_n none g w) (mulf (broadcastInDim S8192x8192 ![] bcast_S_S8192x8192 (constant S_ .f32 0x40000000#32)) (maximumf a (broadcastInDim S8192x8192 ![] bcast_S_S8192x8192 (constant S_ .f32 0x00000000#32))))) (broadcastInDim S8192x8192 ![] bcast_S_S8192x8192 (constant S_ .f32 0x00000000#32))) shapeCasts_S8192x8192_S8192x4x2048) transposes_S8192x4x2048_S4x8192x2048_1_0_2) bitsLt_bf16_f32

end

open Cert.KernelIdeal Cert.KernelIdeal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val / 8, 0]
    ∧ win0_1.index t = ![t.val % 8 / 2, t.val % 8 % 2, 0]
    ∧ win0_2.index t = ![t.val % 8 / 2, t.val / 8, t.val % 8 % 2]
    ∧ win0_3.index t = ![t.val % 8 / 2, t.val / 8, t.val % 8 % 2] :=
  (by decide +kernel : ∀ t : Fin grid0.N, _)

/-- Where `x` is not positive, `max x 0` is zero: the branch is the product everywhere. -/
theorem gate (s k x : EReal) : (if 0 < x then s * (k * max x 0) else 0) = k * max x 0 * s := by
  split
  · exact mul_comm _ _
  · rename_i h
    rw [max_eq_right (not_lt.mp h), mul_zero, zero_mul]

/-- What the host prepares: the output's cotangent in bf16, the weight's rows in four sections, the columns of the
    activations in four sections. -/
theorem v0 (c : Dev nD) (i : S8192x2048.Idx) : V m c main_v0 i = m ((c : Thread nD τ).loc main_arg2) i := by
  entry_read; pointwise
theorem v2 (c : Dev nD) (i : S4x2048x2048.Idx) : V m c main_v2 i
    = m ((c : Thread nD τ).loc main_arg1) (ix2 ⟨(i 0).val * 2048 + (i 1).val, by idx_bounds; omega⟩ (i 2)) := by
  entry_read; pointwise
theorem v5 (c : Dev nD) (i : S4x8192x2048.Idx) : V m c main_v5 i
    = m ((c : Thread nD τ).loc main_arg0) (ix2 (i 1) ⟨(i 0).val * 2048 + (i 2).val, by idx_bounds; omega⟩) := by
  entry_read; pointwise

/-- The result array: every point writes its own block of the reference's array. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold Gen.outsAt0
  frame_out
  pointwise [k0_pay1, k0_pay2, k0_pay3, REF]
  rw [gate]
  reads_congr
  all_goals blk_simp [iblk, idx t]
  · rw [v5]; blk_ext [idx t]
  · rw [v0]; blk_ext [idx t]
  · rw [v2]; blk_ext [idx t]

/-- The kernel's array and the reference's are one array. -/
theorem algebraic : @Cert.algebraic_KernelIdeal_ReferenceIdeal Cert.KernelIdeal.Gen.facts Cert.ReferenceIdeal.Gen.facts :=
  fun m g m' g' _ hm => ⟨fun c => (dats m 0 c).arrAt 3 cfg0.N, Cert.KernelIdeal.Value.run_blocks m g,
    (θ_run Cert.ReferenceIdeal.defs _ _).mono
      (fun r h c => ⟨((h c).1.trans (by rw [(hm c).1, (hm c).2.1, (hm c).2.2])).trans (final m c).symm, (h c).2⟩)
      (Cert.ReferenceIdeal.Value.run m' g')⟩

end Cert.Proof.Mlp2X

end
-- ==== Proof.Mlp2W.lean ====
/- THE GRADIENT OF THE SECOND MLP PRODUCT IN ITS WEIGHT (`Kernel2`, `Reference2`): over the extended reals the tiled kernel and
   the differentiated product end with equal arrays. The kernel squares the positive part of the activations itself and
   contracts the 8192 tokens in four sections of 2048, each added into a scratch block that the last point of a run
   writes back. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.Mlp2W

section
open Cert.Reference2Ideal Cert.Reference2Ideal.Gen Idealize.ShloMosaic Idealize.ShloMosaic.TcCoe

/-- The reference's term over the argument arrays. -/
abbrev REF (a : FVec Ideal S8192x8192 .f32) (w : FVec Ideal S8192x2048 .f32) (g : FVec Ideal S8192x2048 .f32) : FVec Ideal S4x2048x2048 .bf16 :=
  truncf .bf16 (shapeCast _ (transpose S8192x2048 [1, 0] (Host.dotGeneral dot_S8192x2048_S8192x8192_S2048x8192_0_0_1_1_n_n none g (mulf (maximumf a (broadcastInDim S8192x8192 ![] bcast_S_S8192x8192 (constant S_ .f32 0x00000000#32))) (maximumf a (broadcastInDim S8192x8192 ![] bcast_S_S8192x8192 (constant S_ .f32 0x00000000#32))))) transposes_S2048x8192_S8192x2048_1_0) shapeCasts_S8192x2048_S4x2048x2048) bitsLt_bf16_f32

end

open Cert.Kernel2Ideal Cert.Kernel2Ideal.Gen Idealize.ShloMosaic Idealize.ShloMosaic.TcCoe Idealize.SL.Sem

variable (m : (ℓ : Loc nD τ sig) → Buf (Elt Ideal) ℓ)

theorem swap (x y : EReal) : x * y = y * x := mul_comm x y

/-- Each window's block index at a grid point. -/
theorem idx : ∀ t : Fin cfg0.N, win0_0.index t = ![t.val / 8 / 2, t.val % 4, t.val / 8 % 2]
    ∧ win0_1.index t = ![t.val % 4, t.val % 8 / 4]
    ∧ win0_2.index t = ![t.val / 8 / 2, t.val / 8 % 2, t.val % 8 / 4] :=
  (by decide +kernel : ∀ t : Fin grid0.N, _)

/-- What the host prepares: the columns of the activations in four sections, the output's cotangent in bf16. -/
theorem v2 (c : Dev nD) (i : S4x8192x2048.Idx) : V m c main_v2 i
    = m ((c : Thread nD τ).loc main_arg0) (ix2 (i 1) ⟨(i 0).val * 2048 + (i 2).val, by idx_bounds; omega⟩) := by
  entry_read; pointwise
theorem v3 (c : Dev nD) (i : S8192x2048.Idx) : V m c main_v3 i = m ((c : Thread nD τ).loc main_arg2) i := by
  entry_read; pointwise

/-- The scratch starts at zero, and a point adds its part of the contraction. -/
theorem zero_at (j : S1024x1024.Idx) : k0_pay1 (F := Ideal) j = 0 := by pointwise [k0_pay1]
abbrev part (x0 : FVec Ideal S1x2048x1024 .bf16) (x1 : FVec Ideal S2048x1024 .bf16) (j : S1024x1024.Idx) : EReal :=
  ∑ k : Fin 2048, max (x0 (ix3 0 k (j 0))) 0 * max (x0 (ix3 0 k (j 0))) 0 * x1 (ix2 k (j 1))
theorem pay_at (x0 : FVec Ideal S1x2048x1024 .bf16) (x1 : FVec Ideal S2048x1024 .bf16) (acc : FVec Ideal S1024x1024 .f32)
    (j : S1024x1024.Idx) : k0_pay2 x0 acc x1 j = acc j + part x0 x1 j := by pointwise [k0_pay2]

/-- The scratch at a flushing point holds the run's four parts. -/
theorem scratch (c : Dev nD) (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  rw [Pipeline.eq_sum_fin_of_reset_step_apply_of_flush (fun n h => (outsAt0 m c n h).2) 4 (fun _ => 0)
    (fun p j => part (iblk m c 0 p) (iblk m c 1 p) j)
    (fun t h j => by rw [outsAt0_A m c t h (by omega)]; frame_out; rw [pay_at, zero_at])
    (fun t h j => by
      by_cases h1 : t.val % 4 = 3
      · rw [outsAt0_C m c t h h1]; frame_out; rw [pay_at, read_unread_whole]
      · rw [outsAt0_B m c t h h1]; frame_out; rw [pay_at, read_unread_whole]) t ht j, zero_add]

/-- At a flushing point the block written back is what the scratch then holds. -/
theorem written (c : Dev nD) (t : Fin cfg0.N) (ht : t.val % 4 = 3) :
    (outsAt0 m c t.val t.isLt).1 = k0_pay3 (outsAt0 m c t.val t.isLt).2 := by
  rw [outsAt0_C m c t (by omega) ht]; frame_out

/-- The result array: every run of four points writes its own block of the reference's array. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht := (flush0_2 t).mp hf
  blk_simp
  rw [after0_2, written m c t ht]
  pointwise [k0_pay3, REF]
  rw [scratch m c t ht]
  refine Fin.sum_mul_add_congr fun s k hl => ?_
  refine Eq.trans ?_ (swap _ _)
  reads_congr
  all_goals blk_simp [iblk]
  · rw [v2]; blk_ext [idx t, idx ⟨_, Pipeline.run_point_lt_of_flush t ht s⟩]
  · rw [v3]; blk_ext [idx t, idx ⟨_, Pipeline.run_point_lt_of_flush t ht s⟩]

/-- The kernel's array and the reference's are one array. -/
theorem algebraic : @Cert.algebraic_Kernel2Ideal_Reference2Ideal Cert.Kernel2Ideal.Gen.facts Cert.Reference2Ideal.Gen.facts :=
  fun m g m' g' _ hm => ⟨fun c => (dats m 0 c).arrAt 2 cfg0.N, Cert.Kernel2Ideal.Value.run_blocks m g,
    (θ_run Cert.Reference2Ideal.defs _ _).mono
      (fun r h c => ⟨((h c).1.trans (by simp only [(hm c).1, (hm c).2.1, (hm c).2.2])).trans (final m c).symm, (h c).2⟩)
      (Cert.Reference2Ideal.Value.run m' g')⟩

end Cert.Proof.Mlp2W

end
-- ==== Proof.Mlp1X.lean ====
/- THE GRADIENT OF THE FIRST MLP PRODUCT IN ITS INPUT (`Kernel3`, `Reference3`): over the extended reals the tiled kernel and
   the differentiated product end with equal arrays. The kernel contracts the 8192 columns in four sections of 2048, each
   added into a scratch block that the last point of a run writes back. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.Mlp1X

section
open Cert.Reference3Ideal Cert.Reference3Ideal.Gen Idealize.ShloMosaic Idealize.ShloMosaic.TcCoe

/-- The reference's term over the argument arrays. -/
abbrev REF (a : FVec Ideal S8192x2048 .f32) (w : FVec Ideal S2048x8192 .f32) (g : FVec Ideal S8192x8192 .f32) : FVec Ideal S8192x2048 .f32 :=
  Host.dotGeneral dot_S8192x8192_S2048x8192_S8192x2048_1_1_0_0_n_n none g w

end

open Cert.Kernel3Ideal Cert.Kernel3Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val % 4, t.val / 8, 0]
    ∧ win0_1.index t = ![t.val % 4, t.val % 8 / 4, 0]
    ∧ win0_2.index t = ![t.val / 8, t.val % 8 / 4] :=
  (by decide +kernel : ∀ t : Fin grid0.N, _)

/-- What the host prepares: the cotangent's columns in four sections and the weight's columns in four sections. -/
theorem v2 (c : Dev nD) (i : S4x8192x2048.Idx) : V m c main_v2 i
    = m ((c : Thread nD τ).loc main_arg2) (ix2 (i 1) ⟨(i 0).val * 2048 + (i 2).val, by idx_bounds; omega⟩) := by
  entry_read; pointwise
theorem v5 (c : Dev nD) (i : S4x2048x2048.Idx) : V m c main_v5 i
    = m ((c : Thread nD τ).loc main_arg1) (ix2 (i 1) ⟨(i 0).val * 2048 + (i 2).val, by idx_bounds; omega⟩) := by
  entry_read; pointwise

/-- The scratch starts at zero, and a point adds its part of the contraction. -/
theorem zero_at (j : S1024x1024.Idx) : k0_pay1 (F := Ideal) j = 0 := by pointwise [k0_pay1]
abbrev part (x0 : FVec Ideal S1x1024x2048 .bf16) (x1 : FVec Ideal S1x1024x2048 .bf16) (j : S1024x1024.Idx) : EReal :=
  ∑ k : Fin 2048, x0 (ix3 0 (j 0) k) * x1 (ix3 0 (j 1) k)
theorem pay_at (x0 : FVec Ideal S1x1024x2048 .bf16) (x1 : FVec Ideal S1x1024x2048 .bf16) (acc : FVec Ideal S1024x1024 .f32)
    (j : S1024x1024.Idx) : k0_pay2 x0 acc x1 j = acc j + part x0 x1 j := by pointwise [k0_pay2]

/-- The scratch at a flushing point holds the run's four parts. -/
theorem scratch (c : Dev nD) (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  rw [Pipeline.eq_sum_fin_of_reset_step_apply_of_flush (fun n h => (outsAt0 m c n h).2) 4 (fun _ => 0)
    (fun p j => part (iblk m c 0 p) (iblk m c 1 p) j)
    (fun t h j => by rw [outsAt0_A m c t h (by omega)]; frame_out; rw [pay_at, zero_at])
    (fun t h j => by
      by_cases h1 : t.val % 4 = 3
      · rw [outsAt0_C m c t h h1]; frame_out; rw [pay_at, read_unread_whole]
      · rw [outsAt0_B m c t h h1]; frame_out; rw [pay_at, read_unread_whole]) t ht j, zero_add]

/-- At a flushing point the block written back is what the scratch then holds. -/
theorem written (c : Dev nD) (t : Fin cfg0.N) (ht : t.val % 4 = 3) :
    (outsAt0 m c t.val t.isLt).1 = (outsAt0 m c t.val t.isLt).2 := by
  rw [outsAt0_C m c t (by omega) ht]; frame_out

/-- The result array: every run of four points writes its own block of the reference's array. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht := (flush0_2 t).mp hf
  blk_simp
  rw [after0_2, written m c t ht]
  rw [scratch m c t ht]
  pointwise [REF]
  refine Fin.sum_mul_add_congr fun s k hl => ?_
  reads_congr
  all_goals blk_simp [iblk]
  · rw [v2]; blk_ext [idx t, idx ⟨_, Pipeline.run_point_lt_of_flush t ht s⟩]
  · rw [v5]; blk_ext [idx t, idx ⟨_, Pipeline.run_point_lt_of_flush t ht s⟩]

/-- The kernel's array and the reference's are one array. -/
theorem algebraic : @Cert.algebraic_Kernel3Ideal_Reference3Ideal Cert.Kernel3Ideal.Gen.facts Cert.Reference3Ideal.Gen.facts :=
  fun m g m' g' _ hm => ⟨fun c => (dats m 0 c).arrAt 2 cfg0.N, Cert.Kernel3Ideal.Value.run_blocks m g,
    (θ_run Cert.Reference3Ideal.defs _ _).mono
      (fun r h c => ⟨((h c).1.trans (by simp only [(hm c).1, (hm c).2.1, (hm c).2.2])).trans (final m c).symm, (h c).2⟩)
      (Cert.Reference3Ideal.Value.run m' g')⟩

end Cert.Proof.Mlp1X

end
-- ==== Proof.Mlp1W.lean ====
/- THE GRADIENT OF THE FIRST MLP PRODUCT IN ITS WEIGHT (`Kernel4`, `Reference4`): over the extended reals the tiled kernel and
   the differentiated product end with equal arrays. The kernel contracts the 8192 tokens in four sections of 2048, each
   added into a scratch block that the last point of a run writes back. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.Mlp1W

section
open Cert.Reference4Ideal Cert.Reference4Ideal.Gen Idealize.ShloMosaic Idealize.ShloMosaic.TcCoe

/-- The reference's term over the argument arrays. -/
abbrev REF (a : FVec Ideal S8192x2048 .f32) (w : FVec Ideal S2048x8192 .f32) (g : FVec Ideal S8192x8192 .f32) : FVec Ideal S4x2048x2048 .bf16 :=
  truncf .bf16 (transpose S4x2048x2048 [1, 0, 2] (shapeCast _ (transpose S2048x8192 [1, 0] (Host.dotGeneral dot_S8192x8192_S8192x2048_S8192x2048_0_0_1_1_n_n none g a) transposes_S8192x2048_S2048x8192_1_0) shapeCasts_S2048x8192_S2048x4x2048) transposes_S2048x4x2048_S4x2048x2048_1_0_2) bitsLt_bf16_f32

end

open Cert.Kernel4Ideal Cert.Kernel4Ideal.Gen Idealize.ShloMosaic Idealize.ShloMosaic.TcCoe Idealize.SL.Sem

variable (m : (ℓ : Loc nD τ sig) → Buf (Elt Ideal) ℓ)

theorem swap (x y : EReal) : x * y = y * x := mul_comm x y

/-- Each window's block index at a grid point. -/
theorem idx : ∀ t : Fin cfg0.N, win0_0.index t = ![t.val % 4, t.val / 32]
    ∧ win0_1.index t = ![t.val % 32 / 4 / 2, t.val % 4, t.val % 32 / 4 % 2]
    ∧ win0_2.index t = ![t.val % 32 / 4 / 2, t.val / 32, t.val % 32 / 4 % 2] :=
  (by decide +kernel : ∀ t : Fin grid0.N, _)

/-- What the host prepares: the input in bf16, the columns of the cotangent in four sections. -/
theorem v0 (c : Dev nD) (i : S8192x2048.Idx) : V m c main_v0 i = m ((c : Thread nD τ).loc main_arg0) i := by
  entry_read; pointwise
theorem v3 (c : Dev nD) (i : S4x8192x2048.Idx) : V m c main_v3 i
    = m ((c : Thread nD τ).loc main_arg2) (ix2 (i 1) ⟨(i 0).val * 2048 + (i 2).val, by idx_bounds; omega⟩) := by
  entry_read; pointwise

/-- The scratch starts at zero, and a point adds its part of the contraction. -/
theorem zero_at (j : S1024x1024.Idx) : k0_pay1 (F := Ideal) j = 0 := by pointwise [k0_pay1]
abbrev part (x0 : FVec Ideal S2048x1024 .bf16) (x1 : FVec Ideal S1x2048x1024 .bf16) (j : S1024x1024.Idx) : EReal :=
  ∑ k : Fin 2048, x0 (ix2 k (j 0)) * x1 (ix3 0 k (j 1))
theorem pay_at (x0 : FVec Ideal S2048x1024 .bf16) (x1 : FVec Ideal S1x2048x1024 .bf16) (acc : FVec Ideal S1024x1024 .f32)
    (j : S1024x1024.Idx) : k0_pay2 x0 acc x1 j = acc j + part x0 x1 j := by pointwise [k0_pay2]

/-- The scratch at a flushing point holds the run's four parts. -/
theorem scratch (c : Dev nD) (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  rw [Pipeline.eq_sum_fin_of_reset_step_apply_of_flush (fun n h => (outsAt0 m c n h).2) 4 (fun _ => 0)
    (fun p j => part (iblk m c 0 p) (iblk m c 1 p) j)
    (fun t h j => by rw [outsAt0_A m c t h (by omega)]; frame_out; rw [pay_at, zero_at])
    (fun t h j => by
      by_cases h1 : t.val % 4 = 3
      · rw [outsAt0_C m c t h h1]; frame_out; rw [pay_at, read_unread_whole]
      · rw [outsAt0_B m c t h h1]; frame_out; rw [pay_at, read_unread_whole]) t ht j, zero_add]

/-- At a flushing point the block written back is what the scratch then holds. -/
theorem written (c : Dev nD) (t : Fin cfg0.N) (ht : t.val % 4 = 3) :
    (outsAt0 m c t.val t.isLt).1 = k0_pay3 (outsAt0 m c t.val t.isLt).2 := by
  rw [outsAt0_C m c t (by omega) ht]; frame_out

/-- The result array: every run of four points writes its own block of the reference's array. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht := (flush0_2 t).mp hf
  blk_simp
  rw [after0_2, written m c t ht]
  pointwise [k0_pay3, REF]
  rw [scratch m c t ht]
  refine Fin.sum_mul_add_congr fun s k hl => ?_
  refine Eq.trans ?_ (swap _ _)
  reads_congr
  all_goals blk_simp [iblk]
  · rw [v0]; blk_ext [idx t, idx ⟨_, Pipeline.run_point_lt_of_flush t ht s⟩]
  · rw [v3]; blk_ext [idx t, idx ⟨_, Pipeline.run_point_lt_of_flush t ht s⟩]

/-- The kernel's array and the reference's are one array. -/
theorem algebraic : @Cert.algebraic_Kernel4Ideal_Reference4Ideal Cert.Kernel4Ideal.Gen.facts Cert.Reference4Ideal.Gen.facts :=
  fun m g m' g' _ hm => ⟨fun c => (dats m 0 c).arrAt 2 cfg0.N, Cert.Kernel4Ideal.Value.run_blocks m g,
    (θ_run Cert.Reference4Ideal.defs _ _).mono
      (fun r h c => ⟨((h c).1.trans (by simp only [(hm c).1, (hm c).2.1, (hm c).2.2])).trans (final m c).symm, (h c).2⟩)
      (Cert.Reference4Ideal.Value.run m' g')⟩

end Cert.Proof.Mlp1W

end
-- ==== Proof.OutX.lean ====
/- THE GRADIENT OF THE OUTPUT PROJECTION IN ITS INPUT (`Kernel5`, `Reference5`): over the extended reals the tiled kernel
   and the differentiated product end with equal arrays. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Proof.OutX

section
open Cert.Reference5Ideal Cert.Reference5Ideal.Gen Idealize.ShloMosaic Idealize.ShloMosaic.TcCoe

/-- The reference's term over the argument arrays. -/
abbrev REF (a : FVec Ideal S8192x2048 .f32) (w : FVec Ideal S2048x2048 .f32) (g : FVec Ideal S8192x2048 .f32) : FVec Ideal S8192x2048 .f32 :=
  Host.dotGeneral dot_S8192x2048_S2048x2048_S8192x2048_1_1_0_0_n_n none g w

end

open Cert.Kernel5Ideal Cert.Kernel5Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- What the host prepares: both operands in bf16. -/
theorem v0 (c : Dev nD) (i : S8192x2048.Idx) : V m c main_v0 i = m ((c : Thread nD τ).loc main_arg2) i := by
  entry_read; pointwise
theorem v1 (c : Dev nD) (i : S2048x2048.Idx) : V m c main_v1 i = m ((c : Thread nD τ).loc main_arg1) i := by
  entry_read; pointwise

/-- The result array: every point writes its own block of the reference's array. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  unfold Gen.outsAt0
  frame_out
  pointwise [k0_pay1, k0_pay2, REF]
  reads_congr
  all_goals blk_simp [iblk, idx t]
  · rw [v0]; blk_ext [idx t]
  · rw [v1]; blk_ext [idx t]

/-- The kernel's array and the reference's are one array. -/
theorem algebraic : @Cert.algebraic_Kernel5Ideal_Reference5Ideal Cert.Kernel5Ideal.Gen.facts Cert.Reference5Ideal.Gen.facts :=
  fun m g m' g' _ hm => ⟨fun c => (dats m 0 c).arrAt 2 cfg0.N, Cert.Kernel5Ideal.Value.run_blocks m g,
    (θ_run Cert.Reference5Ideal.defs _ _).mono
      (fun r h c => ⟨((h c).1.trans (by simp only [(hm c).1, (hm c).2.1, (hm c).2.2])).trans (final m c).symm, (h c).2⟩)
      (Cert.Reference5Ideal.Value.run m' g')⟩

end Cert.Proof.OutX

end
-- ==== Proof.OutW.lean ====
/- THE GRADIENT OF THE OUTPUT PROJECTION IN ITS WEIGHT (`Kernel6`, `Reference6`): over the extended reals the tiled kernel and the
   differentiated product end with equal arrays. The kernel contracts the 8192 tokens in four sections of 2048, each
   added into a scratch block that the last point of a run writes back. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.OutW

section
open Cert.Reference6Ideal Cert.Reference6Ideal.Gen Idealize.ShloMosaic Idealize.ShloMosaic.TcCoe

/-- The reference's term over the argument arrays. -/
abbrev REF (a : FVec Ideal S8192x2048 .f32) (w : FVec Ideal S2048x2048 .f32) (g : FVec Ideal S8192x2048 .f32) : FVec Ideal S2048x2048 .bf16 :=
  truncf .bf16 (transpose S2048x2048 [1, 0] (Host.dotGeneral dot_S8192x2048_S8192x2048_S2048x2048_0_0_1_1_n_n none g a) transposes_S2048x2048_S2048x2048_1_0) bitsLt_bf16_f32

end

open Cert.Kernel6Ideal Cert.Kernel6Ideal.Gen Idealize.ShloMosaic Idealize.ShloMosaic.TcCoe Idealize.SL.Sem

variable (m : (ℓ : Loc nD τ sig) → Buf (Elt Ideal) ℓ)

theorem swap (x y : EReal) : x * y = y * x := mul_comm x y

/-- Each window's block index at a grid point. -/
theorem idx : ∀ t : Fin cfg0.N, win0_0.index t = ![t.val % 4, t.val / 8]
    ∧ win0_1.index t = ![t.val % 4, t.val % 8 / 4]
    ∧ win0_2.index t = ![t.val / 8, t.val % 8 / 4] :=
  (by decide +kernel : ∀ t : Fin grid0.N, _)

/-- What the host prepares: both operands in bf16. -/
theorem v0 (c : Dev nD) (i : S8192x2048.Idx) : V m c main_v0 i = m ((c : Thread nD τ).loc main_arg0) i := by
  entry_read; pointwise
theorem v1 (c : Dev nD) (i : S8192x2048.Idx) : V m c main_v1 i = m ((c : Thread nD τ).loc main_arg2) i := by
  entry_read; pointwise

/-- The scratch starts at zero, and a point adds its part of the contraction. -/
theorem zero_at (j : S1024x1024.Idx) : k0_pay1 (F := Ideal) j = 0 := by pointwise [k0_pay1]
abbrev part (x0 : FVec Ideal S2048x1024 .bf16) (x1 : FVec Ideal S2048x1024 .bf16) (j : S1024x1024.Idx) : EReal :=
  ∑ k : Fin 2048, x0 (ix2 k (j 0)) * x1 (ix2 k (j 1))
theorem pay_at (x0 : FVec Ideal S2048x1024 .bf16) (x1 : FVec Ideal S2048x1024 .bf16) (acc : FVec Ideal S1024x1024 .f32)
    (j : S1024x1024.Idx) : k0_pay2 x0 acc x1 j = acc j + part x0 x1 j := by pointwise [k0_pay2]

/-- The scratch at a flushing point holds the run's four parts. -/
theorem scratch (c : Dev nD) (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  rw [Pipeline.eq_sum_fin_of_reset_step_apply_of_flush (fun n h => (outsAt0 m c n h).2) 4 (fun _ => 0)
    (fun p j => part (iblk m c 0 p) (iblk m c 1 p) j)
    (fun t h j => by rw [outsAt0_A m c t h (by omega)]; frame_out; rw [pay_at, zero_at])
    (fun t h j => by
      by_cases h1 : t.val % 4 = 3
      · rw [outsAt0_C m c t h h1]; frame_out; rw [pay_at, read_unread_whole]
      · rw [outsAt0_B m c t h h1]; frame_out; rw [pay_at, read_unread_whole]) t ht j, zero_add]

/-- At a flushing point the block written back is what the scratch then holds. -/
theorem written (c : Dev nD) (t : Fin cfg0.N) (ht : t.val % 4 = 3) :
    (outsAt0 m c t.val t.isLt).1 = k0_pay3 (outsAt0 m c t.val t.isLt).2 := by
  rw [outsAt0_C m c t (by omega) ht]; frame_out

/-- The result array: every run of four points writes its own block of the reference's array. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht := (flush0_2 t).mp hf
  blk_simp
  rw [after0_2, written m c t ht]
  pointwise [k0_pay3, REF]
  rw [scratch m c t ht]
  refine Fin.sum_mul_add_congr fun s k hl => ?_
  refine Eq.trans ?_ (swap _ _)
  reads_congr
  all_goals blk_simp [iblk]
  · rw [v0]; blk_ext [idx t, idx ⟨_, Pipeline.run_point_lt_of_flush t ht s⟩]
  · rw [v1]; blk_ext [idx t, idx ⟨_, Pipeline.run_point_lt_of_flush t ht s⟩]

/-- The kernel's array and the reference's are one array. -/
theorem algebraic : @Cert.algebraic_Kernel6Ideal_Reference6Ideal Cert.Kernel6Ideal.Gen.facts Cert.Reference6Ideal.Gen.facts :=
  fun m g m' g' _ hm => ⟨fun c => (dats m 0 c).arrAt 2 cfg0.N, Cert.Kernel6Ideal.Value.run_blocks m g,
    (θ_run Cert.Reference6Ideal.defs _ _).mono
      (fun r h c => ⟨((h c).1.trans (by simp only [(hm c).1, (hm c).2.1, (hm c).2.2])).trans (final m c).symm, (h c).2⟩)
      (Cert.Reference6Ideal.Value.run m' g')⟩

end Cert.Proof.OutW

end
-- ==== Proof.GluX.lean ====
/- THE GRADIENT OF THE GATE PRODUCT IN ITS INPUT (`Kernel7`, `Reference7`): over the extended reals the tiled kernel and the
   differentiated product end with equal arrays. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Proof.GluX

section
open Cert.Reference7Ideal Cert.Reference7Ideal.Gen Idealize.ShloMosaic Idealize.ShloMosaic.TcCoe

/-- The reference's term over the argument arrays. -/
abbrev REF (a : FVec Ideal S8192x1024 .f32) (w : FVec Ideal S1024x1024 .f32) (g : FVec Ideal S8192x1024 .f32) : FVec Ideal S8192x1024 .f32 :=
  Host.dotGeneral dot_S8192x1024_S1024x1024_S8192x1024_1_1_0_0_n_n none g w

end

open Cert.Kernel7Ideal Cert.Kernel7Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the host prepares: both operands in bf16. -/
theorem v0 (c : Dev nD) (i : S8192x1024.Idx) : V m c main_v0 i = m ((c : Thread nD τ).loc main_arg2) i := by
  entry_read; pointwise
theorem v1 (c : Dev nD) (i : S1024x1024.Idx) : V m c main_v1 i = m ((c : Thread nD τ).loc main_arg1) i := by
  entry_read; pointwise

/-- The result array: every point writes its own block of the reference's array. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  unfold Gen.outsAt0
  frame_out
  pointwise [k0_pay1, k0_pay2, REF]
  reads_congr
  all_goals blk_simp [iblk, idx t]
  · rw [v0]; blk_ext [idx t]
  · rw [v1]; blk_ext [idx t]

/-- The kernel's array and the reference's are one array. -/
theorem algebraic : @Cert.algebraic_Kernel7Ideal_Reference7Ideal Cert.Kernel7Ideal.Gen.facts Cert.Reference7Ideal.Gen.facts :=
  fun m g m' g' _ hm => ⟨fun c => (dats m 0 c).arrAt 2 cfg0.N, Cert.Kernel7Ideal.Value.run_blocks m g,
    (θ_run Cert.Reference7Ideal.defs _ _).mono
      (fun r h c => ⟨((h c).1.trans (by simp only [(hm c).1, (hm c).2.1, (hm c).2.2])).trans (final m c).symm, (h c).2⟩)
      (Cert.Reference7Ideal.Value.run m' g')⟩

end Cert.Proof.GluX

end
-- ==== Proof.GluW.lean ====
/- THE GRADIENT OF THE GATE PRODUCT IN ITS WEIGHT (`Kernel8`, `Reference8`): over the extended reals the tiled kernel and the
   differentiated product end with equal arrays. The kernel contracts the 8192 tokens in four sections of 2048, each
   added into a scratch block that the last point of a run writes back. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.GluW

section
open Cert.Reference8Ideal Cert.Reference8Ideal.Gen Idealize.ShloMosaic Idealize.ShloMosaic.TcCoe

/-- The reference's term over the argument arrays. -/
abbrev REF (a : FVec Ideal S8192x1024 .f32) (w : FVec Ideal S1024x1024 .f32) (g : FVec Ideal S8192x1024 .f32) : FVec Ideal S1024x1024 .bf16 :=
  truncf .bf16 (transpose S1024x1024 [1, 0] (Host.dotGeneral dot_S8192x1024_S8192x1024_S1024x1024_0_0_1_1_n_n none g a) transposes_S1024x1024_S1024x1024_1_0) bitsLt_bf16_f32

end

open Cert.Kernel8Ideal Cert.Kernel8Ideal.Gen Idealize.ShloMosaic Idealize.ShloMosaic.TcCoe Idealize.SL.Sem

variable (m : (ℓ : Loc nD τ sig) → Buf (Elt Ideal) ℓ)

theorem swap (x y : EReal) : x * y = y * x := mul_comm x y

/-- Each window's block index at a grid point. -/
theorem idx : ∀ t : Fin cfg0.N, win0_0.index t = ![t.val, 0]
    ∧ win0_1.index t = ![t.val, 0]
    ∧ win0_2.index t = ![0, 0] :=
  (by decide +kernel : ∀ t : Fin grid0.N, _)

/-- What the host prepares: the cotangent in bf16. -/
theorem v0 (c : Dev nD) (i : S8192x1024.Idx) : V m c main_v0 i = m ((c : Thread nD τ).loc main_arg2) i := by
  entry_read; pointwise

/-- The scratch starts at zero, and a point adds its part of the contraction. -/
theorem zero_at (j : S1024x1024.Idx) : k0_pay1 (F := Ideal) j = 0 := by pointwise [k0_pay1]
abbrev part (x0 : FVec Ideal S2048x1024 .f32) (x1 : FVec Ideal S2048x1024 .bf16) (j : S1024x1024.Idx) : EReal :=
  ∑ k : Fin 2048, x0 (ix2 k (j 0)) * x1 (ix2 k (j 1))
theorem pay_at (x0 : FVec Ideal S2048x1024 .f32) (x1 : FVec Ideal S2048x1024 .bf16) (acc : FVec Ideal S1024x1024 .f32)
    (j : S1024x1024.Idx) : k0_pay2 x0 acc x1 j = acc j + part x0 x1 j := by pointwise [k0_pay2]

/-- The scratch at a flushing point holds the run's four parts. -/
theorem scratch (c : Dev nD) (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  rw [Pipeline.eq_sum_fin_of_reset_step_apply_of_flush (fun n h => (outsAt0 m c n h).2) 4 (fun _ => 0)
    (fun p j => part (iblk m c 0 p) (iblk m c 1 p) j)
    (fun t h j => by rw [outsAt0_A m c t h (by omega)]; frame_out; rw [pay_at, zero_at])
    (fun t h j => by
      by_cases h1 : t.val % 4 = 3
      · rw [outsAt0_C m c t h h1]; frame_out; rw [pay_at, read_unread_whole]
      · rw [outsAt0_B m c t h h1]; frame_out; rw [pay_at, read_unread_whole]) t ht j, zero_add]

/-- At a flushing point the block written back is what the scratch then holds. -/
theorem written (c : Dev nD) (t : Fin cfg0.N) (ht : t.val % 4 = 3) :
    (outsAt0 m c t.val t.isLt).1 = k0_pay3 (outsAt0 m c t.val t.isLt).2 := by
  rw [outsAt0_C m c t (by omega) ht]; frame_out

/-- The result array: every run of four points writes its own block of the reference's array. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht := (flush0_2 t).mp hf
  blk_simp
  rw [after0_2, written m c t ht]
  pointwise [k0_pay3, REF]
  rw [scratch m c t ht]
  refine Fin.sum_mul_add_congr fun s k hl => ?_
  refine Eq.trans ?_ (swap _ _)
  reads_congr
  all_goals blk_simp [iblk]
  · blk_ext [idx t, idx ⟨_, Pipeline.run_point_lt_of_flush t ht s⟩]
  · rw [v0]; blk_ext [idx t, idx ⟨_, Pipeline.run_point_lt_of_flush t ht s⟩]

/-- The kernel's array and the reference's are one array. -/
theorem algebraic : @Cert.algebraic_Kernel8Ideal_Reference8Ideal Cert.Kernel8Ideal.Gen.facts Cert.Reference8Ideal.Gen.facts :=
  fun m g m' g' _ hm => ⟨fun c => (dats m 0 c).arrAt 2 cfg0.N, Cert.Kernel8Ideal.Value.run_blocks m g,
    (θ_run Cert.Reference8Ideal.defs _ _).mono
      (fun r h c => ⟨((h c).1.trans (by simp only [(hm c).1, (hm c).2.1, (hm c).2.2])).trans (final m c).symm, (h c).2⟩)
      (Cert.Reference8Ideal.Value.run m' g')⟩

end Cert.Proof.GluW

end
-- ==== Proof.ProjX.lean ====
/- THE GRADIENT OF THE INPUT PROJECTION IN ITS INPUT (`Kernel9`, `Reference9`): over the extended reals the tiled kernel
   and the differentiated product end with equal arrays. The kernel contracts the 4096 columns in four sections of 1024,
   each added into a scratch block that the last point of a run writes back. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.ProjX

section
open Cert.Reference9Ideal Cert.Reference9Ideal.Gen Idealize.ShloMosaic Idealize.ShloMosaic.TcCoe

/-- The reference's term over the argument arrays. -/
abbrev REF (a : FVec Ideal S8192x2048 .f32) (w : FVec Ideal S2048x4096 .f32) (g : FVec Ideal S8192x4096 .f32) : FVec Ideal S8192x2048 .f32 :=
  Host.dotGeneral dot_S8192x4096_S2048x4096_S8192x2048_1_1_0_0_n_n none g w

end

open Cert.Kernel9Ideal Cert.Kernel9Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val % 4, t.val / 4, 0]
    ∧ win0_1.index t = ![t.val % 4, 0, 0]
    ∧ win0_2.index t = ![t.val / 4, 0] :=
  (by decide +kernel : ∀ t : Fin grid0.N, _)

/-- What the host prepares: the cotangent's columns and the weight's columns in four sections. -/
theorem v2 (c : Dev nD) (i : S4x8192x1024.Idx) : V m c main_v2 i
    = m ((c : Thread nD τ).loc main_arg2) (ix2 (i 1) ⟨(i 0).val * 1024 + (i 2).val, by idx_bounds; omega⟩) := by
  entry_read; pointwise
theorem v5 (c : Dev nD) (i : S4x2048x1024.Idx) : V m c main_v5 i
    = m ((c : Thread nD τ).loc main_arg1) (ix2 (i 1) ⟨(i 0).val * 1024 + (i 2).val, by idx_bounds; omega⟩) := by
  entry_read; pointwise

/-- The scratch starts at zero, and a point adds its part of the contraction. -/
theorem zero_at (j : S1024x2048.Idx) : k0_pay1 (F := Ideal) j = 0 := by pointwise [k0_pay1]
abbrev part (x0 : FVec Ideal S1x1024x1024 .bf16) (x1 : FVec Ideal S1x2048x1024 .bf16) (j : S1024x2048.Idx) : EReal :=
  ∑ k : Fin 1024, x0 (ix3 0 (j 0) k) * x1 (ix3 0 (j 1) k)
theorem pay_at (x0 : FVec Ideal S1x1024x1024 .bf16) (x1 : FVec Ideal S1x2048x1024 .bf16) (acc : FVec Ideal S1024x2048 .f32)
    (j : S1024x2048.Idx) : k0_pay2 x0 acc x1 j = acc j + part x0 x1 j := by pointwise [k0_pay2]

/-- The scratch at a flushing point holds the run's four parts. -/
theorem scratch (c : Dev nD) (t : Fin cfg0.N) (ht : t.val % 4 = 3) (j : S1024x2048.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  rw [Pipeline.eq_sum_fin_of_reset_step_apply_of_flush (fun n h => (outsAt0 m c n h).2) 4 (fun _ => 0)
    (fun p j => part (iblk m c 0 p) (iblk m c 1 p) j)
    (fun t h j => by rw [outsAt0_A m c t h (by omega)]; frame_out; rw [pay_at, zero_at])
    (fun t h j => by
      by_cases h1 : t.val % 4 = 3
      · rw [outsAt0_C m c t h h1]; frame_out; rw [pay_at, read_unread_whole]
      · rw [outsAt0_B m c t h h1]; frame_out; rw [pay_at, read_unread_whole]) t ht j, zero_add]

/-- At a flushing point the block written back is what the scratch then holds. -/
theorem written (c : Dev nD) (t : Fin cfg0.N) (ht : t.val % 4 = 3) :
    (outsAt0 m c t.val t.isLt).1 = (outsAt0 m c t.val t.isLt).2 := by
  rw [outsAt0_C m c t (by omega) ht]; frame_out

/-- The result array: every run of four points writes its own block of the reference's array. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht := (flush0_2 t).mp hf
  blk_simp
  rw [after0_2, written m c t ht]
  rw [scratch m c t ht]
  pointwise [REF]
  refine Fin.sum_mul_add_congr fun s k hl => ?_
  reads_congr
  all_goals blk_simp [iblk]
  · rw [v2]; blk_ext [idx t, idx ⟨_, Pipeline.run_point_lt_of_flush t ht s⟩]
  · rw [v5]; blk_ext [idx t, idx ⟨_, Pipeline.run_point_lt_of_flush t ht s⟩]

/-- The kernel's array and the reference's are one array. -/
theorem algebraic : @Cert.algebraic_Kernel9Ideal_Reference9Ideal Cert.Kernel9Ideal.Gen.facts Cert.Reference9Ideal.Gen.facts :=
  fun m g m' g' _ hm => ⟨fun c => (dats m 0 c).arrAt 2 cfg0.N, Cert.Kernel9Ideal.Value.run_blocks m g,
    (θ_run Cert.Reference9Ideal.defs _ _).mono
      (fun r h c => ⟨((h c).1.trans (by simp only [(hm c).1, (hm c).2.1, (hm c).2.2])).trans (final m c).symm, (h c).2⟩)
      (Cert.Reference9Ideal.Value.run m' g')⟩

end Cert.Proof.ProjX

end
-- ==== Proof.ProjW.lean ====
/- THE GRADIENT OF THE INPUT PROJECTION IN ITS WEIGHT (`Kernel10`, `Reference10`): over the extended reals the tiled kernel and the
   differentiated product end with equal arrays. The kernel contracts the 8192 tokens in four sections of 2048, each
   added into a scratch block that the last point of a run writes back. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.ProjW

section
open Cert.Reference10Ideal Cert.Reference10Ideal.Gen Idealize.ShloMosaic Idealize.ShloMosaic.TcCoe

/-- The reference's term over the argument arrays. -/
abbrev REF (a : FVec Ideal S8192x2048 .f32) (w : FVec Ideal S2048x4096 .f32) (g : FVec Ideal S8192x4096 .f32) : FVec Ideal S4x2048x1024 .bf16 :=
  truncf .bf16 (transpose S4x2048x1024 [1, 0, 2] (shapeCast _ (transpose S2048x4096 [1, 0] (Host.dotGeneral dot_S8192x4096_S8192x2048_S4096x2048_0_0_1_1_n_n none g a) transposes_S4096x2048_S2048x4096_1_0) shapeCasts_S2048x4096_S2048x4x1024) transposes_S2048x4x1024_S4x2048x1024_1_0_2) bitsLt_bf16_f32

end

open Cert.Kernel10Ideal Cert.Kernel10Ideal.Gen Idealize.ShloMosaic Idealize.ShloMosaic.TcCoe Idealize.SL.Sem

variable (m : (ℓ : Loc nD τ sig) → Buf (Elt Ideal) ℓ)

theorem swap (x y : EReal) : x * y = y * x := mul_comm x y

/-- Each window's block index at a grid point. -/
theorem idx : ∀ t : Fin cfg0.N, win0_0.index t = ![t.val % 4, t.val / 16]
    ∧ win0_1.index t = ![t.val % 16 / 4, t.val % 4, 0]
    ∧ win0_2.index t = ![t.val % 16 / 4, t.val / 16, 0] :=
  (by decide +kernel : ∀ t : Fin grid0.N, _)

/-- What the host prepares: the input in bf16, the columns of the cotangent in four sections. -/
theorem v0 (c : Dev nD) (i : S8192x2048.Idx) : V m c main_v0 i = m ((c : Thread nD τ).loc main_arg0) i := by
  entry_read; pointwise
theorem v3 (c : Dev nD) (i : S4x8192x1024.Idx) : V m c main_v3 i
    = m ((c : Thread nD τ).loc main_arg2) (ix2 (i 1) ⟨(i 0).val * 1024 + (i 2).val, by idx_bounds; omega⟩) := by
  entry_read; pointwise

/-- The scratch starts at zero, and a point adds its part of the contraction. -/
theorem zero_at (j : S1024x1024.Idx) : k0_pay1 (F := Ideal) j = 0 := by pointwise [k0_pay1]
abbrev part (x0 : FVec Ideal S2048x1024 .bf16) (x1 : FVec Ideal S1x2048x1024 .bf16) (j : S1024x1024.Idx) : EReal :=
  ∑ k : Fin 2048, x0 (ix2 k (j 0)) * x1 (ix3 0 k (j 1))
theorem pay_at (x0 : FVec Ideal S2048x1024 .bf16) (x1 : FVec Ideal S1x2048x1024 .bf16) (acc : FVec Ideal S1024x1024 .f32)
    (j : S1024x1024.Idx) : k0_pay2 x0 acc x1 j = acc j + part x0 x1 j := by pointwise [k0_pay2]

/-- The scratch at a flushing point holds the run's four parts. -/
theorem scratch (c : Dev nD) (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  rw [Pipeline.eq_sum_fin_of_reset_step_apply_of_flush (fun n h => (outsAt0 m c n h).2) 4 (fun _ => 0)
    (fun p j => part (iblk m c 0 p) (iblk m c 1 p) j)
    (fun t h j => by rw [outsAt0_A m c t h (by omega)]; frame_out; rw [pay_at, zero_at])
    (fun t h j => by
      by_cases h1 : t.val % 4 = 3
      · rw [outsAt0_C m c t h h1]; frame_out; rw [pay_at, read_unread_whole]
      · rw [outsAt0_B m c t h h1]; frame_out; rw [pay_at, read_unread_whole]) t ht j, zero_add]

/-- At a flushing point the block written back is what the scratch then holds. -/
theorem written (c : Dev nD) (t : Fin cfg0.N) (ht : t.val % 4 = 3) :
    (outsAt0 m c t.val t.isLt).1 = k0_pay3 (outsAt0 m c t.val t.isLt).2 := by
  rw [outsAt0_C m c t (by omega) ht]; frame_out

/-- The result array: every run of four points writes its own block of the reference's array. -/
theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht := (flush0_2 t).mp hf
  blk_simp
  rw [after0_2, written m c t ht]
  pointwise [k0_pay3, REF]
  rw [scratch m c t ht]
  refine Fin.sum_mul_add_congr fun s k hl => ?_
  refine Eq.trans ?_ (swap _ _)
  reads_congr
  all_goals blk_simp [iblk]
  · rw [v0]; blk_ext [idx t, idx ⟨_, Pipeline.run_point_lt_of_flush t ht s⟩]
  · rw [v3]; blk_ext [idx t, idx ⟨_, Pipeline.run_point_lt_of_flush t ht s⟩]

/-- The kernel's array and the reference's are one array. -/
theorem algebraic : @Cert.algebraic_Kernel10Ideal_Reference10Ideal Cert.Kernel10Ideal.Gen.facts Cert.Reference10Ideal.Gen.facts :=
  fun m g m' g' _ hm => ⟨fun c => (dats m 0 c).arrAt 2 cfg0.N, Cert.Kernel10Ideal.Value.run_blocks m g,
    (θ_run Cert.Reference10Ideal.defs _ _).mono
      (fun r h c => ⟨((h c).1.trans (by simp only [(hm c).1, (hm c).2.1, (hm c).2.2])).trans (final m c).symm, (h c).2⟩)
      (Cert.Reference10Ideal.Value.run m' g')⟩

end Cert.Proof.ProjW

end
-- ==== Proof.ModX.lean ====
/- THE GRADIENT OF THE MODULATION (`Kernel11`, `Reference11`): over the extended reals the row kernel and the differentiated
   modulation `x * (1 + scale) + shift`, beside the scaled residual, end with equal arrays. The kernel adds the two row sums
   up over its 32 blocks of 256 rows. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.ModX

section
open Cert.Reference11Ideal Cert.Reference11Ideal.Gen Idealize.ShloMosaic Idealize.ShloMosaic.TcCoe

/-- The reference's terms over the argument arrays. -/
abbrev REFX (x : FVec Ideal S8192x2048 .f32) (w : FVec Ideal S6x2048 .f32) (ds dh : FVec Ideal S8192x2048 .f32) : FVec Ideal S8192x2048 .f32 :=
  addf (mulf (shapeCast _ dh shapeCasts_S8192x2048_S8192x2048) (broadcastInDim S8192x2048 ![0, 1] bcast_S1x2048_S8192x2048_0_1 (addf (broadcastInDim S1x2048 ![] bcast_S_S1x2048 (constant S_ .f32 0x3F800000#32)) (extractStridedSlice S1x2048 ![4, 0] w slices_S6x2048_S1x2048_4_0)))) (mulf (broadcastInDim S8192x2048 ![] bcast_S_S8192x2048 (constant S_ .f32 0x3FD744FD#32)) ds)
abbrev REFC (x : FVec Ideal S8192x2048 .f32) (w : FVec Ideal S6x2048 .f32) (ds dh : FVec Ideal S8192x2048 .f32) : FVec Ideal S1x2048 .f32 :=
  shapeCast _ (Host.reduceAdd (mulf x (shapeCast _ dh shapeCasts_S8192x2048_S8192x2048)) (constant S_ .f32 0x00000000#32) reducesTo_S8192x2048_S2048_d0 h_S_) shapeCasts_S2048_S1x2048
abbrev REFH (x : FVec Ideal S8192x2048 .f32) (w : FVec Ideal S6x2048 .f32) (ds dh : FVec Ideal S8192x2048 .f32) : FVec Ideal S1x2048 .f32 :=
  shapeCast _ (Host.reduceAdd dh (constant S_ .f32 0x00000000#32) reducesTo_S8192x2048_S2048_d0 h_S_) shapeCasts_S2048_S1x2048

end

open Cert.Kernel11Ideal Cert.Kernel11Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] :=
  (by decide +kernel : ∀ t : Fin grid0.N, _)

theorem swap (x y : EReal) : x + y = y + x := add_comm x y
theorem swapm (x y : EReal) : x * y = y * x := mul_comm x y

/-- The rows' result: every point writes its own block of the reference's array. -/
theorem finalX (c : Dev nD) : (dats m 0 c).arrAt 4 cfg0.N
    = REFX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h : t.val % 32 = 0
  · rw [outsAt0_A m c t h h]
    frame_out
    pointwise [k0_pay1, REFX]
    refine Eq.trans ?_ (swap _ _)
    reads_congr
    all_goals blk_ext [iblk, idx t]
  · rw [outsAt0_B m c t h h]
    frame_out
    pointwise [k0_pay1, REFX]
    refine Eq.trans ?_ (swap _ _)
    reads_congr
    all_goals blk_ext [iblk, idx t]

abbrev partC (x0 x1 : FVec Ideal S256x2048 .f32) (j : S1x2048.Idx) : EReal := ∑ k : Fin 256, x0 (ix2 k (j 1)) * x1 (ix2 k (j 1))
abbrev partH (x0 : FVec Ideal S256x2048 .f32) (j : S1x2048.Idx) : EReal := ∑ k : Fin 256, x0 (ix2 k (j 1))
theorem zero2 (j : S1x2048.Idx) : k0_pay2 (F := Ideal) j = 0 := by pointwise [k0_pay2]
theorem zero4 (j : S1x2048.Idx) : k0_pay4 (F := Ideal) j = 0 := by pointwise [k0_pay4]
theorem pay3_at (x0 x1 : FVec Ideal S256x2048 .f32) (acc : FVec Ideal S1x2048 .f32) (j : S1x2048.Idx) :
    k0_pay3 x0 x1 acc j = acc j + partC x0 x1 j := by pointwise [k0_pay3]
theorem pay5_at (x0 : FVec Ideal S256x2048 .f32) (acc : FVec Ideal S1x2048 .f32) (j : S1x2048.Idx) :
    k0_pay5 x0 acc j = acc j + partH x0 j := by pointwise [k0_pay5]

theorem accC (c : Dev nD) (t : Fin cfg0.N) (ht : t.val % 32 = 31) (j : S1x2048.Idx) :
    (outsAt0 m c t.val t.isLt).2.1 j = ∑ s : Fin 32, partC (iblk m c 1 ⟨32 * (t.val / 32) + s.val, Pipeline.run_point_lt_of_flush t ht s⟩)
      (iblk m c 2 ⟨32 * (t.val / 32) + s.val, Pipeline.run_point_lt_of_flush t ht s⟩) j := by
  rw [Pipeline.eq_sum_fin_of_reset_step_apply_of_flush (fun n h => (outsAt0 m c n h).2.1) 32 (fun _ => 0)
    (fun p j => partC (iblk m c 1 p) (iblk m c 2 p) j)
    (fun t h j => by rw [outsAt0_A m c t h h]; frame_out; rw [pay3_at, zero2])
    (fun t h j => by rw [outsAt0_B m c t h h]; frame_out; rw [pay3_at]) t ht j, zero_add]
theorem accH (c : Dev nD) (t : Fin cfg0.N) (ht : t.val % 32 = 31) (j : S1x2048.Idx) :
    (outsAt0 m c t.val t.isLt).2.2 j = ∑ s : Fin 32, partH (iblk m c 1 ⟨32 * (t.val / 32) + s.val, Pipeline.run_point_lt_of_flush t ht s⟩) j := by
  rw [Pipeline.eq_sum_fin_of_reset_step_apply_of_flush (fun n h => (outsAt0 m c n h).2.2) 32 (fun _ => 0)
    (fun p j => partH (iblk m c 1 p) j)
    (fun t h j => by rw [outsAt0_A m c t h h]; frame_out; rw [pay5_at, zero4])
    (fun t h j => by rw [outsAt0_B m c t h h]; frame_out; rw [pay5_at]) t ht j, zero_add]

theorem finalC (c : Dev nD) : (dats m 0 c).arrAt 5 cfg0.N
    = REFC (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht := (flush0_5 t).mp hf
  blk_simp
  rw [after0_5, accC m c t ht]
  pointwise [REFC]
  refine Fin.sum_mul_add_congr fun s k hl => ?_
  refine (swapm _ _).trans ?_
  reads_congr
  all_goals blk_ext [iblk, idx t, idx ⟨_, Pipeline.run_point_lt_of_flush t ht s⟩]
theorem finalH (c : Dev nD) : (dats m 0 c).arrAt 6 cfg0.N
    = REFH (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht := (flush0_6 t).mp hf
  blk_simp
  rw [after0_6, accH m c t ht]
  pointwise [REFH]
  refine Fin.sum_mul_add_congr fun s k hl => ?_
  reads_congr
  all_goals blk_ext [iblk, idx t, idx ⟨_, Pipeline.run_point_lt_of_flush t ht s⟩]

/-- The kernel's arrays and the reference's are the same arrays. -/
theorem algebraic : @Cert.algebraic_Kernel11Ideal_Reference11Ideal Cert.Kernel11Ideal.Gen.facts Cert.Reference11Ideal.Gen.facts :=
  fun m g m' g' _ hm => ⟨fun c => (dats m 0 c).arrAt 4 cfg0.N, fun c => (dats m 0 c).arrAt 5 cfg0.N, fun c => (dats m 0 c).arrAt 6 cfg0.N,
    Cert.Kernel11Ideal.Value.run_blocks m g,
    (θ_run Cert.Reference11Ideal.defs _ _).mono
      (fun r h c => ⟨((h c).1.trans (by simp only [(hm c).1, (hm c).2.1, (hm c).2.2.1, (hm c).2.2.2])).trans (finalX m c).symm,
        ((h c).2.1.trans (by simp only [(hm c).1, (hm c).2.1, (hm c).2.2.1, (hm c).2.2.2]; rfl)).trans (finalC m c).symm,
        ((h c).2.2.1.trans (by simp only [(hm c).1, (hm c).2.1, (hm c).2.2.1, (hm c).2.2.2])).trans (finalH m c).symm, (h c).2.2.2⟩)
      (Cert.Reference11Ideal.Value.run m' g')⟩

end Cert.Proof.ModX

end
-- ==== Proof.Finite.lean ====
/- WHAT A FINITE ARRAY GIVES: the test "every element is less than +inf and greater than -inf", read at the extended reals, says
   that each element is a real; and the literals the row kernels name. -/
module

public import proofs.«01_k».proof.Defs
public import Idealize.ShloMosaic.Lib.Pipeline.ValueKit
public import Idealize.ShloMosaic.Lib.Pointwise
public import Idealize.ShloMosaic.Lib.ReduceAll

@[expose] public section

noncomputable section

namespace Cert.Proof.Finite

open Idealize.ShloMosaic

/-- An extended real between the infinities is a real. -/
theorem of_lt {x : EReal} (h1 : x < ⊤) (h2 : ⊥ < x) : ∃ r : ℝ, x = r :=
  ⟨x.toReal, (EReal.coe_toReal h1.ne h2.ne').symm⟩

theorem bits_top : Ideal.ofBits .f32 0x7F800000#32 = ⊤ := by simp [Ideal.ofBits, Ideal.ieee]
theorem bits_bot : Ideal.ofBits .f32 0xFF800000#32 = ⊥ := by simp [Ideal.ofBits, Ideal.ieee]

/-- One array's test, read. -/
theorem of_test {s t u : Shape} {axes : List (Fin s.rank)} [Subsingleton t.Idx] (x : FVec Ideal s .f32) (p q : FVec Ideal s .f32)
    (hp : ∀ i, p i = (⊤ : EReal)) (hq : ∀ i, q i = (⊥ : EReal)) (v : IVec u 1) (h : s.ReducesTo axes t) (hu : 0 < u.numel) (j : t.Idx)
    (e : Host.reduce IntOp.andi (andi (cmpf .olt x p) (cmpf .ogt x q)) v h hu j = 1#1) (i : s.Idx) : ∃ r : ℝ, x i = (r : EReal) := by
  have hi := Host.reduce_andi_all _ _ _ _ j e i
  obtain ⟨h1, h2⟩ := IntOp.andi_eq_one.1 hi
  have h1' : BitVec.ofBool (decide ((x i : EReal) < p i)) = 1#1 := h1
  have h2' : BitVec.ofBool (decide ((q i : EReal) < x i)) = 1#1 := h2
  rw [hp] at h1'
  rw [hq] at h2'
  refine of_lt ?_ ?_
  · by_contra hn; simp [hn] at h1'
  · by_contra hn; simp [hn] at h2'

theorem bits_half : Ideal.ofBits .f32 0x3F000000#32 = ((1/2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num

end Cert.Proof.Finite

end
-- ==== Proof.Act.lean ====
/- THE GRADIENT THROUGH THE GELU AND THE SKIP (`Kernel12`, `Reference12`): over the extended reals, from finite arrays, the row
   kernel's derivative of the tanh form of gelu, factored, and the differentiated gelu of the problem are one array; the skip's
   gradients follow from it. The kernel adds the row sum up over its 32 blocks of 256 rows. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Pre_finite_act
public import proofs.«01_k».proof.Proof.Finite
public import Idealize.ShloMosaic.Lib.Pipeline.ReadBack

@[expose] public section

set_option maxRecDepth 16384

noncomputable section

namespace Cert.Proof.Act

open Cert.Kernel12Ideal Cert.Kernel12Ideal.Gen Idealize.ShloMosaic Idealize.ShloMosaic.TcCoe Idealize.SL.Sem

/-! ## One element -/

/-- The kernel's literals. -/
theorem cubic : Named.named (F := Ideal) Cert.Kernel12Ideal.κ "cubic" (φ := .f32) 0x3D372713#32 = ((8943 / 200000 : ℝ) : EReal) :=
  IdealRules.named_const.ideal_named_scalar _ _ _ _ rfl
theorem slope : Named.named (F := Ideal) Cert.Kernel12Ideal.κ "slope" (φ := .f32) 0x3E095D4F#32 = ((26829 / 200000 : ℝ) : EReal) :=
  IdealRules.named_const.ideal_named_scalar _ _ _ _ rfl
theorem preserves : Cert.preserves_Kernel12_Kernel12Ideal :=
  ⟨IdealRules.named_const.statement Cert.Kernel12Ideal.κ "cubic" .f32 0x3D372713#32 ((8943 / 200000 : ℝ) : EReal) rfl,
    IdealRules.named_const.statement Cert.Kernel12Ideal.κ "slope" .f32 0x3E095D4F#32 ((26829 / 200000 : ℝ) : EReal) rfl⟩

theorem bits_root : ∃ r : ℝ, Ideal.ofBits .f32 0x3F4C422A#32 = (r : EReal) :=
  ⟨_, by simp [Ideal.ofBits, Ideal.ieee, -EReal.coe_mul]; rfl⟩
theorem bits_num : Ideal.ofBits .f32 0x472EAB00#32 = ((44715 : ℝ) : EReal) := by
  simp [Ideal.ofBits, Ideal.ieee, -EReal.coe_mul]; norm_num
theorem bits_den : Ideal.ofBits .f32 0x49742400#32 = ((1000000 : ℝ) : EReal) := by
  simp [Ideal.ofBits, Ideal.ieee, -EReal.coe_mul]; norm_num

/-- The kernel's element of `dy` at real inputs. -/
theorem kernel_at (v0 v1 v3 : FVec Ideal S256x1024 .f32) (i : S256x1024.Idx) (a b x k : ℝ) (h0 : v0 i = (a : EReal)) (h1 : v1 i = (b : EReal))
    (h3 : v3 i = (x : EReal)) (hk : Ideal.ofBits .f32 0x3F4C422A#32 = (k : EReal)) :
    k0_pay3 (F := Ideal) v0 v1 v3 i = (((a + b) * (1/2 * (1 + Real.tanh (k * (x + 8943 / 200000 * x * x * x)))
      + 1/2 * x * (1 - Real.tanh (k * (x + 8943 / 200000 * x * x * x)) * Real.tanh (k * (x + 8943 / 200000 * x * x * x))) * k
        * (1 + 26829 / 200000 * x * x)) : ℝ) : EReal) := by
  pointwise [k0_pay3]
  simp only [h0, h1, h3, cubic, slope, hk, Finite.bits_half, Finite.bits_one, ← EReal.coe_one, ← EReal.coe_add, ← EReal.coe_mul, ← EReal.coe_sub, Ideal.tanh_coe]

open Cert.Reference12Ideal.Read in
/-- The reference's element of `dy` at real inputs. -/
theorem reference_at (x0 x3 x4 : FVec Ideal S8192x1024 .f32) (i : S8192x1024.Idx) (a b x k : ℝ) (h0 : x3 i = (a : EReal)) (h1 : x4 i = (b : EReal))
    (h3 : x0 i = (x : EReal)) (hk : Ideal.ofBits .f32 0x3F4C422A#32 = (k : EReal)) :
    val_main_v36 (F := Ideal) x0 x3 x4 i = (((a + b) * (1/2 * (1 + Real.tanh (k * (x + 8943 / 200000 * x * x * x)))
      + 1/2 * x * (1 - Real.tanh (k * (x + 8943 / 200000 * x * x * x)) * Real.tanh (k * (x + 8943 / 200000 * x * x * x))) * k
        * (1 + 26829 / 200000 * x * x)) : ℝ) : EReal) := by
  simp only [val_main_cst_apply, val_main_cst_0_apply, val_main_v0_apply, val_main_cst_1_apply, val_main_v1_apply, val_main_v2_apply,
    val_main_v3_apply, val_main_v4_apply, val_main_v5_apply, val_main_v6_apply, val_main_v7_apply, val_main_cst_2_apply,
    val_main_v8_apply, val_main_v9_apply, val_main_v10_apply, val_main_cst_3_apply, val_main_v11_apply, val_main_v12_apply,
    val_main_cst_4_apply, val_main_v13_apply, val_main_v14_apply, val_main_v15_apply, val_main_cst_5_apply, val_main_v16_apply,
    val_main_v17_apply, val_main_v18_apply, val_main_v19_apply, val_main_v20_apply, val_main_v21_apply, val_main_v22_apply,
    val_main_cst_6_apply, val_main_v23_apply, val_main_v24_apply, val_main_v25_apply, val_main_v26_apply, val_main_v27_apply,
    val_main_v28_apply, val_main_v29_apply, val_main_v30_apply, val_main_v31_apply, val_main_v32_apply, val_main_v33_apply,
    val_main_cst_7_apply, val_main_v34_apply, val_main_v35_apply, val_main_v36_apply, val_main_cst_8_apply,
    Ideal.addf_def, Ideal.mulf_def, Ideal.subf_def, Ideal.hostDivf_def, Ideal.hostUnary_tanh_def, Ideal.ofBits_def, h0, h1, h3, hk, bits_num, bits_den,
    Finite.bits_half, Finite.bits_one, Ideal.div_coe (show (1000000 : ℝ) ≠ 0 by norm_num), ← EReal.coe_add, ← EReal.coe_mul, ← EReal.coe_sub, Ideal.tanh_coe]
  refine congrArg _ ?_
  have e : k * (x + 44715 * (1 / 1000000) * (x * x * x)) = k * (x + 8943 / 200000 * x * x * x) := by ring
  rw [e]
  ring

/-- So the two elements agree where the inputs do, at finite inputs. -/
theorem dy_eq (x0 x3 x4 : FVec Ideal S8192x1024 .f32) (f0 : ∀ i, ∃ r : ℝ, x0 i = (r : EReal)) (f3 : ∀ i, ∃ r : ℝ, x3 i = (r : EReal))
    (f4 : ∀ i, ∃ r : ℝ, x4 i = (r : EReal)) (v0 v1 v3 : FVec Ideal S256x1024 .f32) (y : S256x1024.Idx) (i : S8192x1024.Idx)
    (e0 : v0 y = x3 i) (e1 : v1 y = x4 i) (e3 : v3 y = x0 i) :
    k0_pay3 (F := Ideal) v0 v1 v3 y = Cert.Reference12Ideal.Read.val_main_v36 (F := Ideal) x0 x3 x4 i := by
  obtain ⟨x, hx⟩ := f0 i
  obtain ⟨a, ha⟩ := f3 i
  obtain ⟨b, hb⟩ := f4 i
  obtain ⟨k, hk⟩ := bits_root
  rw [reference_at x0 x3 x4 i a b x k ha hb hx hk]
  exact kernel_at v0 v1 v3 y a b x k (e0.trans ha) (e1.trans hb) (e3.trans hx) hk

/-! ## The arrays -/

variable (m : (ℓ : Loc nD τ sig) → Buf (Elt Ideal) ℓ)

abbrev A0 (c : Dev nD) : FVec Ideal S8192x1024 .f32 := m ((c : Thread nD τ).loc main_arg0)
abbrev A1 (c : Dev nD) : FVec Ideal S8192x1024 .f32 := m ((c : Thread nD τ).loc main_arg1)
abbrev A2 (c : Dev nD) : FVec Ideal S1x1024 .f32 := m ((c : Thread nD τ).loc main_arg2)
abbrev A3 (c : Dev nD) : FVec Ideal S8192x1024 .f32 := m ((c : Thread nD τ).loc main_arg3)
abbrev A4 (c : Dev nD) : FVec Ideal S8192x1024 .f32 := m ((c : Thread nD τ).loc main_arg4)

/-- The arrays the derivative reads are finite. -/
def Fin3 (c : Dev nD) : Prop := (∀ i, ∃ r : ℝ, A0 m c i = (r : EReal)) ∧ (∀ i, ∃ r : ℝ, A3 m c i = (r : EReal)) ∧ ∀ i, ∃ r : ℝ, A4 m c i = (r : EReal)

theorem fin3 (h : @Cert.Pre_Kernel12Ideal_finite_act Cert.Pre_finite_act.Gen.facts m) (c : Dev nD) : Fin3 m c := by
  have e := congrFun (h c) (fun a => a.elim0)
  have e' := IntOp.andi_eq_one.1 e
  have e'' := IntOp.andi_eq_one.1 e'.1
  have : Subsingleton Cert.Pre_finite_act.S_.Idx := ⟨fun a b => funext fun k => k.elim0⟩
  exact ⟨Finite.of_test _ _ _ (fun _ => Finite.bits_top) (fun _ => Finite.bits_bot) _ _ _ _ e''.1,
    Finite.of_test _ _ _ (fun _ => Finite.bits_top) (fun _ => Finite.bits_bot) _ _ _ _ e''.2,
    Finite.of_test _ _ _ (fun _ => Finite.bits_top) (fun _ => Finite.bits_bot) _ _ _ _ e'.2⟩

/-- Each window's block index at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

theorem swapm (x y : EReal) : x * y = y * x := mul_comm x y

/-- `dy`: every point writes its own block of the reference's array. -/
theorem finalY (c : Dev nD) (hf : Fin3 m c) : (dats m 0 c).arrAt 5 cfg0.N
    = Cert.Reference12Ideal.Read.val_main_v36 (F := Ideal) (A0 m c) (A3 m c) (A4 m c) := by
  refine (dats m 0 c).arrAt_eq_of_covers 5 _ (by decide +kernel) fun t _ y => ?_
  blk_simp
  rw [after0_5]
  by_cases h : t.val % 32 = 0
  · rw [outsAt0_A m c t h]
    frame_out
    refine dy_eq _ _ _ hf.1 hf.2.1 hf.2.2 _ _ _ _ _ ?_ ?_ ?_
    all_goals blk_ext [iblk, idx t]
  · rw [outsAt0_B m c t h]
    frame_out
    refine dy_eq _ _ _ hf.1 hf.2.1 hf.2.2 _ _ _ _ _ ?_ ?_ ?_
    all_goals blk_ext [iblk, idx t]

/-- The skip's gradient on `u`. -/
theorem finalU (c : Dev nD) (hf : Fin3 m c) : (dats m 0 c).arrAt 6 cfg0.N
    = Cert.Reference12Ideal.Read.val_main_v43 (F := Ideal) (A0 m c) (A2 m c) (A3 m c) (A4 m c) := by
  refine (dats m 0 c).arrAt_eq_of_covers 6 _ (by decide +kernel) fun t _ y => ?_
  blk_simp
  rw [after0_6]
  by_cases h : t.val % 32 = 0
  · rw [outsAt0_A m c t h]
    frame_out
    pointwise [k0_pay4, Cert.Reference12Ideal.Read.val_main_v43_apply, Cert.Reference12Ideal.Read.val_main_v42_apply]
    refine congrArg₂ (fun a b : EReal => a * b) (dy_eq _ _ _ hf.1 hf.2.1 hf.2.2 _ _ _ _ _ ?_ ?_ ?_) ?_
    all_goals blk_ext [iblk, idx t]
  · rw [outsAt0_B m c t h]
    frame_out
    pointwise [k0_pay4, Cert.Reference12Ideal.Read.val_main_v43_apply, Cert.Reference12Ideal.Read.val_main_v42_apply]
    refine congrArg₂ (fun a b : EReal => a * b) (dy_eq _ _ _ hf.1 hf.2.1 hf.2.2 _ _ _ _ _ ?_ ?_ ?_) ?_
    all_goals blk_ext [iblk, idx t]

abbrev part (v0 v1 v3 u : FVec Ideal S256x1024 .f32) (j : S1x1024.Idx) : EReal :=
  ∑ k : Fin 256, k0_pay3 (F := Ideal) v0 v1 v3 (ix2 k (j 1)) * u (ix2 k (j 1))
theorem zero1 (j : S1x1024.Idx) : k0_pay1 (F := Ideal) j = 0 := by pointwise [k0_pay1]
theorem pay2_at (v31 u : FVec Ideal S256x1024 .f32) (acc : FVec Ideal S1x1024 .f32) (j : S1x1024.Idx) :
    k0_pay2 v31 u acc j = acc j + ∑ k : Fin 256, v31 (ix2 k (j 1)) * u (ix2 k (j 1)) := by pointwise [k0_pay2]

theorem acc (c : Dev nD) (t : Fin cfg0.N) (ht : t.val % 32 = 31) (j : S1x1024.Idx) :
    (outsAt0 m c t.val t.isLt).2.2 j = ∑ s : Fin 32, part (iblk m c 0 ⟨32 * (t.val / 32) + s.val, Pipeline.run_point_lt_of_flush t ht s⟩)
      (iblk m c 1 ⟨32 * (t.val / 32) + s.val, Pipeline.run_point_lt_of_flush t ht s⟩)
      (iblk m c 2 ⟨32 * (t.val / 32) + s.val, Pipeline.run_point_lt_of_flush t ht s⟩)
      (iblk m c 3 ⟨32 * (t.val / 32) + s.val, Pipeline.run_point_lt_of_flush t ht s⟩) j := by
  rw [Pipeline.eq_sum_fin_of_reset_step_apply_of_flush (fun n h => (outsAt0 m c n h).2.2) 32 (fun _ => 0)
    (fun p j => part (iblk m c 0 p) (iblk m c 1 p) (iblk m c 2 p) (iblk m c 3 p) j)
    (fun t h j => by rw [outsAt0_A m c t h]; frame_out; rw [pay2_at, zero1])
    (fun t h j => by rw [outsAt0_B m c t h]; frame_out; rw [pay2_at]) t ht j, zero_add]

/-- The skip's gradient on `d`. -/
theorem finalD (c : Dev nD) (hf : Fin3 m c) : (dats m 0 c).arrAt 7 cfg0.N
    = Cert.Reference12Ideal.Read.val_main_v41 (F := Ideal) (A0 m c) (A1 m c) (A3 m c) (A4 m c) := by
  refine (dats m 0 c).arrAt_eq_of_covers 7 _ (by decide +kernel) fun t hfl y => ?_
  have ht := (flush0_7 t).mp hfl
  blk_simp
  rw [after0_7, acc m c t ht]
  rw [Cert.Reference12Ideal.Read.val_main_v41_apply, Cert.Reference12Ideal.Read.val_main_v40_apply]
  simp only [Cert.Reference12Ideal.Read.val_main_v39_apply, Cert.Reference12Ideal.Read.val_main_cst_8_apply, Ideal.mulf_def]
  pointwise []
  refine Fin.sum_mul_add_congr fun s k hl => ?_
  refine (swapm _ _).trans ?_
  refine congrArg₂ (fun a b : EReal => a * b) ?_ (dy_eq _ _ _ hf.1 hf.2.1 hf.2.2 _ _ _ _ _ ?_ ?_ ?_)
  all_goals blk_ext [iblk, idx t, idx ⟨_, Pipeline.run_point_lt_of_flush t ht s⟩]

/-- The kernel's arrays and the reference's are the same arrays. -/
theorem algebraic : @Cert.algebraic_Kernel12Ideal_Reference12Ideal_pre_finite_act Cert.Kernel12Ideal.Gen.facts Cert.Reference12Ideal.Gen.facts
    Cert.Pre_finite_act.Gen.facts :=
  fun m g m' g' hp hm => ⟨fun c => (dats m 0 c).arrAt 5 cfg0.N, fun c => (dats m 0 c).arrAt 6 cfg0.N, fun c => (dats m 0 c).arrAt 7 cfg0.N,
    Cert.Kernel12Ideal.Value.run_blocks m g,
    (θ_run Cert.Reference12Ideal.defs _ _).mono
      (fun r h c => ⟨((h c).1.trans ((Cert.Reference12Ideal.Read.val_main_v36_eq m' c).trans (by simp only [(hm c).1, (hm c).2.1, (hm c).2.2.1, (hm c).2.2.2.1, (hm c).2.2.2.2]))).trans (finalY m c (fin3 m hp c)).symm,
        ((h c).2.1.trans ((Cert.Reference12Ideal.Read.val_main_v43_eq m' c).trans (by simp only [(hm c).1, (hm c).2.1, (hm c).2.2.1, (hm c).2.2.2.1, (hm c).2.2.2.2]))).trans (finalU m c (fin3 m hp c)).symm,
        ((h c).2.2.1.trans ((Cert.Reference12Ideal.Read.val_main_v41_eq m' c).trans (by simp only [(hm c).1, (hm c).2.1, (hm c).2.2.1, (hm c).2.2.2.1, (hm c).2.2.2.2]))).trans (finalD m c (fin3 m hp c)).symm,
        (h c).2.2.2⟩)
      (Cert.Reference12Ideal.Value.run m' g')⟩

end Cert.Proof.Act

end
-- ==== Proof.Merge.lean ====
/- THE GRADIENT OF THE MERGE (`Kernel13`, `Reference13`): over the extended reals, from finite arrays, the row kernel's closed form
   of the two RMS norms' gradients, of the gate's sigmoid and of its bias, and the differentiated forward pass of the problem are one
   array each. The kernel adds the three row sums up over its 32 blocks of 256 rows. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Pre_finite_merge
public import proofs.«01_k».proof.Proof.Finite
public import Idealize.ShloMosaic.Lib.Pipeline.ReadBack

@[expose] public section

set_option maxRecDepth 16384

noncomputable section

namespace Cert.Proof.Merge

open Cert.Kernel13Ideal Cert.Kernel13Ideal.Gen Idealize.ShloMosaic Idealize.ShloMosaic.TcCoe Idealize.SL.Sem

/-! ## One row, in the reals -/

theorem coe_sum {n : ℕ} (f : Fin n → ℝ) : (∑ k, ((f k : ℝ) : EReal)) = ((∑ k, f k : ℝ) : EReal) := by
  induction (Finset.univ : Finset (Fin n)) using Finset.induction_on with
  | empty => simp
  | insert a s h ih => rw [Finset.sum_insert h, Finset.sum_insert h, ih, EReal.coe_add]

abbrev ep : ℝ := 10995116 / 2 ^ 40
theorem bits_ep : Ideal.ofBits .f32 0x3727C5AC#32 = ((ep : ℝ) : EReal) := by
  simp [Ideal.ofBits, Ideal.ieee, -EReal.coe_mul, ep]; norm_num
theorem bits_n : Ideal.ofBits .f32 0x44800000#32 = ((1024 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_mhalf : Ideal.ofBits .f32 0xBF000000#32 = ((-(1/2) : ℝ) : EReal) := by
  simp [Ideal.ofBits, Ideal.ieee, -EReal.coe_mul, -EReal.coe_neg]; norm_num
theorem bits_zero : Ideal.ofBits .f32 0x00000000#32 = 0 := Ideal.ofBits_zero_f32
theorem n_ne : (1024 : ℝ) ≠ 0 := by norm_num

abbrev Row := Fin 1024 → ℝ
def Q (x : Row) : ℝ := (∑ j, x j * x j) * (1 / 1024) + ep
def R (x : Row) : ℝ := (√(Q x))⁻¹
def DX (x y : Row) : Row := fun k => y k * R x - x k * (R x * R x * R x) * ((∑ j, y j * x j) * (1 / 1024))
def Sg (x : ℝ) : ℝ := 1 * (1 / (1 + Real.exp (-x)))
def U (g z b : Row) : Row := fun k => g k * Sg (z k + b k)
def Y (w t : Row) : Row := fun k => w k * t k

theorem Q_pos (x : Row) : 0 < Q x :=
  add_pos_of_nonneg_of_pos (mul_nonneg (Finset.sum_nonneg fun _ _ => mul_self_nonneg _) (by norm_num)) (by norm_num)
theorem rsqrt_Q (x : Row) : Ideal.rsqrt ((Q x : ℝ) : EReal) = ((R x : ℝ) : EReal) := by
  rw [Ideal.rsqrt_coe, if_neg (Q_pos x).le.not_gt, if_neg (Q_pos x).ne']; rfl
theorem R_sq (x : Row) : R x * R x = 1 / Q x := by
  unfold R; rw [← mul_inv, Real.mul_self_sqrt (Q_pos x).le, one_div]
theorem sg_ne (x : ℝ) : 1 + Real.exp (-x) ≠ 0 := (add_pos one_pos (Real.exp_pos _)).ne'

/-- The differentiated norm's spelling of the same row. -/
theorem DX_eq (x y : Row) (k : Fin 1024) :
    y k * R x + (∑ j, x j * y j) * (-(1/2) * (R x * (1 / Q x))) * (1 / 1024) * (2 * x k) = DX x y k := by
  have e : (∑ j, y j * x j) = ∑ j, x j * y j := Finset.sum_congr rfl fun j _ => mul_comm _ _
  rw [DX, e, ← R_sq]
  ring

/-! ## The kernel's row -/

section
variable (v0 : FVec Ideal S256x1024 .f32) (v1 : FVec Ideal S1x1024 .f32) (v2 : FVec Ideal S256x1024 .f32) (p : Fin 256) (x w t : Row)
  (h0 : ∀ k, v0 (ix2 p k) = (x k : EReal)) (h1 : ∀ k, v1 (ix2 0 k) = (w k : EReal)) (h2 : ∀ k, v2 (ix2 p k) = (t k : EReal))
include h0

theorem pay9 : k0_pay9 (F := Ideal) v0 (ix2 p 0) = ((R x : ℝ) : EReal) := by
  pointwise [k0_pay9]
  simp only [h0, bits_ep, bits_n, ← EReal.coe_add, ← EReal.coe_mul, coe_sum, Ideal.div_coe n_ne]
  exact rsqrt_Q _

include h1 h2
theorem pay10 (k : Fin 1024) : k0_pay10 (F := Ideal) v0 v1 v2 (ix2 p k) = ((DX x (Y w t) k : ℝ) : EReal) := by
  pointwise [k0_pay10]
  simp only [h0, h1, h2, pay9 v0 p x h0, bits_n, ← EReal.coe_mul, ← EReal.coe_sub, coe_sum, Ideal.div_coe n_ne]
  rfl

end

section
variable (v40 v41 : FVec Ideal S256x1024 .f32) (v42 v53 : FVec Ideal S1x1024 .f32) (v54 : FVec Ideal S256x1024 .f32) (p : Fin 256) (g z b w t : Row)
  (h40 : ∀ k, v40 (ix2 p k) = (g k : EReal)) (h41 : ∀ k, v41 (ix2 p k) = (z k : EReal)) (h42 : ∀ k, v42 (ix2 0 k) = (b k : EReal))
  (h53 : ∀ k, v53 (ix2 0 k) = (w k : EReal)) (h54 : ∀ k, v54 (ix2 p k) = (t k : EReal))

include h41 h42
theorem pay13 (k : Fin 1024) : k0_pay13 (F := Ideal) v41 v42 (ix2 p k) = ((Sg (z k + b k) : ℝ) : EReal) := by
  pointwise [k0_pay13]
  simp only [h41, h42, Finite.bits_one, zero_sub, ← EReal.coe_one, ← EReal.coe_add, ← EReal.coe_neg, Ideal.exp_coe, Ideal.div_coe (sg_ne _), ← EReal.coe_mul]
  rfl
include h40
theorem pay14 (k : Fin 1024) : k0_pay14 (F := Ideal) v40 v41 v42 (ix2 p k) = ((U g z b k : ℝ) : EReal) := by
  pointwise [k0_pay14]
  rw [h40, pay13 v41 v42 p z b h41 h42, ← EReal.coe_mul]
  rfl
theorem pay15 : k0_pay15 (F := Ideal) v40 v41 v42 (ix2 p 0) = ((R (U g z b) : ℝ) : EReal) := by
  pointwise [k0_pay15]
  simp only [pay14 v40 v41 v42 p g z b h40 h41 h42, bits_ep, bits_n, ← EReal.coe_add, ← EReal.coe_mul, coe_sum, Ideal.div_coe n_ne]
  exact rsqrt_Q _
include h53 h54
omit h40 h41 h42 in
theorem pay16 (k : Fin 1024) : k0_pay16 (F := Ideal) v53 v54 (ix2 p k) = ((Y w t k : ℝ) : EReal) := by
  pointwise [k0_pay16]
  rw [h53, h54, ← EReal.coe_mul]
  rfl
theorem pay1 (k : Fin 1024) : k0_pay1 (F := Ideal) (k0_pay17 v40 v41 v42 v53 v54) (k0_pay18 v40 v41 v42 v53 v54) (ix2 p k)
    = ((DX (U g z b) (Y w t) k : ℝ) : EReal) := by
  pointwise [k0_pay1, k0_pay17, k0_pay18]
  simp only [pay14 v40 v41 v42 p g z b h40 h41 h42, pay15 v40 v41 v42 p g z b h40 h41 h42, pay16 v53 v54 p w t h53 h54, bits_n,
    ← EReal.coe_mul, ← EReal.coe_sub, coe_sum, Ideal.div_coe n_ne]
  rfl
theorem pay4 (k : Fin 1024) : k0_pay4 (F := Ideal) (k0_pay13 v41 v42) (k0_pay17 v40 v41 v42 v53 v54) (k0_pay18 v40 v41 v42 v53 v54) (ix2 p k)
    = ((DX (U g z b) (Y w t) k * Sg (z k + b k) : ℝ) : EReal) := by
  pointwise [k0_pay4]
  rw [pay1 v40 v41 v42 v53 v54 p g z b w t h40 h41 h42 h53 h54, pay13 v41 v42 p z b h41 h42, ← EReal.coe_mul]
theorem pay5 (k : Fin 1024) : k0_pay5 (F := Ideal) v40 (k0_pay13 v41 v42) (k0_pay17 v40 v41 v42 v53 v54) (k0_pay18 v40 v41 v42 v53 v54) (ix2 p k)
    = ((g k * DX (U g z b) (Y w t) k * (Sg (z k + b k) * (1 - Sg (z k + b k))) : ℝ) : EReal) := by
  pointwise [k0_pay5]
  simp only [h40, pay1 v40 v41 v42 v53 v54 p g z b w t h40 h41 h42 h53 h54, pay13 v41 v42 p z b h41 h42, Finite.bits_one, ← EReal.coe_one, ← EReal.coe_mul, ← EReal.coe_sub]
  exact congrArg _ (by ring)

end

/-! ## The reference's row -/

section
open Cert.Reference13Ideal.Read
variable (x0 : FVec Ideal S8192x1024 .f32) (x4 : FVec Ideal S1x1024 .f32) (x6 : FVec Ideal S8192x2048 .f32) (q : Fin 8192) (x w t : Row)
  (h0 : ∀ i : S8192x1024.Idx, i 0 = q → x0 i = (x (i 1) : EReal)) (hw : ∀ i : S1x1024.Idx, x4 i = (w (i 1) : EReal))
  (hd : ∀ i : S8192x1024.Idx, i 0 = q → val_main_v47 (F := Ideal) x6 i = (t (i 1) : EReal))
include h0

theorem raq (i : Cert.Reference13Ideal.S8192x1.Idx) (hi : i 0 = q) : val_main_v8 (F := Ideal) x0 i = ((Q x : ℝ) : EReal) := by
  have e : ∀ k, x0 (idx_main_v3 (idx_main_v4 i) k) = ((x k : ℝ) : EReal) := fun k => h0 _ hi
  simp only [val_main_v8_apply, val_main_v7_apply, val_main_cst_2_apply, val_main_v6_apply, val_main_v5_apply, val_main_cst_1_apply, val_main_v4_apply, val_main_v3_apply, val_main_cst_0_apply, val_main_v0_apply, e, Ideal.addf_def, Ideal.mulf_def,
    Ideal.hostDivf_def, Ideal.ofBits_def, bits_n, bits_ep, bits_zero, zero_add, ← EReal.coe_mul, coe_sum, Ideal.div_coe n_ne, ← EReal.coe_add]
  rfl
theorem rar (i : Cert.Reference13Ideal.S8192x1.Idx) (hi : i 0 = q) : val_main_v9 (F := Ideal) x0 i = ((R x : ℝ) : EReal) := by
  rw [val_main_v9_apply, raq x0 q x h0 i hi, Ideal.hostUnary_rsqrt_def, rsqrt_Q]
theorem rah (i : Cert.Reference13Ideal.S8192x1.Idx) (hi : i 0 = q) : val_main_v12 (F := Ideal) x0 i = ((-(1/2) * (R x * (1 / Q x)) : ℝ) : EReal) := by
  rw [val_main_v12_apply, val_main_v11_apply, val_main_cst_3_apply, val_main_v10_apply, raq x0 q x h0 i hi, rar x0 q x h0 i hi,
    Ideal.mulf_def, Ideal.hostDivf_def, Ideal.ofBits_def, bits_mhalf, Ideal.div_coe (Q_pos _).ne', ← EReal.coe_mul, ← EReal.coe_mul]
/-- The normalized row. -/
theorem raxr (i : S8192x1024.Idx) (hi : i 0 = q) : val_main_v14 (F := Ideal) x0 i = ((x (i 1) * R x : ℝ) : EReal) := by
  rw [val_main_v14_apply, val_main_v13_apply, rar x0 q x h0 _ hi, h0 _ hi, Ideal.mulf_def, ← EReal.coe_mul]

include hw hd
omit h0 in
theorem ray (i : S8192x1024.Idx) (hi : i 0 = q) : val_main_v75 (F := Ideal) x4 x6 i = ((Y w t (i 1) : ℝ) : EReal) := by
  rw [val_main_v75_apply, hd i hi, val_main_v74_apply, hw, Ideal.mulf_def, ← EReal.coe_mul, mul_comm]
  rfl
theorem ras (i : Cert.Reference13Ideal.S8192x1.Idx) (hi : i 0 = q) : val_main_v78 (F := Ideal) x0 x4 x6 i = ((∑ j, x j * Y w t j : ℝ) : EReal) := by
  have hi' : (idx_main_v78 i) 0 = q := by
    rw [← hi]; have h1 : (i 1).val < 1 := (i 1).isLt; exact Fin.ext (by show (i 0).val * 1 + (i 1).val = (i 0).val; omega)
  have e : ∀ k, val_main_v76 (F := Ideal) x0 x4 x6 (idx_main_v77 (idx_main_v78 i) k) = ((x k * Y w t k : ℝ) : EReal) := fun k => by
    rw [val_main_v76_apply, h0 _ hi', ray x4 x6 q w t hw hd _ hi', Ideal.mulf_def, ← EReal.coe_mul]
    rfl
  simp only [val_main_v78_apply, val_main_v77_apply, val_main_cst_18_apply, e, Ideal.ofBits_def, bits_zero, zero_add, coe_sum]
theorem rac (i : Cert.Reference13Ideal.S8192x1.Idx) (hi : i 0 = q) : val_main_v83 (F := Ideal) x0 x4 x6 i
    = (((∑ j, x j * Y w t j) * (-(1/2) * (R x * (1 / Q x))) * (1 / 1024) : ℝ) : EReal) := by
  rw [val_main_v83_apply, val_main_v82_apply, val_main_cst_19_apply, val_main_v81_apply, ras x0 x4 x6 q x w t h0 hw hd i hi, rah x0 q x h0 i hi,
    Ideal.mulf_def, Ideal.hostDivf_def, Ideal.ofBits_def, bits_n, Ideal.div_coe n_ne, ← EReal.coe_mul, ← EReal.coe_mul]
theorem radx (i : S8192x1024.Idx) (hi : i 0 = q) : val_main_v87 (F := Ideal) x0 x4 x6 i = ((DX x (Y w t) (i 1) : ℝ) : EReal) := by
  have e : ∀ k, val_main_v83 (F := Ideal) x0 x4 x6 (idx_main_v84 (idx_main_v85 i) k)
      = (((∑ j, x j * Y w t j) * (-(1/2) * (R x * (1 / Q x))) * (1 / 1024) : ℝ) : EReal) := fun k => rac x0 x4 x6 q x w t h0 hw hd _ hi
  simp only [val_main_v87_apply, val_main_v86_apply, val_main_v85_apply, val_main_v84_apply, val_main_cst_20_apply, val_main_v2_apply, val_main_v1_apply, val_main_cst_apply, val_main_v80_apply, val_main_v79_apply, ray x4 x6 q w t hw hd i hi,
    rar x0 q x h0 _ (show (idx_main_v79 i) 0 = q from hi), h0 _ hi, e, Ideal.addf_def, Ideal.mulf_def,
    Ideal.ofBits_def, bits_zero, bits_two, zero_add, Fin.sum_univ_one, ← EReal.coe_add, ← EReal.coe_mul]
  exact congrArg _ (DX_eq x (Y w t) (i 1))
theorem ran (i : S8192x1024.Idx) (hi : i 0 = q) : val_main_v14 (F := Ideal) x0 i * val_main_v47 (F := Ideal) x6 i = ((x (i 1) * R x * t (i 1) : ℝ) : EReal) := by
  rw [raxr x0 q x h0 i hi, hd i hi, ← EReal.coe_mul]

end

section
open Cert.Reference13Ideal.Read
variable (x1 x2 : FVec Ideal S8192x1024 .f32) (x3 x5 : FVec Ideal S1x1024 .f32) (x6 : FVec Ideal S8192x2048 .f32) (q : Fin 8192) (g z b w t : Row)
  (h1 : ∀ i : S8192x1024.Idx, i 0 = q → x1 i = (g (i 1) : EReal)) (h2 : ∀ i : S8192x1024.Idx, i 0 = q → x2 i = (z (i 1) : EReal))
  (h3 : ∀ i : S1x1024.Idx, x3 i = (b (i 1) : EReal)) (hw : ∀ i : S1x1024.Idx, x5 i = (w (i 1) : EReal))
  (hd : ∀ i : S8192x1024.Idx, i 0 = q → val_main_v48 (F := Ideal) x6 i = (t (i 1) : EReal))
include h2 h3

theorem bsg (i : S8192x1024.Idx) (hi : i 0 = q) : val_main_v24 (F := Ideal) x2 x3 i = ((Sg (z (i 1) + b (i 1)) : ℝ) : EReal) := by
  have e : x3 (idx_main_v17 i) = (b (i 1) : EReal) := h3 _
  simp only [val_main_v24_apply, val_main_v23_apply, val_main_cst_5_apply, val_main_v22_apply, val_main_v21_apply, val_main_cst_4_apply, val_main_v20_apply,
    val_main_v19_apply, val_main_v18_apply, val_main_v17_apply, e, h2 i hi, Ideal.addf_def, Ideal.hostDivf_def, Ideal.hostNegf_def, Ideal.negf_def,
    Ideal.hostUnary_exp_def, Ideal.ofBits_def, Finite.bits_one, ← EReal.coe_one, ← EReal.coe_add, ← EReal.coe_neg, Ideal.exp_coe, Ideal.div_coe (sg_ne _), ← EReal.coe_mul]
  rfl
theorem bs1 (i : S8192x1024.Idx) (hi : i 0 = q) : val_main_v27 (F := Ideal) x2 x3 i = ((Sg (z (i 1) + b (i 1)) * (1 - Sg (z (i 1) + b (i 1))) : ℝ) : EReal) := by
  simp only [val_main_v27_apply, val_main_v26_apply, val_main_v25_apply, val_main_cst_6_apply, bsg x2 x3 q z b h2 h3 i hi, Ideal.mulf_def, Ideal.subf_def,
    Ideal.ofBits_def, Finite.bits_one, ← EReal.coe_one, ← EReal.coe_mul, ← EReal.coe_sub]
include h1
theorem bu (i : S8192x1024.Idx) (hi : i 0 = q) : val_main_v28 (F := Ideal) x1 x2 x3 i = ((U g z b (i 1) : ℝ) : EReal) := by
  rw [val_main_v28_apply, bsg x2 x3 q z b h2 h3 i hi, h1 i hi, Ideal.mulf_def, ← EReal.coe_mul]
  rfl

theorem rbq (i : Cert.Reference13Ideal.S8192x1.Idx) (hi : i 0 = q) : val_main_v37 (F := Ideal) x1 x2 x3 i = ((Q (U g z b) : ℝ) : EReal) := by
  have e : ∀ k, val_main_v28 (F := Ideal) x1 x2 x3 (idx_main_v32 (idx_main_v33 i) k) = (((U g z b) k : ℝ) : EReal) := fun k => bu x1 x2 x3 q g z b h1 h2 h3 _ hi
  simp only [val_main_v37_apply, val_main_v36_apply, val_main_cst_10_apply, val_main_v35_apply, val_main_v34_apply, val_main_cst_9_apply, val_main_v33_apply, val_main_v32_apply, val_main_cst_8_apply, val_main_v29_apply, e, Ideal.addf_def, Ideal.mulf_def,
    Ideal.hostDivf_def, Ideal.ofBits_def, bits_n, bits_ep, bits_zero, zero_add, ← EReal.coe_mul, coe_sum, Ideal.div_coe n_ne, ← EReal.coe_add]
  rfl
theorem rbr (i : Cert.Reference13Ideal.S8192x1.Idx) (hi : i 0 = q) : val_main_v38 (F := Ideal) x1 x2 x3 i = ((R (U g z b) : ℝ) : EReal) := by
  rw [val_main_v38_apply, rbq x1 x2 x3 q g z b h1 h2 h3 i hi, Ideal.hostUnary_rsqrt_def, rsqrt_Q]
theorem rbh (i : Cert.Reference13Ideal.S8192x1.Idx) (hi : i 0 = q) : val_main_v41 (F := Ideal) x1 x2 x3 i = ((-(1/2) * (R (U g z b) * (1 / Q (U g z b))) : ℝ) : EReal) := by
  rw [val_main_v41_apply, val_main_v40_apply, val_main_cst_11_apply, val_main_v39_apply, rbq x1 x2 x3 q g z b h1 h2 h3 i hi, rbr x1 x2 x3 q g z b h1 h2 h3 i hi,
    Ideal.mulf_def, Ideal.hostDivf_def, Ideal.ofBits_def, bits_mhalf, Ideal.div_coe (Q_pos _).ne', ← EReal.coe_mul, ← EReal.coe_mul]
/-- The normalized row. -/
theorem rbxr (i : S8192x1024.Idx) (hi : i 0 = q) : val_main_v43 (F := Ideal) x1 x2 x3 i = (((U g z b) (i 1) * R (U g z b) : ℝ) : EReal) := by
  rw [val_main_v43_apply, val_main_v42_apply, rbr x1 x2 x3 q g z b h1 h2 h3 _ hi, bu x1 x2 x3 q g z b h1 h2 h3 _ hi, Ideal.mulf_def, ← EReal.coe_mul]

include hw hd
omit h1 h2 h3 in
theorem rby (i : S8192x1024.Idx) (hi : i 0 = q) : val_main_v53 (F := Ideal) x5 x6 i = ((Y w t (i 1) : ℝ) : EReal) := by
  rw [val_main_v53_apply, hd i hi, val_main_v52_apply, hw, Ideal.mulf_def, ← EReal.coe_mul, mul_comm]
  rfl
theorem rbs (i : Cert.Reference13Ideal.S8192x1.Idx) (hi : i 0 = q) : val_main_v56 (F := Ideal) x1 x2 x3 x5 x6 i = ((∑ j, (U g z b) j * Y w t j : ℝ) : EReal) := by
  have hi' : (idx_main_v56 i) 0 = q := by
    rw [← hi]; have h1 : (i 1).val < 1 := (i 1).isLt; exact Fin.ext (by show (i 0).val * 1 + (i 1).val = (i 0).val; omega)
  have e : ∀ k, val_main_v54 (F := Ideal) x1 x2 x3 x5 x6 (idx_main_v55 (idx_main_v56 i) k) = (((U g z b) k * Y w t k : ℝ) : EReal) := fun k => by
    rw [val_main_v54_apply, bu x1 x2 x3 q g z b h1 h2 h3 _ hi', rby x5 x6 q w t hw hd _ hi', Ideal.mulf_def, ← EReal.coe_mul]
    rfl
  simp only [val_main_v56_apply, val_main_v55_apply, val_main_cst_13_apply, e, Ideal.ofBits_def, bits_zero, zero_add, coe_sum]
theorem rbc (i : Cert.Reference13Ideal.S8192x1.Idx) (hi : i 0 = q) : val_main_v61 (F := Ideal) x1 x2 x3 x5 x6 i
    = (((∑ j, (U g z b) j * Y w t j) * (-(1/2) * (R (U g z b) * (1 / Q (U g z b)))) * (1 / 1024) : ℝ) : EReal) := by
  rw [val_main_v61_apply, val_main_v60_apply, val_main_cst_14_apply, val_main_v59_apply, rbs x1 x2 x3 x5 x6 q g z b w t h1 h2 h3 hw hd i hi, rbh x1 x2 x3 q g z b h1 h2 h3 i hi,
    Ideal.mulf_def, Ideal.hostDivf_def, Ideal.ofBits_def, bits_n, Ideal.div_coe n_ne, ← EReal.coe_mul, ← EReal.coe_mul]
theorem rbdx (i : S8192x1024.Idx) (hi : i 0 = q) : val_main_v65 (F := Ideal) x1 x2 x3 x5 x6 i = ((DX (U g z b) (Y w t) (i 1) : ℝ) : EReal) := by
  have e : ∀ k, val_main_v61 (F := Ideal) x1 x2 x3 x5 x6 (idx_main_v62 (idx_main_v63 i) k)
      = (((∑ j, (U g z b) j * Y w t j) * (-(1/2) * (R (U g z b) * (1 / Q (U g z b)))) * (1 / 1024) : ℝ) : EReal) := fun k => rbc x1 x2 x3 x5 x6 q g z b w t h1 h2 h3 hw hd _ hi
  simp only [val_main_v65_apply, val_main_v64_apply, val_main_v63_apply, val_main_v62_apply, val_main_cst_15_apply, val_main_v31_apply, val_main_v30_apply, val_main_cst_7_apply, val_main_v58_apply, val_main_v57_apply, rby x5 x6 q w t hw hd i hi,
    rbr x1 x2 x3 q g z b h1 h2 h3 _ (show (idx_main_v57 i) 0 = q from hi), bu x1 x2 x3 q g z b h1 h2 h3 _ hi, e, Ideal.addf_def, Ideal.mulf_def,
    Ideal.ofBits_def, bits_zero, bits_two, zero_add, Fin.sum_univ_one, ← EReal.coe_add, ← EReal.coe_mul]
  exact congrArg _ (DX_eq (U g z b) (Y w t) (i 1))
theorem rbn (i : S8192x1024.Idx) (hi : i 0 = q) : val_main_v43 (F := Ideal) x1 x2 x3 i * val_main_v48 (F := Ideal) x6 i = (((U g z b) (i 1) * R (U g z b) * t (i 1) : ℝ) : EReal) := by
  rw [rbxr x1 x2 x3 q g z b h1 h2 h3 i hi, hd i hi, ← EReal.coe_mul]

theorem bdg (i : S8192x1024.Idx) (hi : i 0 = q) : val_main_v67 (F := Ideal) x1 x2 x3 x5 x6 i
    = ((DX (U g z b) (Y w t) (i 1) * Sg (z (i 1) + b (i 1)) : ℝ) : EReal) := by
  rw [val_main_v67_apply, rbdx x1 x2 x3 x5 x6 q g z b w t h1 h2 h3 hw hd i hi, bsg x2 x3 q z b h2 h3 i hi, Ideal.mulf_def, ← EReal.coe_mul]
theorem bdz (i : S8192x1024.Idx) (hi : i 0 = q) : val_main_v68 (F := Ideal) x1 x2 x3 x5 x6 i
    = ((g (i 1) * DX (U g z b) (Y w t) (i 1) * (Sg (z (i 1) + b (i 1)) * (1 - Sg (z (i 1) + b (i 1)))) : ℝ) : EReal) := by
  rw [val_main_v68_apply, val_main_v66_apply, h1 i hi, rbdx x1 x2 x3 x5 x6 q g z b w t h1 h2 h3 hw hd i hi, bs1 x2 x3 q z b h2 h3 i hi, Ideal.mulf_def, Ideal.mulf_def,
    ← EReal.coe_mul, ← EReal.coe_mul]

end

/-! ## The two rows agree -/

theorem ext1 {a b : ℕ} (i : (⟨2, ![a, b]⟩ : Shape).Idx) (q : Fin a) (hi : i 0 = q) : i = ix2 q (i 1) := by subst hi; exact eq_ix2 i

section
open Cert.Reference13Ideal.Read
variable (x0 x1 x2 : FVec Ideal S8192x1024 .f32) (x3 x4 x5 : FVec Ideal S1x1024 .f32) (x6 : FVec Ideal S8192x2048 .f32)

/-- The arrays the gradient reads are finite. -/
structure Fin7 : Prop where
  f0 : ∀ i, ∃ r : ℝ, x0 i = (r : EReal)
  f1 : ∀ i, ∃ r : ℝ, x1 i = (r : EReal)
  f2 : ∀ i, ∃ r : ℝ, x2 i = (r : EReal)
  f3 : ∀ i, ∃ r : ℝ, x3 i = (r : EReal)
  f4 : ∀ i, ∃ r : ℝ, x4 i = (r : EReal)
  f5 : ∀ i, ∃ r : ℝ, x5 i = (r : EReal)
  f6 : ∀ i, ∃ r : ℝ, x6 i = (r : EReal)

theorem liftX (x : FVec Ideal S8192x1024 .f32) (X : S8192x1024.Idx → ℝ) (hX : ∀ i, x i = (X i : EReal)) (q : Fin 8192) (i : S8192x1024.Idx) (hi : i 0 = q) :
    x i = (X (ix2 q (i 1)) : EReal) := (hX i).trans (congrArg (fun j => (X j : EReal)) (ext1 i q hi))
theorem liftW (x : FVec Ideal S1x1024 .f32) (X : S1x1024.Idx → ℝ) (hX : ∀ i, x i = (X i : EReal)) (i : S1x1024.Idx) :
    x i = (X (ix2 0 (i 1)) : EReal) := (hX i).trans (congrArg (fun j => (X j : EReal)) (ext1 i 0 (Subsingleton.elim (α := Fin 1) _ _)))

variable (hf : Fin7 x0 x1 x2 x3 x4 x5 x6) (p : Fin 256) (q : Fin 8192)
include hf

/-- The attention half's row. -/
theorem rowA (v0 : FVec Ideal S256x1024 .f32) (v1 : FVec Ideal S1x1024 .f32) (v2 : FVec Ideal S256x1024 .f32)
    (e0 : ∀ k : Fin 1024, v0 (ix2 p k) = x0 (ix2 q k)) (e1 : ∀ k : Fin 1024, v1 (ix2 0 k) = x4 (ix2 0 k))
    (e2 : ∀ k : Fin 1024, v2 (ix2 p k) = val_main_v47 (F := Ideal) x6 (ix2 q k)) (k : Fin 1024) :
    k0_pay10 (F := Ideal) v0 v1 v2 (ix2 p k) = val_main_v87 (F := Ideal) x0 x4 x6 (ix2 q k)
    ∧ v2 (ix2 p k) * v0 (ix2 p k) * k0_pay9 (F := Ideal) v0 (ix2 p 0) = val_main_v71 (F := Ideal) x0 x6 (ix2 q k) := by
  choose X hX using hf.f0
  choose W hW using hf.f4
  have hT' : ∀ i : S8192x1024.Idx, ∃ r : ℝ, val_main_v47 (F := Ideal) x6 i = (r : EReal) := fun i => by rw [val_main_v47_apply]; exact hf.f6 _
  choose T hT using hT'
  have k0 : ∀ k, v0 (ix2 p k) = (X (ix2 q k) : EReal) := fun k => (e0 k).trans (hX _)
  have k1 : ∀ k, v1 (ix2 0 k) = (W (ix2 0 k) : EReal) := fun k => (e1 k).trans (hW _)
  have k2 : ∀ k, v2 (ix2 p k) = (T (ix2 q k) : EReal) := fun k => (e2 k).trans (hT _)
  refine ⟨(pay10 v0 v1 v2 p _ _ _ k0 k1 k2 k).trans
    (radx x0 x4 x6 q (fun k => X (ix2 q k)) (fun k => W (ix2 0 k)) (fun k => T (ix2 q k)) (liftX x0 X hX q) (liftW x4 W hW) (liftX _ T hT q) (ix2 q k) rfl).symm, ?_⟩
  rw [pay9 v0 p _ k0, k0, k2, val_main_v71_apply, Ideal.mulf_def,
    ran x0 x4 x6 q (fun k => X (ix2 q k)) (fun k => W (ix2 0 k)) (fun k => T (ix2 q k)) (liftX x0 X hX q) (liftW x4 W hW) (liftX _ T hT q) (ix2 q k) rfl, ← EReal.coe_mul, ← EReal.coe_mul]
  exact congrArg _ (by show T (ix2 q k) * X (ix2 q k) * _ = X (ix2 q k) * _ * T (ix2 q k); ring)

/-- The state space half's row. -/
theorem rowB (v40 v41 : FVec Ideal S256x1024 .f32) (v42 v53 : FVec Ideal S1x1024 .f32) (v54 : FVec Ideal S256x1024 .f32)
    (e0 : ∀ k : Fin 1024, v40 (ix2 p k) = x1 (ix2 q k)) (e1 : ∀ k : Fin 1024, v41 (ix2 p k) = x2 (ix2 q k))
    (e2 : ∀ k : Fin 1024, v42 (ix2 0 k) = x3 (ix2 0 k)) (e3 : ∀ k : Fin 1024, v53 (ix2 0 k) = x5 (ix2 0 k))
    (e4 : ∀ k : Fin 1024, v54 (ix2 p k) = val_main_v48 (F := Ideal) x6 (ix2 q k)) (k : Fin 1024) :
    k0_pay4 (F := Ideal) (k0_pay13 v41 v42) (k0_pay17 v40 v41 v42 v53 v54) (k0_pay18 v40 v41 v42 v53 v54) (ix2 p k)
      = val_main_v67 (F := Ideal) x1 x2 x3 x5 x6 (ix2 q k)
    ∧ k0_pay5 (F := Ideal) v40 (k0_pay13 v41 v42) (k0_pay17 v40 v41 v42 v53 v54) (k0_pay18 v40 v41 v42 v53 v54) (ix2 p k)
      = val_main_v68 (F := Ideal) x1 x2 x3 x5 x6 (ix2 q k)
    ∧ v54 (ix2 p k) * k0_pay14 (F := Ideal) v40 v41 v42 (ix2 p k) * k0_pay15 (F := Ideal) v40 v41 v42 (ix2 p 0)
      = val_main_v49 (F := Ideal) x1 x2 x3 x6 (ix2 q k) := by
  choose G hG using hf.f1
  choose Z hZ using hf.f2
  choose B hB using hf.f3
  choose W hW using hf.f5
  have hT' : ∀ i : S8192x1024.Idx, ∃ r : ℝ, val_main_v48 (F := Ideal) x6 i = (r : EReal) := fun i => by rw [val_main_v48_apply]; exact hf.f6 _
  choose T hT using hT'
  have k0 : ∀ k, v40 (ix2 p k) = (G (ix2 q k) : EReal) := fun k => (e0 k).trans (hG _)
  have k1 : ∀ k, v41 (ix2 p k) = (Z (ix2 q k) : EReal) := fun k => (e1 k).trans (hZ _)
  have k2 : ∀ k, v42 (ix2 0 k) = (B (ix2 0 k) : EReal) := fun k => (e2 k).trans (hB _)
  have k3 : ∀ k, v53 (ix2 0 k) = (W (ix2 0 k) : EReal) := fun k => (e3 k).trans (hW _)
  have k4 : ∀ k, v54 (ix2 p k) = (T (ix2 q k) : EReal) := fun k => (e4 k).trans (hT _)
  refine ⟨(pay4 v40 v41 v42 v53 v54 p _ _ _ _ _ k0 k1 k2 k3 k4 k).trans
      (bdg x1 x2 x3 x5 x6 q (fun k => G (ix2 q k)) (fun k => Z (ix2 q k)) (fun k => B (ix2 0 k)) (fun k => W (ix2 0 k)) (fun k => T (ix2 q k)) (liftX x1 G hG q) (liftX x2 Z hZ q) (liftW x3 B hB) (liftW x5 W hW) (liftX _ T hT q) (ix2 q k) rfl).symm,
    (pay5 v40 v41 v42 v53 v54 p _ _ _ _ _ k0 k1 k2 k3 k4 k).trans
      (bdz x1 x2 x3 x5 x6 q (fun k => G (ix2 q k)) (fun k => Z (ix2 q k)) (fun k => B (ix2 0 k)) (fun k => W (ix2 0 k)) (fun k => T (ix2 q k)) (liftX x1 G hG q) (liftX x2 Z hZ q) (liftW x3 B hB) (liftW x5 W hW) (liftX _ T hT q) (ix2 q k) rfl).symm, ?_⟩
  rw [pay15 v40 v41 v42 p _ _ _ k0 k1 k2, pay14 v40 v41 v42 p _ _ _ k0 k1 k2, k4, val_main_v49_apply, Ideal.mulf_def,
    rbn x1 x2 x3 x5 x6 q (fun k => G (ix2 q k)) (fun k => Z (ix2 q k)) (fun k => B (ix2 0 k)) (fun k => W (ix2 0 k)) (fun k => T (ix2 q k)) (liftX x1 G hG q) (liftX x2 Z hZ q) (liftW x3 B hB) (liftW x5 W hW) (liftX _ T hT q) (ix2 q k) rfl, ← EReal.coe_mul, ← EReal.coe_mul]
  exact congrArg _ (by show T (ix2 q k) * U (fun k => G (ix2 q k)) (fun k => Z (ix2 q k)) (fun k => B (ix2 0 k)) k * _ = U (fun k => G (ix2 q k)) (fun k => Z (ix2 q k)) (fun k => B (ix2 0 k)) k * _ * T (ix2 q k); ring)

end

/-! ## The arrays -/

variable (m : (ℓ : Loc nD τ sig) → Buf (Elt Ideal) ℓ)

abbrev A0 (c : Dev nD) : FVec Ideal S8192x1024 .f32 := m ((c : Thread nD τ).loc main_arg0)
abbrev A1 (c : Dev nD) : FVec Ideal S8192x1024 .f32 := m ((c : Thread nD τ).loc main_arg1)
abbrev A2 (c : Dev nD) : FVec Ideal S8192x1024 .f32 := m ((c : Thread nD τ).loc main_arg2)
abbrev A3 (c : Dev nD) : FVec Ideal S1x1024 .f32 := m ((c : Thread nD τ).loc main_arg3)
abbrev A4 (c : Dev nD) : FVec Ideal S1x1024 .f32 := m ((c : Thread nD τ).loc main_arg4)
abbrev A5 (c : Dev nD) : FVec Ideal S1x1024 .f32 := m ((c : Thread nD τ).loc main_arg5)
abbrev A6 (c : Dev nD) : FVec Ideal S8192x2048 .f32 := m ((c : Thread nD τ).loc main_arg6)
abbrev FinM (c : Dev nD) : Prop := Fin7 (A0 m c) (A1 m c) (A2 m c) (A3 m c) (A4 m c) (A5 m c) (A6 m c)

theorem finM (h : @Cert.Pre_Kernel13Ideal_finite_merge Cert.Pre_finite_merge.Gen.facts m) (c : Dev nD) : FinM m c := by
  have e := congrFun (h c) (fun a => a.elim0)
  have e1 := IntOp.andi_eq_one.1 e
  have e2 := IntOp.andi_eq_one.1 e1.1
  have e3 := IntOp.andi_eq_one.1 e2.1
  have e4 := IntOp.andi_eq_one.1 e3.1
  have e5 := IntOp.andi_eq_one.1 e4.1
  have e6 := IntOp.andi_eq_one.1 e5.1
  have : Subsingleton Cert.Pre_finite_merge.S_.Idx := ⟨fun a b => funext fun k => k.elim0⟩
  exact ⟨Finite.of_test _ _ _ (fun _ => Finite.bits_top) (fun _ => Finite.bits_bot) _ _ _ _ e6.1,
    Finite.of_test _ _ _ (fun _ => Finite.bits_top) (fun _ => Finite.bits_bot) _ _ _ _ e6.2,
    Finite.of_test _ _ _ (fun _ => Finite.bits_top) (fun _ => Finite.bits_bot) _ _ _ _ e5.2,
    Finite.of_test _ _ _ (fun _ => Finite.bits_top) (fun _ => Finite.bits_bot) _ _ _ _ e4.2,
    Finite.of_test _ _ _ (fun _ => Finite.bits_top) (fun _ => Finite.bits_bot) _ _ _ _ e3.2,
    Finite.of_test _ _ _ (fun _ => Finite.bits_top) (fun _ => Finite.bits_bot) _ _ _ _ e2.2,
    Finite.of_test _ _ _ (fun _ => Finite.bits_top) (fun _ => Finite.bits_bot) _ _ _ _ e1.2⟩

/-- Each window's block index at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![0, 0] ∧ win0_11.index t = ![0, 0] ∧ win0_12.index t = ![0, 0] :=
  (by decide +kernel : ∀ t : Fin grid0.N, _)

theorem cfg_N : cfg0.N = 32 := by decide +kernel
/-- The array's row of a block's row. -/
def qi (t : Fin cfg0.N) (p : Fin 256) : Fin 8192 := ⟨t.val * 256 + p.val, by have h1 := t.isLt; have h2 := cfg_N; have h3 := p.isLt; omega⟩

/-- The two halves of the cotangent's rows, as the kernel's loads read them. -/
abbrev dA (c : Dev nD) (t : Fin cfg0.N) : FVec Ideal S256x1024 .f32 :=
  View.ld (iblk m c 0 t) (Rect.unit ![0, 0] S256x1024.size inb_S256x2048_S256x1024_0_0)
abbrev dB (c : Dev nD) (t : Fin cfg0.N) : FVec Ideal S256x1024 .f32 :=
  View.ld (iblk m c 0 t) (Rect.unit ![0, 1024] S256x1024.size inb_S256x2048_S256x1024_0_1024)

theorem dA_at (c : Dev nD) (t : Fin cfg0.N) (p : Fin 256) (k : Fin 1024) : dA m c t (ix2 p k) = Cert.Reference13Ideal.Read.val_main_v47 (F := Ideal) (A6 m c) (ix2 (qi t p) k) := by
  rw [Cert.Reference13Ideal.Read.val_main_v47_apply]
  pointwise [dA]
  blk_ext [iblk, idx t, qi, Cert.Reference13Ideal.Read.idx_main_v47]
theorem dB_at (c : Dev nD) (t : Fin cfg0.N) (p : Fin 256) (k : Fin 1024) : dB m c t (ix2 p k) = Cert.Reference13Ideal.Read.val_main_v48 (F := Ideal) (A6 m c) (ix2 (qi t p) k) := by
  rw [Cert.Reference13Ideal.Read.val_main_v48_apply]
  pointwise [dB]
  blk_ext [iblk, idx t, qi, Cert.Reference13Ideal.Read.idx_main_v48]

abbrev uBlk (c : Dev nD) (t : Fin cfg0.N) : FVec Ideal S256x1024 .f32 := k0_pay14 (F := Ideal) (iblk m c 2 t) (iblk m c 3 t) (iblk m c 4 t)
abbrev rBlk (c : Dev nD) (t : Fin cfg0.N) : FVec Ideal S256x1 .f32 := k0_pay15 (F := Ideal) (iblk m c 2 t) (iblk m c 3 t) (iblk m c 4 t)
abbrev zBlk (c : Dev nD) (t : Fin cfg0.N) : FVec Ideal S256x1024 .f32 :=
  k0_pay5 (F := Ideal) (iblk m c 2 t) (k0_pay13 (iblk m c 3 t) (iblk m c 4 t)) (k0_pay17 (iblk m c 2 t) (iblk m c 3 t) (iblk m c 4 t) (iblk m c 6 t) (dB m c t))
    (k0_pay18 (iblk m c 2 t) (iblk m c 3 t) (iblk m c 4 t) (iblk m c 6 t) (dB m c t))
abbrev r9Blk (c : Dev nD) (t : Fin cfg0.N) : FVec Ideal S256x1 .f32 := k0_pay9 (F := Ideal) (iblk m c 1 t)
abbrev A0' (c : Dev nD) (t : Fin cfg0.N) : FVec Ideal S256x1024 .f32 := iblk m c 1 t

/-- A point's rows are the reference's. -/
theorem pointA (c : Dev nD) (hf : FinM m c) (t : Fin cfg0.N) (p : Fin 256) (k : Fin 1024) :
    k0_pay10 (F := Ideal) (iblk m c 1 t) (iblk m c 5 t) (dA m c t) (ix2 p k) = Cert.Reference13Ideal.Read.val_main_v87 (F := Ideal) (A0 m c) (A4 m c) (A6 m c) (ix2 (qi t p) k)
    ∧ dA m c t (ix2 p k) * A0' m c t (ix2 p k) * k0_pay9 (F := Ideal) (iblk m c 1 t) (ix2 p 0) = Cert.Reference13Ideal.Read.val_main_v71 (F := Ideal) (A0 m c) (A6 m c) (ix2 (qi t p) k) :=
  rowA _ _ _ _ _ _ _ hf p (qi t p) (iblk m c 1 t) (iblk m c 5 t) (dA m c t) (by intro k; blk_ext [iblk, idx t, qi]) (by intro k; blk_ext [iblk, idx t, qi]) (dA_at m c t p) k
theorem pointB (c : Dev nD) (hf : FinM m c) (t : Fin cfg0.N) (p : Fin 256) (k : Fin 1024) :
    k0_pay4 (F := Ideal) (k0_pay13 (iblk m c 3 t) (iblk m c 4 t)) (k0_pay17 (iblk m c 2 t) (iblk m c 3 t) (iblk m c 4 t) (iblk m c 6 t) (dB m c t))
        (k0_pay18 (iblk m c 2 t) (iblk m c 3 t) (iblk m c 4 t) (iblk m c 6 t) (dB m c t)) (ix2 p k) = Cert.Reference13Ideal.Read.val_main_v67 (F := Ideal) (A1 m c) (A2 m c) (A3 m c) (A5 m c) (A6 m c) (ix2 (qi t p) k)
    ∧ zBlk m c t (ix2 p k) = Cert.Reference13Ideal.Read.val_main_v68 (F := Ideal) (A1 m c) (A2 m c) (A3 m c) (A5 m c) (A6 m c) (ix2 (qi t p) k)
    ∧ dB m c t (ix2 p k) * uBlk m c t (ix2 p k) * rBlk m c t (ix2 p 0) = Cert.Reference13Ideal.Read.val_main_v49 (F := Ideal) (A1 m c) (A2 m c) (A3 m c) (A6 m c) (ix2 (qi t p) k) :=
  rowB _ _ _ _ _ _ _ hf p (qi t p) (iblk m c 2 t) (iblk m c 3 t) (iblk m c 4 t) (iblk m c 6 t) (dB m c t)
    (by intro k; blk_ext [iblk, idx t, qi]) (by intro k; blk_ext [iblk, idx t, qi]) (by intro k; blk_ext [iblk, idx t, qi]) (by intro k; blk_ext [iblk, idx t, qi]) (dB_at m c t p) k

/-- The attention's gradient. -/
theorem finalDA (c : Dev nD) (hf : FinM m c) : (dats m 0 c).arrAt 7 cfg0.N = Cert.Reference13Ideal.Read.val_main_v87 (F := Ideal) (A0 m c) (A4 m c) (A6 m c) := by
  refine (dats m 0 c).arrAt_eq_of_covers 7 _ (by decide +kernel) fun t _ y => ?_
  blk_simp
  rw [after0_7]
  obtain ⟨p, k, rfl⟩ : ∃ (p : Fin 256) (k : Fin 1024), y = ix2 p k := ⟨y 0, y 1, eq_ix2 y⟩
  by_cases h : t.val % 32 = 0
  · rw [outsAt0_A m c t h h h]
    frame_out
    refine (pointA m c hf t p k).1.trans ?_
    generalize Cert.Reference13Ideal.Read.val_main_v87 (F := Ideal) (A0 m c) (A4 m c) (A6 m c) = f
    blk_ext [idx t, qi]
  · rw [outsAt0_B m c t h h h]
    frame_out
    refine (pointA m c hf t p k).1.trans ?_
    generalize Cert.Reference13Ideal.Read.val_main_v87 (F := Ideal) (A0 m c) (A4 m c) (A6 m c) = f
    blk_ext [idx t, qi]

/-- The gated branch's gradient. -/
theorem finalDG (c : Dev nD) (hf : FinM m c) : (dats m 0 c).arrAt 8 cfg0.N = Cert.Reference13Ideal.Read.val_main_v67 (F := Ideal) (A1 m c) (A2 m c) (A3 m c) (A5 m c) (A6 m c) := by
  refine (dats m 0 c).arrAt_eq_of_covers 8 _ (by decide +kernel) fun t _ y => ?_
  blk_simp
  rw [after0_8]
  obtain ⟨p, k, rfl⟩ : ∃ (p : Fin 256) (k : Fin 1024), y = ix2 p k := ⟨y 0, y 1, eq_ix2 y⟩
  by_cases h : t.val % 32 = 0
  · rw [outsAt0_A m c t h h h]
    frame_out
    refine (pointB m c hf t p k).1.trans ?_
    generalize Cert.Reference13Ideal.Read.val_main_v67 (F := Ideal) (A1 m c) (A2 m c) (A3 m c) (A5 m c) (A6 m c) = f
    blk_ext [idx t, qi]
  · rw [outsAt0_B m c t h h h]
    frame_out
    refine (pointB m c hf t p k).1.trans ?_
    generalize Cert.Reference13Ideal.Read.val_main_v67 (F := Ideal) (A1 m c) (A2 m c) (A3 m c) (A5 m c) (A6 m c) = f
    blk_ext [idx t, qi]

theorem pay6_at (v40 v51 v66 v77 : FVec Ideal S256x1024 .f32) (j : S256x1024.Idx) :
    (k0_pay6 (F := Ideal) v40 v51 v66 v77 j : EReal) = k0_pay5 (F := Ideal) v40 v51 v66 v77 j := by pointwise [k0_pay6]
theorem v88_at (x1 x2 : FVec Ideal S8192x1024 .f32) (x3 x5 : FVec Ideal S1x1024 .f32) (x6 : FVec Ideal S8192x2048 .f32) (j : S8192x1024.Idx) :
    (Cert.Reference13Ideal.Read.val_main_v88 (F := Ideal) x1 x2 x3 x5 x6 j : EReal) = Cert.Reference13Ideal.Read.val_main_v68 (F := Ideal) x1 x2 x3 x5 x6 j := by
  rw [Cert.Reference13Ideal.Read.val_main_v88_apply, Ideal.truncf_def]

/-- The gate's gradient. -/
theorem finalDZ (c : Dev nD) (hf : FinM m c) : (dats m 0 c).arrAt 9 cfg0.N = Cert.Reference13Ideal.Read.val_main_v88 (F := Ideal) (A1 m c) (A2 m c) (A3 m c) (A5 m c) (A6 m c) := by
  refine (dats m 0 c).arrAt_eq_of_covers 9 _ (by decide +kernel) fun t _ y => ?_
  blk_simp
  rw [after0_9]
  obtain ⟨p, k, rfl⟩ : ∃ (p : Fin 256) (k : Fin 1024), y = ix2 p k := ⟨y 0, y 1, eq_ix2 y⟩
  by_cases h : t.val % 32 = 0
  · rw [outsAt0_A m c t h h h]
    frame_out
    refine ((pay6_at _ _ _ _ _).trans ((pointB m c hf t p k).2.1.trans (v88_at _ _ _ _ _ _).symm)).trans ?_
    generalize Cert.Reference13Ideal.Read.val_main_v88 (F := Ideal) (A1 m c) (A2 m c) (A3 m c) (A5 m c) (A6 m c) = f
    blk_ext [idx t, qi]
  · rw [outsAt0_B m c t h h h]
    frame_out
    refine ((pay6_at _ _ _ _ _).trans ((pointB m c hf t p k).2.1.trans (v88_at _ _ _ _ _ _).symm)).trans ?_
    generalize Cert.Reference13Ideal.Read.val_main_v88 (F := Ideal) (A1 m c) (A2 m c) (A3 m c) (A5 m c) (A6 m c) = f
    blk_ext [idx t, qi]

/-! ### The three row sums -/

abbrev at' (t : Fin cfg0.N) (ht : t.val % 32 = 31) (s : Fin 32) : Fin cfg0.N := ⟨32 * (t.val / 32) + s.val, Pipeline.run_point_lt_of_flush t ht s⟩
/-- The row of the array a summand reads, as the sum over the blocks' rows names it. -/
theorem row_ix (t : Fin cfg0.N) (ht : t.val % 32 = 31) (s : Fin 32) (k : Fin 256) (hl : s.val * 256 + k.val < 8192) :
    qi (at' t ht s) k = ⟨s.val * 256 + k.val, hl⟩ := by
  have h1 := t.isLt
  have h2 := cfg_N
  refine Fin.ext ?_
  show (32 * (t.val / 32) + s.val) * 256 + k.val = s.val * 256 + k.val
  omega

theorem zero2 (j : S1x1024.Idx) : k0_pay2 (F := Ideal) j = 0 := by pointwise [k0_pay2]
theorem zero7 (j : S1x1024.Idx) : k0_pay7 (F := Ideal) j = 0 := by pointwise [k0_pay7]
theorem zero11 (j : S1x1024.Idx) : k0_pay11 (F := Ideal) j = 0 := by pointwise [k0_pay11]

abbrev part (x t : FVec Ideal S256x1024 .f32) (r : FVec Ideal S256x1 .f32) (j : S1x1024.Idx) : EReal :=
  ∑ k : Fin 256, t (ix2 k (j 1)) * x (ix2 k (j 1)) * r (ix2 k 0)
abbrev partB (d : FVec Ideal S256x1024 .f32) (j : S1x1024.Idx) : EReal := ∑ k : Fin 256, d (ix2 k (j 1))
theorem pay12_at (v0 v2 : FVec Ideal S256x1024 .f32) (acc : FVec Ideal S1x1024 .f32) (j : S1x1024.Idx) :
    k0_pay12 v0 v2 acc j = acc j + part v0 v2 (k0_pay9 v0) j := by pointwise [k0_pay12]
theorem pay3_at (v52 v54 : FVec Ideal S256x1024 .f32) (v62 : FVec Ideal S256x1 .f32) (acc : FVec Ideal S1x1024 .f32) (j : S1x1024.Idx) :
    k0_pay3 v52 v54 v62 acc j = acc j + part v52 v54 v62 j := by pointwise [k0_pay3]
theorem pay8_at (v40 v51 v66 v77 : FVec Ideal S256x1024 .f32) (acc : FVec Ideal S1x1024 .f32) (j : S1x1024.Idx) :
    k0_pay8 v40 v51 v66 v77 acc j = acc j + partB (k0_pay5 v40 v51 v66 v77) j := by pointwise [k0_pay8]

theorem accGA (c : Dev nD) (t : Fin cfg0.N) (ht : t.val % 32 = 31) (j : S1x1024.Idx) :
    (outsAt0 m c t.val t.isLt).2.2.2.1 j = ∑ s : Fin 32, part (iblk m c 1 (at' t ht s)) (dA m c (at' t ht s)) (r9Blk m c (at' t ht s)) j := by
  rw [Pipeline.eq_sum_fin_of_reset_step_apply_of_flush (fun n h => (outsAt0 m c n h).2.2.2.1) 32 (fun _ => 0)
    (fun p j => part (iblk m c 1 p) (dA m c p) (r9Blk m c p) j)
    (fun t h j => by rw [outsAt0_A m c t h h h]; frame_out; rw [pay12_at, zero11])
    (fun t h j => by rw [outsAt0_B m c t h h h]; frame_out; rw [pay12_at]) t ht j, zero_add]
/-- The attention norm's weight. -/
theorem finalGA (c : Dev nD) (hf : FinM m c) : (dats m 0 c).arrAt 10 cfg0.N = Cert.Reference13Ideal.Read.val_main_v73 (F := Ideal) (A0 m c) (A6 m c) := by
  refine (dats m 0 c).arrAt_eq_of_covers 10 _ (by decide +kernel) fun t hfl y => ?_
  have ht := (flush0_10 t).mp hfl
  blk_simp
  rw [after0_10, accGA m c t ht]
  rw [Cert.Reference13Ideal.Read.val_main_v73_apply, Cert.Reference13Ideal.Read.val_main_v72_apply]
  simp only [Cert.Reference13Ideal.Read.val_main_cst_17_apply, Ideal.ofBits_def, bits_zero, zero_add]
  refine Fin.sum_mul_add_congr fun s k hl => ?_
  refine ((pointA m c hf (at' t ht s) k _).2).trans ?_
  rw [row_ix t ht s k hl]
  generalize Cert.Reference13Ideal.Read.val_main_v71 (F := Ideal) (A0 m c) (A6 m c) = f
  blk_ext [idx t]

theorem accGS (c : Dev nD) (t : Fin cfg0.N) (ht : t.val % 32 = 31) (j : S1x1024.Idx) :
    (outsAt0 m c t.val t.isLt).2.2.2.2.1 j = ∑ s : Fin 32, part (uBlk m c (at' t ht s)) (dB m c (at' t ht s)) (rBlk m c (at' t ht s)) j := by
  rw [Pipeline.eq_sum_fin_of_reset_step_apply_of_flush (fun n h => (outsAt0 m c n h).2.2.2.2.1) 32 (fun _ => 0)
    (fun p j => part (uBlk m c p) (dB m c p) (rBlk m c p) j)
    (fun t h j => by rw [outsAt0_A m c t h h h]; frame_out; rw [pay3_at, zero2])
    (fun t h j => by rw [outsAt0_B m c t h h h]; frame_out; rw [pay3_at]) t ht j, zero_add]
/-- The state space norm's weight. -/
theorem finalGS (c : Dev nD) (hf : FinM m c) : (dats m 0 c).arrAt 11 cfg0.N = Cert.Reference13Ideal.Read.val_main_v51 (F := Ideal) (A1 m c) (A2 m c) (A3 m c) (A6 m c) := by
  refine (dats m 0 c).arrAt_eq_of_covers 11 _ (by decide +kernel) fun t hfl y => ?_
  have ht := (flush0_11 t).mp hfl
  blk_simp
  rw [after0_11, accGS m c t ht]
  rw [Cert.Reference13Ideal.Read.val_main_v51_apply, Cert.Reference13Ideal.Read.val_main_v50_apply]
  simp only [Cert.Reference13Ideal.Read.val_main_cst_12_apply, Ideal.ofBits_def, bits_zero, zero_add]
  refine Fin.sum_mul_add_congr fun s k hl => ?_
  refine ((pointB m c hf (at' t ht s) k _).2.2).trans ?_
  rw [row_ix t ht s k hl]
  generalize Cert.Reference13Ideal.Read.val_main_v49 (F := Ideal) (A1 m c) (A2 m c) (A3 m c) (A6 m c) = f
  blk_ext [idx t]

theorem accBG (c : Dev nD) (t : Fin cfg0.N) (ht : t.val % 32 = 31) (j : S1x1024.Idx) :
    (outsAt0 m c t.val t.isLt).2.2.2.2.2 j = ∑ s : Fin 32, partB (zBlk m c (at' t ht s)) j := by
  rw [Pipeline.eq_sum_fin_of_reset_step_apply_of_flush (fun n h => (outsAt0 m c n h).2.2.2.2.2) 32 (fun _ => 0)
    (fun p j => partB (zBlk m c p) j)
    (fun t h j => by rw [outsAt0_A m c t h h h]; frame_out; rw [pay8_at, zero7]; rfl)
    (fun t h j => by rw [outsAt0_B m c t h h h]; frame_out; rw [pay8_at]; rfl) t ht j, zero_add]
/-- The gate's bias. -/
theorem finalBG (c : Dev nD) (hf : FinM m c) : (dats m 0 c).arrAt 12 cfg0.N = Cert.Reference13Ideal.Read.val_main_v70 (F := Ideal) (A1 m c) (A2 m c) (A3 m c) (A5 m c) (A6 m c) := by
  refine (dats m 0 c).arrAt_eq_of_covers 12 _ (by decide +kernel) fun t hfl y => ?_
  have ht := (flush0_12 t).mp hfl
  blk_simp
  rw [after0_12, accBG m c t ht]
  rw [Cert.Reference13Ideal.Read.val_main_v70_apply, Cert.Reference13Ideal.Read.val_main_v69_apply]
  simp only [Cert.Reference13Ideal.Read.val_main_cst_16_apply, Ideal.ofBits_def, bits_zero, zero_add]
  refine Fin.sum_mul_add_congr fun s k hl => ?_
  refine ((pointB m c hf (at' t ht s) k _).2.1).trans ?_
  rw [row_ix t ht s k hl]
  generalize Cert.Reference13Ideal.Read.val_main_v68 (F := Ideal) (A1 m c) (A2 m c) (A3 m c) (A5 m c) (A6 m c) = f
  blk_ext [idx t]

/-- The kernel's arrays and the reference's are the same arrays. -/
theorem algebraic : @Cert.algebraic_Kernel13Ideal_Reference13Ideal_pre_finite_merge Cert.Kernel13Ideal.Gen.facts Cert.Reference13Ideal.Gen.facts
    Cert.Pre_finite_merge.Gen.facts :=
  fun m g m' g' hp hm => ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N,
    Cert.Kernel13Ideal.Value.run_blocks m g,
    (θ_run Cert.Reference13Ideal.defs _ _).mono
      (fun r h c => ⟨(((h c).1).trans ((Cert.Reference13Ideal.Read.val_main_v87_eq _ _ _).trans (by simp only [(hm c).1, (hm c).2.1, (hm c).2.2.1, (hm c).2.2.2.1, (hm c).2.2.2.2.1, (hm c).2.2.2.2.2.1, (hm c).2.2.2.2.2.2]))).trans (finalDA m c (finM m hp c)).symm,
        (((h c).2.1).trans ((Cert.Reference13Ideal.Read.val_main_v67_eq m' c).trans (by simp only [(hm c).1, (hm c).2.1, (hm c).2.2.1, (hm c).2.2.2.1, (hm c).2.2.2.2.1, (hm c).2.2.2.2.2.1, (hm c).2.2.2.2.2.2]))).trans (finalDG m c (finM m hp c)).symm,
        (((h c).2.2.1).trans ((Cert.Reference13Ideal.Read.val_main_v88_eq m' c).trans (by simp only [(hm c).1, (hm c).2.1, (hm c).2.2.1, (hm c).2.2.2.1, (hm c).2.2.2.2.1, (hm c).2.2.2.2.2.1, (hm c).2.2.2.2.2.2]))).trans (finalDZ m c (finM m hp c)).symm,
        (((h c).2.2.2.1).trans ((Cert.Reference13Ideal.Read.val_main_v73_eq _ _).trans (by simp only [(hm c).1, (hm c).2.1, (hm c).2.2.1, (hm c).2.2.2.1, (hm c).2.2.2.2.1, (hm c).2.2.2.2.2.1, (hm c).2.2.2.2.2.2]))).trans (finalGA m c (finM m hp c)).symm,
        (((h c).2.2.2.2.1).trans ((Cert.Reference13Ideal.Read.val_main_v51_eq _ _ _ _).trans (by simp only [(hm c).1, (hm c).2.1, (hm c).2.2.1, (hm c).2.2.2.1, (hm c).2.2.2.2.1, (hm c).2.2.2.2.2.1, (hm c).2.2.2.2.2.2]))).trans (finalGS m c (finM m hp c)).symm,
        (((h c).2.2.2.2.2.1).trans ((Cert.Reference13Ideal.Read.val_main_v70_eq m' c).trans (by simp only [(hm c).1, (hm c).2.1, (hm c).2.2.1, (hm c).2.2.2.1, (hm c).2.2.2.2.1, (hm c).2.2.2.2.2.1, (hm c).2.2.2.2.2.2]))).trans (finalBG m c (finM m hp c)).symm,
        (h c).2.2.2.2.2.2⟩)
      (Cert.Reference13Ideal.Value.run m' g')⟩

end Cert.Proof.Merge

end
-- ==== Proof.Ln.lean ====
/- THE GRADIENT OF THE POST-NORM (`Kernel14`, `Reference14`): over the extended reals, from finite arrays, the row kernel's
   closed form of the layer norm's gradient and the differentiated layer norm of the scaled residual are one array; the gradients
   of the branch, of its gate and of the norm's two vectors follow. The kernel adds the three row sums up over its 32 blocks of 256
   rows. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Pre_finite_ln
public import proofs.«01_k».proof.Proof.Finite
public import Idealize.ShloMosaic.Lib.Pipeline.ReadBack

@[expose] public section

set_option maxRecDepth 16384

noncomputable section

namespace Cert.Proof.Ln

open Cert.Kernel14Ideal Cert.Kernel14Ideal.Gen Idealize.ShloMosaic Idealize.ShloMosaic.TcCoe Idealize.SL.Sem

/-! ## One row, in the reals -/

theorem coe_sum {n : ℕ} (f : Fin n → ℝ) : (∑ k, ((f k : ℝ) : EReal)) = ((∑ k, f k : ℝ) : EReal) := by
  induction (Finset.univ : Finset (Fin n)) using Finset.induction_on with
  | empty => simp
  | insert a s h ih => rw [Finset.sum_insert h, Finset.sum_insert h, ih, EReal.coe_add]

abbrev al : ℝ := 14107901 / 2 ^ 23
abbrev ep : ℝ := 10995116 / 2 ^ 40
theorem bits_al : Ideal.ofBits .f32 0x3FD744FD#32 = ((al : ℝ) : EReal) := by
  simp [Ideal.ofBits, Ideal.ieee, -EReal.coe_mul, al]; norm_num
theorem bits_ep : Ideal.ofBits .f32 0x3727C5AC#32 = ((ep : ℝ) : EReal) := by
  simp [Ideal.ofBits, Ideal.ieee, -EReal.coe_mul, ep]; norm_num
theorem bits_n : Ideal.ofBits .f32 0x45000000#32 = ((2048 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_mhalf : Ideal.ofBits .f32 0xBF000000#32 = ((-(1/2) : ℝ) : EReal) := by
  simp [Ideal.ofBits, Ideal.ieee, -EReal.coe_mul, -EReal.coe_neg]; norm_num
theorem n_ne : (2048 : ℝ) ≠ 0 := by norm_num

abbrev Row := Fin 2048 → ℝ
def S (x b g : Row) : Row := fun k => al * x k + (1 + g k) * b k
def D (s : Row) : Row := fun k => s k - (∑ j, s j) * (1 / 2048)
def V (s : Row) : ℝ := (∑ j, D s j * D s j) * (1 / 2048) + ep
def R (s : Row) : ℝ := (√(V s))⁻¹
def DS (s y : Row) : Row := fun k =>
  R s * ((y k - (∑ j, y j) * (1 / 2048)) - D s k * R s * ((∑ j, y j * (D s j * R s)) * (1 / 2048)))

theorem V_pos (s : Row) : 0 < V s :=
  add_pos_of_nonneg_of_pos (mul_nonneg (Finset.sum_nonneg fun _ _ => mul_self_nonneg _) (by norm_num)) (by norm_num)
theorem rsqrt_V (s : Row) : Ideal.rsqrt ((V s : ℝ) : EReal) = ((R s : ℝ) : EReal) := by
  rw [Ideal.rsqrt_coe, if_neg (V_pos s).le.not_gt, if_neg (V_pos s).ne']; rfl
theorem R_sq (s : Row) : R s * R s = 1 / V s := by
  unfold R; rw [← mul_inv, Real.mul_self_sqrt (V_pos s).le, one_div]
theorem D_sum (s : Row) : ∑ k, D s k = 0 := by
  simp only [D, Finset.sum_sub_distrib, Finset.sum_const, Finset.card_univ, Fintype.card_fin, nsmul_eq_mul]; push_cast; ring

/-- The differentiated norm's spelling of the same row. -/
theorem DS_eq (s y : Row) (k : Fin 2048) :
    y k * R s + (∑ j, D s j * y j) * (-(1/2) * (R s * (1 / V s))) * (1 / 2048) * (2 * D s k)
      + ((∑ j, -(y j * R s)) + ∑ j, -((∑ j, D s j * y j) * (-(1/2) * (R s * (1 / V s))) * (1 / 2048) * (2 * D s j))) * (1 / 2048)
    = DS s y k := by
  have e : (∑ j, y j * (D s j * R s)) = R s * ∑ j, D s j * y j := by rw [Finset.mul_sum]; exact Finset.sum_congr rfl fun j _ => by ring
  have e2 : (∑ j, -((∑ j, D s j * y j) * (-(1/2) * (R s * (1 / V s))) * (1 / 2048) * (2 * D s j))) = 0 := by
    rw [Finset.sum_neg_distrib, ← Finset.mul_sum, ← Finset.mul_sum, D_sum]; ring
  have e3 : (∑ j, -(y j * R s)) = -(R s * ∑ j, y j) := by rw [Finset.sum_neg_distrib, ← Finset.sum_mul]; ring
  rw [e2, e3, DS, e, ← R_sq]
  ring

/-! ## The kernel's row -/

section
variable (v0 : FVec Ideal S1x2048 .f32) (v1 v2 v26 : FVec Ideal S256x2048 .f32) (v27 : FVec Ideal S1x2048 .f32) (p : Fin 256) (x b g t w : Row)
  (h0 : ∀ k, v0 (ix2 0 k) = (g k : EReal)) (h1 : ∀ k, v1 (ix2 p k) = (b k : EReal)) (h2 : ∀ k, v2 (ix2 p k) = (x k : EReal))
  (h26 : ∀ k, v26 (ix2 p k) = (t k : EReal)) (h27 : ∀ k, v27 (ix2 0 k) = (w k : EReal))
include h0 h1 h2

theorem pay3 (k : Fin 2048) : k0_pay3 (F := Ideal) v0 v1 v2 (ix2 p k) = ((D (S x b g) k : ℝ) : EReal) := by
  pointwise [k0_pay3]
  simp only [h0, h1, h2, bits_al, bits_n, Finite.bits_one, ← EReal.coe_one, ← EReal.coe_add, ← EReal.coe_mul, ← EReal.coe_sub, coe_sum, Ideal.div_coe n_ne]
  rfl

theorem pay4 : k0_pay4 (F := Ideal) v0 v1 v2 (ix2 p 0) = ((R (S x b g) : ℝ) : EReal) := by
  pointwise [k0_pay4]
  simp only [pay3 v0 v1 v2 p x b g h0 h1 h2, bits_ep, bits_n, ← EReal.coe_add, ← EReal.coe_mul, coe_sum, Ideal.div_coe n_ne]
  exact rsqrt_V _

theorem pay5 (k : Fin 2048) : k0_pay5 (F := Ideal) v0 v1 v2 (ix2 p k) = ((D (S x b g) k * R (S x b g) : ℝ) : EReal) := by
  pointwise [k0_pay5]
  rw [pay3 v0 v1 v2 p x b g h0 h1 h2, pay4 v0 v1 v2 p x b g h0 h1 h2, ← EReal.coe_mul]

include h26 h27
omit h0 h1 h2 in
theorem pay6 (k : Fin 2048) : k0_pay6 (F := Ideal) v26 v27 (ix2 p k) = ((t k * w k : ℝ) : EReal) := by
  pointwise [k0_pay6]
  rw [h26, h27, ← EReal.coe_mul]
omit h0 h1 h2 in
theorem pay7 (k : Fin 2048) : k0_pay7 (F := Ideal) v26 v27 (ix2 p k) = ((t k * w k - (∑ j, t j * w j) * (1 / 2048) : ℝ) : EReal) := by
  pointwise [k0_pay7]
  simp only [pay6 v26 v27 p t w h26 h27, bits_n, ← EReal.coe_mul, ← EReal.coe_sub, coe_sum, Ideal.div_coe n_ne]

theorem pay8 : k0_pay8 (F := Ideal) v0 v1 v2 v26 v27 (ix2 p 0) = ((∑ j, t j * w j * (D (S x b g) j * R (S x b g)) : ℝ) : EReal) := by
  pointwise [k0_pay8]
  simp only [pay5 v0 v1 v2 p x b g h0 h1 h2, pay6 v26 v27 p t w h26 h27, ← EReal.coe_mul, coe_sum]

theorem pay9 (k : Fin 2048) : k0_pay9 (F := Ideal) (k0_pay4 v0 v1 v2) (k0_pay5 v0 v1 v2) (k0_pay7 v26 v27) (k0_pay8 v0 v1 v2 v26 v27) (ix2 p k)
    = ((DS (S x b g) (fun k => t k * w k) k : ℝ) : EReal) := by
  pointwise [k0_pay9]
  simp only [pay4 v0 v1 v2 p x b g h0 h1 h2, pay5 v0 v1 v2 p x b g h0 h1 h2, pay7 v26 v27 p t w h26 h27,
    pay8 v0 v1 v2 v26 v27 p x b g t w h0 h1 h2 h26 h27, bits_n, ← EReal.coe_mul, ← EReal.coe_sub, Ideal.div_coe n_ne]
  rfl

end

/-! ## The reference's row -/

section
open Cert.Reference14Ideal.Read
variable (x0 x1 : FVec Ideal S8192x2048 .f32) (x2 : FVec Ideal S6x2048 .f32) (x3 : FVec Ideal S1x2048 .f32) (x5 : FVec Ideal S8192x2048 .f32)
  (q : Fin 8192) (x b g t w : Row)
  (h0 : ∀ i : S8192x2048.Idx, i 0 = q → x0 i = (x (i 1) : EReal)) (h1 : ∀ i : S8192x2048.Idx, i 0 = q → x1 i = (b (i 1) : EReal))
  (h2 : ∀ i : S6x2048.Idx, i 0 = (5 : Fin 6) → x2 i = (g (i 1) : EReal))
  (h3 : ∀ i : S1x2048.Idx, x3 i = (w (i 1) : EReal)) (h5 : ∀ i : S8192x2048.Idx, i 0 = q → x5 i = (t (i 1) : EReal))

theorem bits_zero : Ideal.ofBits .f32 0x00000000#32 = 0 := Ideal.ofBits_zero_f32

include h0 h1 h2

theorem s7 (i : S8192x2048.Idx) (hi : i 0 = q) : val_main_v7 (F := Ideal) x0 x1 x2 i = ((S x b g (i 1) : ℝ) : EReal) := by
  have e2 : x2 (idx_main_v0 (idx_main_v5 i)) = (g (i 1) : EReal) := h2 _ rfl
  simp only [val_main_v7_apply, val_main_v6_apply, val_main_v5_apply, val_main_v4_apply, val_main_v3_apply, val_main_cst_0_apply, val_main_v2_apply,
    val_main_v1_apply, val_main_cst_apply, val_main_v0_apply, h0 i hi, h1 i hi, e2, Ideal.addf_def, Ideal.mulf_def, Ideal.ofBits_def, bits_al,
    Finite.bits_one, ← EReal.coe_add, ← EReal.coe_mul]
  rfl
theorem s11 (i : Cert.Reference14Ideal.S8192x1.Idx) (hi : i 0 = q) : val_main_v11 (F := Ideal) x0 x1 x2 i = (((∑ k, S x b g k) * (1 / 2048) : ℝ) : EReal) := by
  have e : ∀ k, val_main_v7 (F := Ideal) x0 x1 x2 (idx_main_v8 (idx_main_v9 i) k) = ((S x b g k : ℝ) : EReal) := fun k => s7 x0 x1 x2 q x b g h0 h1 h2 _ hi
  simp only [val_main_v11_apply, val_main_v10_apply, val_main_cst_2_apply, val_main_v9_apply, val_main_v8_apply, val_main_cst_1_apply, e,
    Ideal.hostDivf_def, Ideal.ofBits_def, bits_n, bits_zero, zero_add, coe_sum, Ideal.div_coe n_ne, ← EReal.coe_mul]
theorem s13 (i : S8192x2048.Idx) (hi : i 0 = q) : val_main_v13 (F := Ideal) x0 x1 x2 i = ((D (S x b g) (i 1) : ℝ) : EReal) := by
  rw [val_main_v13_apply, val_main_v12_apply, s7 x0 x1 x2 q x b g h0 h1 h2 i hi, s11 x0 x1 x2 q x b g h0 h1 h2 _ hi, Ideal.subf_def, ← EReal.coe_sub]
  rfl
theorem s22 (i : S8192x2048.Idx) (hi : i 0 = q) : val_main_v22 (F := Ideal) x0 x1 x2 i = ((D (S x b g) (i 1) : ℝ) : EReal) := by
  rw [val_main_v22_apply, val_main_v21_apply, s7 x0 x1 x2 q x b g h0 h1 h2 i hi, s11 x0 x1 x2 q x b g h0 h1 h2 _ hi, Ideal.subf_def, ← EReal.coe_sub]
  rfl
theorem s24 (i : Cert.Reference14Ideal.S8192x1.Idx) (hi : i 0 = q) : val_main_v24 (F := Ideal) x0 x1 x2 i = ((V (S x b g) : ℝ) : EReal) := by
  have e : ∀ k, val_main_v13 (F := Ideal) x0 x1 x2 (idx_main_v17 (idx_main_v18 i) k) = ((D (S x b g) k : ℝ) : EReal) := fun k => s13 x0 x1 x2 q x b g h0 h1 h2 _ hi
  simp only [val_main_v24_apply, val_main_v23_apply, val_main_cst_6_apply, val_main_v20_apply, val_main_v19_apply, val_main_cst_5_apply, val_main_v18_apply,
    val_main_v17_apply, val_main_cst_4_apply, val_main_v14_apply, e, Ideal.addf_def, Ideal.mulf_def, Ideal.hostDivf_def, Ideal.ofBits_def, bits_n, bits_ep, bits_zero, zero_add,
    ← EReal.coe_mul, coe_sum, Ideal.div_coe n_ne, ← EReal.coe_add]
  rfl
theorem s25 (i : Cert.Reference14Ideal.S8192x1.Idx) (hi : i 0 = q) : val_main_v25 (F := Ideal) x0 x1 x2 i = ((R (S x b g) : ℝ) : EReal) := by
  rw [val_main_v25_apply, s24 x0 x1 x2 q x b g h0 h1 h2 i hi, Ideal.hostUnary_rsqrt_def, rsqrt_V]
theorem s28 (i : Cert.Reference14Ideal.S8192x1.Idx) (hi : i 0 = q) : val_main_v28 (F := Ideal) x0 x1 x2 i = ((-(1/2) * (R (S x b g) * (1 / V (S x b g))) : ℝ) : EReal) := by
  rw [val_main_v28_apply, val_main_v27_apply, val_main_cst_7_apply, val_main_v26_apply, s24 x0 x1 x2 q x b g h0 h1 h2 i hi, s25 x0 x1 x2 q x b g h0 h1 h2 i hi,
    Ideal.mulf_def, Ideal.hostDivf_def, Ideal.ofBits_def, bits_mhalf, Ideal.div_coe (V_pos _).ne', ← EReal.coe_mul, ← EReal.coe_mul]
/-- The normalized row. -/
theorem s30 (i : S8192x2048.Idx) (hi : i 0 = q) : val_main_v30 (F := Ideal) x0 x1 x2 i = ((D (S x b g) (i 1) * R (S x b g) : ℝ) : EReal) := by
  rw [val_main_v30_apply, val_main_v29_apply, s22 x0 x1 x2 q x b g h0 h1 h2 i hi, s25 x0 x1 x2 q x b g h0 h1 h2 _ hi, Ideal.mulf_def, ← EReal.coe_mul]

omit h0 h1 h2 in
theorem s35 (x5 : FVec Ideal S8192x2048 .f32) : val_main_v35 (F := Ideal) x5 = x5 := shapeCast_self _ _

include h3 h5
omit h0 h1 h2 in
theorem s42 (i : S8192x2048.Idx) (hi : i 0 = q) : val_main_v42 (F := Ideal) x3 x5 i = ((t (i 1) * w (i 1) : ℝ) : EReal) := by
  rw [val_main_v42_apply, s35, val_main_v41_apply, h5 i hi, h3, Ideal.mulf_def, ← EReal.coe_mul]
  rfl

abbrev C (s y : Row) : ℝ := (∑ j, D s j * y j) * (-(1/2) * (R s * (1 / V s))) * (1 / 2048)

theorem s45 (i : Cert.Reference14Ideal.S8192x1.Idx) (hi : i 0 = q) : val_main_v45 (F := Ideal) x0 x1 x2 x3 x5 i = ((∑ j, D (S x b g) j * (t j * w j) : ℝ) : EReal) := by
  have hi' : (idx_main_v45 i) 0 = q := by
    rw [← hi]; have h1 : (i 1).val < 1 := (i 1).isLt; exact Fin.ext (by show (i 0).val * 1 + (i 1).val = (i 0).val; omega)
  have e : ∀ k, val_main_v43 (F := Ideal) x0 x1 x2 x3 x5 (idx_main_v44 (idx_main_v45 i) k) = ((D (S x b g) k * (t k * w k) : ℝ) : EReal) := fun k => by
    rw [val_main_v43_apply, s22 x0 x1 x2 q x b g h0 h1 h2 _ hi', s42 x3 x5 q t w h3 h5 _ hi', Ideal.mulf_def, ← EReal.coe_mul]
    rfl
  simp only [val_main_v45_apply, val_main_v44_apply, val_main_cst_10_apply, e, Ideal.ofBits_def, bits_zero, zero_add, coe_sum]
theorem s47 (i : S8192x2048.Idx) (hi : i 0 = q) : val_main_v47 (F := Ideal) x0 x1 x2 x3 x5 i = ((t (i 1) * w (i 1) * R (S x b g) : ℝ) : EReal) := by
  rw [val_main_v47_apply, val_main_v46_apply, s42 x3 x5 q t w h3 h5 _ hi, s25 x0 x1 x2 q x b g h0 h1 h2 _ hi, Ideal.mulf_def, ← EReal.coe_mul]
theorem s51 (i : Cert.Reference14Ideal.S8192x1.Idx) (hi : i 0 = q) : val_main_v51 (F := Ideal) x0 x1 x2 x3 x5 i = ((∑ j, -(t j * w j * R (S x b g)) : ℝ) : EReal) := by
  have hi' : (idx_main_v51 i) 0 = q := by
    rw [← hi]; have h1 : (i 1).val < 1 := (i 1).isLt; exact Fin.ext (by show (i 0).val * 1 + (i 1).val = (i 0).val; omega)
  have e : ∀ k, val_main_v47 (F := Ideal) x0 x1 x2 x3 x5 (idx_main_v50 (idx_main_v51 i) k) = ((t k * w k * R (S x b g) : ℝ) : EReal) := fun k =>
    s47 x0 x1 x2 x3 x5 q x b g t w h0 h1 h2 h3 h5 _ hi'
  simp only [val_main_v51_apply, val_main_v50_apply, val_main_cst_11_apply, val_main_v49_apply, e, Ideal.hostNegf_def, Ideal.negf_def, Ideal.ofBits_def, bits_zero, zero_add,
    ← EReal.coe_neg, coe_sum]
theorem s53 (i : Cert.Reference14Ideal.S8192x1.Idx) (hi : i 0 = q) : val_main_v53 (F := Ideal) x0 x1 x2 x3 x5 i = ((C (S x b g) (fun k => t k * w k) : ℝ) : EReal) := by
  rw [val_main_v53_apply, val_main_v52_apply, val_main_cst_12_apply, val_main_v48_apply, s45 x0 x1 x2 x3 x5 q x b g t w h0 h1 h2 h3 h5 i hi, s28 x0 x1 x2 q x b g h0 h1 h2 i hi,
    Ideal.mulf_def, Ideal.hostDivf_def, Ideal.ofBits_def, bits_n, Ideal.div_coe n_ne, ← EReal.coe_mul, ← EReal.coe_mul]
theorem s56 (i : S8192x2048.Idx) (hi : i 0 = q) : val_main_v56 (F := Ideal) x0 x1 x2 x3 x5 i
    = ((C (S x b g) (fun k => t k * w k) * (2 * D (S x b g) (i 1)) : ℝ) : EReal) := by
  have e : ∀ k, val_main_v53 (F := Ideal) x0 x1 x2 x3 x5 (idx_main_v54 (idx_main_v55 i) k) = ((C (S x b g) (fun k => t k * w k) : ℝ) : EReal) := fun k =>
    s53 x0 x1 x2 x3 x5 q x b g t w h0 h1 h2 h3 h5 _ hi
  simp only [val_main_v56_apply, val_main_v55_apply, val_main_v54_apply, val_main_cst_13_apply, val_main_v16_apply, val_main_v15_apply, val_main_cst_3_apply,
    s13 x0 x1 x2 q x b g h0 h1 h2 i hi, e, Ideal.mulf_def, Ideal.ofBits_def, bits_zero, bits_two, zero_add, Fin.sum_univ_one, ← EReal.coe_mul]
theorem s59 (i : Cert.Reference14Ideal.S8192x1.Idx) (hi : i 0 = q) : val_main_v59 (F := Ideal) x0 x1 x2 x3 x5 i
    = ((∑ j, -(C (S x b g) (fun k => t k * w k) * (2 * D (S x b g) j)) : ℝ) : EReal) := by
  have hi' : (idx_main_v59 i) 0 = q := by
    rw [← hi]; have h1 : (i 1).val < 1 := (i 1).isLt; exact Fin.ext (by show (i 0).val * 1 + (i 1).val = (i 0).val; omega)
  have e : ∀ k, val_main_v56 (F := Ideal) x0 x1 x2 x3 x5 (idx_main_v58 (idx_main_v59 i) k)
      = ((C (S x b g) (fun k => t k * w k) * (2 * D (S x b g) k) : ℝ) : EReal) := fun k => s56 x0 x1 x2 x3 x5 q x b g t w h0 h1 h2 h3 h5 _ hi'
  simp only [val_main_v59_apply, val_main_v58_apply, val_main_cst_14_apply, val_main_v57_apply, e, Ideal.hostNegf_def, Ideal.negf_def, Ideal.ofBits_def, bits_zero, zero_add,
    ← EReal.coe_neg, coe_sum]
theorem s66 (i : S8192x2048.Idx) (hi : i 0 = q) : val_main_v66 (F := Ideal) x0 x1 x2 x3 x5 i
    = ((DS (S x b g) (fun k => t k * w k) (i 1) : ℝ) : EReal) := by
  have e1 : ∀ k, val_main_v51 (F := Ideal) x0 x1 x2 x3 x5 (idx_main_v64 (idx_main_v65 i) k) = ((∑ j, -(t j * w j * R (S x b g)) : ℝ) : EReal) := fun k =>
    s51 x0 x1 x2 x3 x5 q x b g t w h0 h1 h2 h3 h5 _ hi
  have e2 : ∀ k, val_main_v59 (F := Ideal) x0 x1 x2 x3 x5 (idx_main_v64 (idx_main_v65 i) k)
      = ((∑ j, -(C (S x b g) (fun k => t k * w k) * (2 * D (S x b g) j)) : ℝ) : EReal) := fun k => s59 x0 x1 x2 x3 x5 q x b g t w h0 h1 h2 h3 h5 _ hi
  simp only [val_main_v66_apply, val_main_v65_apply, val_main_v64_apply, val_main_cst_16_apply, val_main_v63_apply, val_main_v62_apply, val_main_cst_15_apply, val_main_v61_apply,
    val_main_v60_apply, s47 x0 x1 x2 x3 x5 q x b g t w h0 h1 h2 h3 h5 i hi, s56 x0 x1 x2 x3 x5 q x b g t w h0 h1 h2 h3 h5 i hi, e1, e2, Ideal.addf_def, Ideal.hostDivf_def,
    Ideal.ofBits_def, bits_zero, bits_n, zero_add, Fin.sum_univ_one, ← EReal.coe_add, ← EReal.coe_mul, Ideal.div_coe n_ne]
  exact congrArg _ (DS_eq (S x b g) (fun k => t k * w k) (i 1))

end

/-! ## The two rows agree -/

theorem ext1 {a b : ℕ} (i : (⟨2, ![a, b]⟩ : Shape).Idx) (q : Fin a) (hi : i 0 = q) : i = ix2 q (i 1) := by subst hi; exact eq_ix2 i

section
variable (x0 x1 : FVec Ideal S8192x2048 .f32) (x2 : FVec Ideal S6x2048 .f32) (x3 : FVec Ideal S1x2048 .f32) (x5 : FVec Ideal S8192x2048 .f32)

/-- The arrays the gradient reads are finite. -/
structure Fin5 : Prop where
  f0 : ∀ i, ∃ r : ℝ, x0 i = (r : EReal)
  f1 : ∀ i, ∃ r : ℝ, x1 i = (r : EReal)
  f2 : ∀ i, ∃ r : ℝ, x2 i = (r : EReal)
  f3 : ∀ i, ∃ r : ℝ, x3 i = (r : EReal)
  f5 : ∀ i, ∃ r : ℝ, x5 i = (r : EReal)

variable (v0 : FVec Ideal S1x2048 .f32) (v1 v2 v26 : FVec Ideal S256x2048 .f32) (v27 : FVec Ideal S1x2048 .f32) (hf : Fin5 x0 x1 x2 x3 x5)
  (p : Fin 256) (q : Fin 8192)
  (e0 : ∀ k : Fin 2048, v0 (ix2 0 k) = x2 (ix2 5 k)) (e1 : ∀ k : Fin 2048, v1 (ix2 p k) = x1 (ix2 q k))
  (e2 : ∀ k : Fin 2048, v2 (ix2 p k) = x0 (ix2 q k)) (e26 : ∀ k : Fin 2048, v26 (ix2 p k) = x5 (ix2 q k)) (e27 : ∀ k : Fin 2048, v27 (ix2 0 k) = x3 (ix2 0 k))
include hf e0 e1 e2 e26 e27

theorem row_eq (k : Fin 2048) :
    k0_pay9 (F := Ideal) (k0_pay4 v0 v1 v2) (k0_pay5 v0 v1 v2) (k0_pay7 v26 v27) (k0_pay8 v0 v1 v2 v26 v27) (ix2 p k)
      = Cert.Reference14Ideal.Read.val_main_v66 (F := Ideal) x0 x1 x2 x3 x5 (ix2 q k)
    ∧ k0_pay5 (F := Ideal) v0 v1 v2 (ix2 p k) = Cert.Reference14Ideal.Read.val_main_v30 (F := Ideal) x0 x1 x2 (ix2 q k) := by
  choose X hX using hf.f0
  choose B hB using hf.f1
  choose G hG using hf.f2
  choose W hW using hf.f3
  choose T hT using hf.f5
  have h0 : ∀ i : S8192x2048.Idx, i 0 = q → x0 i = (X (ix2 q (i 1)) : EReal) := fun i hi => (hX i).trans (congrArg (fun j => (X j : EReal)) (ext1 i q hi))
  have h1 : ∀ i : S8192x2048.Idx, i 0 = q → x1 i = (B (ix2 q (i 1)) : EReal) := fun i hi => (hB i).trans (congrArg (fun j => (B j : EReal)) (ext1 i q hi))
  have h2 : ∀ i : S6x2048.Idx, i 0 = (5 : Fin 6) → x2 i = (G (ix2 5 (i 1)) : EReal) := fun i hi => (hG i).trans (congrArg (fun j => (G j : EReal)) (ext1 i 5 hi))
  have h3 : ∀ i : S1x2048.Idx, x3 i = (W (ix2 0 (i 1)) : EReal) := fun i =>
    (hW i).trans (congrArg (fun j => (W j : EReal)) (ext1 i 0 (Subsingleton.elim (α := Fin 1) _ _)))
  have h5 : ∀ i : S8192x2048.Idx, i 0 = q → x5 i = (T (ix2 q (i 1)) : EReal) := fun i hi => (hT i).trans (congrArg (fun j => (T j : EReal)) (ext1 i q hi))
  exact ⟨(pay9 v0 v1 v2 v26 v27 p (fun k => X (ix2 q k)) (fun k => B (ix2 q k)) (fun k => G (ix2 5 k)) (fun k => T (ix2 q k)) (fun k => W (ix2 0 k))
      (fun k => (e0 k).trans (hG _)) (fun k => (e1 k).trans (hB _)) (fun k => (e2 k).trans (hX _)) (fun k => (e26 k).trans (hT _)) (fun k => (e27 k).trans (hW _)) k).trans
      (s66 x0 x1 x2 x3 x5 q (fun k => X (ix2 q k)) (fun k => B (ix2 q k)) (fun k => G (ix2 5 k)) (fun k => T (ix2 q k)) (fun k => W (ix2 0 k)) h0 h1 h2 h3 h5 (ix2 q k) rfl).symm,
    (pay5 v0 v1 v2 p (fun k => X (ix2 q k)) (fun k => B (ix2 q k)) (fun k => G (ix2 5 k))
      (fun k => (e0 k).trans (hG _)) (fun k => (e1 k).trans (hB _)) (fun k => (e2 k).trans (hX _)) k).trans
      (s30 x0 x1 x2 q (fun k => X (ix2 q k)) (fun k => B (ix2 q k)) (fun k => G (ix2 5 k)) h0 h1 h2 (ix2 q k) rfl).symm⟩

end

/-! ## The arrays -/

variable (m : (ℓ : Loc nD τ sig) → Buf (Elt Ideal) ℓ)

abbrev A0 (c : Dev nD) : FVec Ideal S8192x2048 .f32 := m ((c : Thread nD τ).loc main_arg0)
abbrev A1 (c : Dev nD) : FVec Ideal S8192x2048 .f32 := m ((c : Thread nD τ).loc main_arg1)
abbrev A2 (c : Dev nD) : FVec Ideal S6x2048 .f32 := m ((c : Thread nD τ).loc main_arg2)
abbrev A3 (c : Dev nD) : FVec Ideal S1x2048 .f32 := m ((c : Thread nD τ).loc main_arg3)
abbrev A5 (c : Dev nD) : FVec Ideal S8192x2048 .f32 := m ((c : Thread nD τ).loc main_arg5)
abbrev FinM (c : Dev nD) : Prop := Fin5 (A0 m c) (A1 m c) (A2 m c) (A3 m c) (A5 m c)

theorem finM (h : @Cert.Pre_Kernel14Ideal_finite_ln Cert.Pre_finite_ln.Gen.facts m) (c : Dev nD) : FinM m c := by
  have e := congrFun (h c) (fun a => a.elim0)
  have e1 := IntOp.andi_eq_one.1 e
  have e2 := IntOp.andi_eq_one.1 e1.1
  have e3 := IntOp.andi_eq_one.1 e2.1
  have e4 := IntOp.andi_eq_one.1 e3.1
  have : Subsingleton Cert.Pre_finite_ln.S_.Idx := ⟨fun a b => funext fun k => k.elim0⟩
  exact ⟨Finite.of_test _ _ _ (fun _ => Finite.bits_top) (fun _ => Finite.bits_bot) _ _ _ _ e4.1,
    Finite.of_test _ _ _ (fun _ => Finite.bits_top) (fun _ => Finite.bits_bot) _ _ _ _ e4.2,
    Finite.of_test _ _ _ (fun _ => Finite.bits_top) (fun _ => Finite.bits_bot) _ _ _ _ e3.2,
    Finite.of_test _ _ _ (fun _ => Finite.bits_top) (fun _ => Finite.bits_bot) _ _ _ _ e2.2,
    Finite.of_test _ _ _ (fun _ => Finite.bits_top) (fun _ => Finite.bits_bot) _ _ _ _ e1.2⟩

/-- Each window's block index at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![0, 0]
    ∧ win0_8.index t = ![0, 0] ∧ win0_9.index t = ![0, 0] :=
  (by decide +kernel : ∀ t : Fin grid0.N, _)

theorem swapm (x y : EReal) : x * y = y * x := mul_comm x y

theorem cfg_N : cfg0.N = 32 := by decide +kernel
/-- The array's row of a block's row. -/
def qi (t : Fin cfg0.N) (p : Fin 256) : Fin 8192 := ⟨t.val * 256 + p.val, by have h1 := t.isLt; have h2 := cfg_N; have h3 := p.isLt; omega⟩

/-- The gate's row, as the kernel's load reads it off the six rows of modulation. -/
abbrev gateRow (c : Dev nD) (t : Fin cfg0.N) : FVec Ideal S1x2048 .f32 :=
  View.ld (iblk m c 3 t) (Rect.unit ![5, 0] ![1, 2048] inb_S6x2048_S1x2048_5_0)

/-- A point's rows of `ds` and of the normalized rows are the reference's. -/
theorem point (c : Dev nD) (hf : FinM m c) (t : Fin cfg0.N) (p : Fin 256) (k : Fin 2048) :
    k0_pay9 (F := Ideal) (k0_pay4 (gateRow m c t) (iblk m c 2 t) (iblk m c 1 t)) (k0_pay5 (gateRow m c t) (iblk m c 2 t) (iblk m c 1 t))
        (k0_pay7 (iblk m c 0 t) (iblk m c 4 t)) (k0_pay8 (gateRow m c t) (iblk m c 2 t) (iblk m c 1 t) (iblk m c 0 t) (iblk m c 4 t)) (ix2 p k)
      = Cert.Reference14Ideal.Read.val_main_v66 (F := Ideal) (A0 m c) (A1 m c) (A2 m c) (A3 m c) (A5 m c) (ix2 (qi t p) k)
    ∧ k0_pay5 (F := Ideal) (gateRow m c t) (iblk m c 2 t) (iblk m c 1 t) (ix2 p k)
      = Cert.Reference14Ideal.Read.val_main_v30 (F := Ideal) (A0 m c) (A1 m c) (A2 m c) (ix2 (qi t p) k) := by
  refine row_eq _ _ _ _ _ _ _ _ _ _ hf p (qi t p) ?_ ?_ ?_ ?_ ?_ k
  all_goals intro k
  · pointwise [gateRow]
    blk_ext [iblk, idx t]
  all_goals blk_ext [iblk, idx t, qi]

abbrev dsBlk (c : Dev nD) (t : Fin cfg0.N) : FVec Ideal S256x2048 .f32 :=
  k0_pay9 (F := Ideal) (k0_pay4 (gateRow m c t) (iblk m c 2 t) (iblk m c 1 t)) (k0_pay5 (gateRow m c t) (iblk m c 2 t) (iblk m c 1 t))
    (k0_pay7 (iblk m c 0 t) (iblk m c 4 t)) (k0_pay8 (gateRow m c t) (iblk m c 2 t) (iblk m c 1 t) (iblk m c 0 t) (iblk m c 4 t))
abbrev nBlk (c : Dev nD) (t : Fin cfg0.N) : FVec Ideal S256x2048 .f32 := k0_pay5 (F := Ideal) (gateRow m c t) (iblk m c 2 t) (iblk m c 1 t)

/-- `ds`: every point writes its own block of the reference's array. -/
theorem finalS (c : Dev nD) (hf : FinM m c) : (dats m 0 c).arrAt 5 cfg0.N
    = Cert.Reference14Ideal.Read.val_main_v66 (F := Ideal) (A0 m c) (A1 m c) (A2 m c) (A3 m c) (A5 m c) := by
  refine (dats m 0 c).arrAt_eq_of_covers 5 _ (by decide +kernel) fun t _ y => ?_
  blk_simp
  rw [after0_5]
  by_cases h : t.val % 32 = 0
  · rw [outsAt0_A m c t h h h]
    frame_out
    obtain ⟨p, k, rfl⟩ : ∃ (p : Fin 256) (k : Fin 2048), y = ix2 p k := ⟨y 0, y 1, eq_ix2 y⟩
    refine (point m c hf t p k).1.trans ?_
    generalize Cert.Reference14Ideal.Read.val_main_v66 (F := Ideal) (A0 m c) (A1 m c) (A2 m c) (A3 m c) (A5 m c) = f
    blk_ext [idx t, qi]
  · rw [outsAt0_B m c t h h h]
    frame_out
    obtain ⟨p, k, rfl⟩ : ∃ (p : Fin 256) (k : Fin 2048), y = ix2 p k := ⟨y 0, y 1, eq_ix2 y⟩
    refine (point m c hf t p k).1.trans ?_
    generalize Cert.Reference14Ideal.Read.val_main_v66 (F := Ideal) (A0 m c) (A1 m c) (A2 m c) (A3 m c) (A5 m c) = f
    blk_ext [idx t, qi]

/-- The branch's gradient. -/
theorem pay10_at (v0 : FVec Ideal S1x2048 .f32) (v23 : FVec Ideal S256x1 .f32) (v25 v35 : FVec Ideal S256x2048 .f32) (v38 : FVec Ideal S256x1 .f32) (p : Fin 256) (k : Fin 2048) :
    k0_pay10 (F := Ideal) v0 v23 v25 v35 v38 (ix2 p k) = (1 + v0 (ix2 0 k)) * k0_pay9 (F := Ideal) v23 v25 v35 v38 (ix2 p k) := by pointwise [k0_pay10]
theorem gate_at (c : Dev nD) (t : Fin cfg0.N) (k : Fin 2048) : gateRow m c t (ix2 0 k) = A2 m c (ix2 5 k) := by
  pointwise [gateRow]
  blk_ext [iblk, idx t]
open Cert.Reference14Ideal.Read in
theorem v72_at (x0 x1 : FVec Ideal S8192x2048 .f32) (x2 : FVec Ideal S6x2048 .f32) (x3 : FVec Ideal S1x2048 .f32) (x5 : FVec Ideal S8192x2048 .f32) (q : Fin 8192) (k : Fin 2048) :
    val_main_v72 (F := Ideal) x0 x1 x2 x3 x5 (ix2 q k) = (1 + x2 (ix2 5 k)) * val_main_v66 (F := Ideal) x0 x1 x2 x3 x5 (ix2 q k) := by
  rw [val_main_v72_apply, val_main_v68_apply, val_main_v67_apply, val_main_v4_apply, val_main_v3_apply, val_main_cst_0_apply, val_main_v0_apply,
    Ideal.truncf_def, Ideal.mulf_def, Ideal.addf_def, Ideal.ofBits_def, Finite.bits_one]
  refine congrArg₂ (fun a b : EReal => a * b) (congrArg₂ (fun a b : EReal => a + b) rfl (congrArg x2 (ext1 _ 5 rfl))) rfl

theorem finalR (c : Dev nD) (hf : FinM m c) : (dats m 0 c).arrAt 6 cfg0.N
    = Cert.Reference14Ideal.Read.val_main_v72 (F := Ideal) (A0 m c) (A1 m c) (A2 m c) (A3 m c) (A5 m c) := by
  refine (dats m 0 c).arrAt_eq_of_covers 6 _ (by decide +kernel) fun t _ y => ?_
  blk_simp
  rw [after0_6]
  obtain ⟨p, k, rfl⟩ : ∃ (p : Fin 256) (k : Fin 2048), y = ix2 p k := ⟨y 0, y 1, eq_ix2 y⟩
  have e : (1 + gateRow m c t (ix2 0 k)) * dsBlk m c t (ix2 p k)
      = Cert.Reference14Ideal.Read.val_main_v72 (F := Ideal) (A0 m c) (A1 m c) (A2 m c) (A3 m c) (A5 m c) (ix2 (qi t p) k) := by
    rw [v72_at, gate_at, dsBlk, (point m c hf t p k).1]
  by_cases h : t.val % 32 = 0
  · rw [outsAt0_A m c t h h h]
    frame_out
    refine (pay10_at _ _ _ _ _ p k).trans (e.trans ?_)
    generalize Cert.Reference14Ideal.Read.val_main_v72 (F := Ideal) (A0 m c) (A1 m c) (A2 m c) (A3 m c) (A5 m c) = f
    blk_ext [idx t, qi]
  · rw [outsAt0_B m c t h h h]
    frame_out
    refine (pay10_at _ _ _ _ _ p k).trans (e.trans ?_)
    generalize Cert.Reference14Ideal.Read.val_main_v72 (F := Ideal) (A0 m c) (A1 m c) (A2 m c) (A3 m c) (A5 m c) = f
    blk_ext [idx t, qi]

/-! ### The three row sums -/

abbrev partG (n d : FVec Ideal S256x2048 .f32) (j : S1x2048.Idx) : EReal := ∑ k : Fin 256, d (ix2 k (j 1)) * n (ix2 k (j 1))
abbrev partB (d : FVec Ideal S256x2048 .f32) (j : S1x2048.Idx) : EReal := ∑ k : Fin 256, d (ix2 k (j 1))
theorem zero1 (j : S1x2048.Idx) : k0_pay1 (F := Ideal) j = 0 := by pointwise [k0_pay1]
theorem zero11 (j : S1x2048.Idx) : k0_pay11 (F := Ideal) j = 0 := by pointwise [k0_pay11]
theorem zero13 (j : S1x2048.Idx) : k0_pay13 (F := Ideal) j = 0 := by pointwise [k0_pay13]
theorem pay12_at (n d : FVec Ideal S256x2048 .f32) (acc : FVec Ideal S1x2048 .f32) (j : S1x2048.Idx) :
    k0_pay12 n d acc j = acc j + partG n d j := by pointwise [k0_pay12]
theorem pay14_at (d : FVec Ideal S256x2048 .f32) (acc : FVec Ideal S1x2048 .f32) (j : S1x2048.Idx) :
    k0_pay14 d acc j = acc j + partB d j := by pointwise [k0_pay14]
theorem pay2_at (v1 : FVec Ideal S256x2048 .f32) (v23 : FVec Ideal S256x1 .f32) (v25 v35 : FVec Ideal S256x2048 .f32) (v38 : FVec Ideal S256x1 .f32) (acc : FVec Ideal S1x2048 .f32) (j : S1x2048.Idx) :
    k0_pay2 (k0_pay15 v1 v23 v25 v35 v38) acc j = acc j + partG v1 (k0_pay9 v23 v25 v35 v38) j := by pointwise [k0_pay2, k0_pay15]

abbrev at' (t : Fin cfg0.N) (ht : t.val % 32 = 31) (s : Fin 32) : Fin cfg0.N := ⟨32 * (t.val / 32) + s.val, Pipeline.run_point_lt_of_flush t ht s⟩

theorem accG (c : Dev nD) (t : Fin cfg0.N) (ht : t.val % 32 = 31) (j : S1x2048.Idx) :
    (outsAt0 m c t.val t.isLt).2.2.1 j = ∑ s : Fin 32, partG (nBlk m c (at' t ht s)) (iblk m c 0 (at' t ht s)) j := by
  rw [Pipeline.eq_sum_fin_of_reset_step_apply_of_flush (fun n h => (outsAt0 m c n h).2.2.1) 32 (fun _ => 0)
    (fun p j => partG (nBlk m c p) (iblk m c 0 p) j)
    (fun t h j => by rw [outsAt0_A m c t h h h]; frame_out; rw [pay12_at, zero11]; rfl)
    (fun t h j => by rw [outsAt0_B m c t h h h]; frame_out; rw [pay12_at]; rfl) t ht j, zero_add]
theorem accB (c : Dev nD) (t : Fin cfg0.N) (ht : t.val % 32 = 31) (j : S1x2048.Idx) :
    (outsAt0 m c t.val t.isLt).2.2.2.1 j = ∑ s : Fin 32, partB (iblk m c 0 (at' t ht s)) j := by
  rw [Pipeline.eq_sum_fin_of_reset_step_apply_of_flush (fun n h => (outsAt0 m c n h).2.2.2.1) 32 (fun _ => 0)
    (fun p j => partB (iblk m c 0 p) j)
    (fun t h j => by rw [outsAt0_A m c t h h h]; frame_out; rw [pay14_at, zero13])
    (fun t h j => by rw [outsAt0_B m c t h h h]; frame_out; rw [pay14_at]) t ht j, zero_add]
theorem accT (c : Dev nD) (t : Fin cfg0.N) (ht : t.val % 32 = 31) (j : S1x2048.Idx) :
    (outsAt0 m c t.val t.isLt).2.2.2.2 j = ∑ s : Fin 32, partG (iblk m c 2 (at' t ht s)) (dsBlk m c (at' t ht s)) j := by
  rw [Pipeline.eq_sum_fin_of_reset_step_apply_of_flush (fun n h => (outsAt0 m c n h).2.2.2.2) 32 (fun _ => 0)
    (fun p j => partG (iblk m c 2 p) (dsBlk m c p) j)
    (fun t h j => by rw [outsAt0_A m c t h h h]; frame_out; rw [pay2_at, zero1]; rfl)
    (fun t h j => by rw [outsAt0_B m c t h h h]; frame_out; rw [pay2_at]; rfl) t ht j, zero_add]

/-- The row of the array a summand reads, as the sum over the blocks' rows names it. -/
theorem row_ix (t : Fin cfg0.N) (ht : t.val % 32 = 31) (s : Fin 32) (k : Fin 256) (hl : s.val * 256 + k.val < 8192) :
    qi (at' t ht s) k = ⟨s.val * 256 + k.val, hl⟩ := by
  have h1 := t.isLt
  have h2 := cfg_N
  refine Fin.ext ?_
  show (32 * (t.val / 32) + s.val) * 256 + k.val = s.val * 256 + k.val
  omega

theorem finalG (c : Dev nD) (hf : FinM m c) : (dats m 0 c).arrAt 7 cfg0.N
    = Cert.Reference14Ideal.Read.val_main_v40 (F := Ideal) (A0 m c) (A1 m c) (A2 m c) (A5 m c) := by
  refine (dats m 0 c).arrAt_eq_of_covers 7 _ (by decide +kernel) fun t hfl y => ?_
  have ht := (flush0_7 t).mp hfl
  blk_simp
  rw [after0_7, accG m c t ht]
  rw [Cert.Reference14Ideal.Read.val_main_v40_apply, Cert.Reference14Ideal.Read.val_main_v39_apply]
  simp only [Cert.Reference14Ideal.Read.val_main_v38_apply, Cert.Reference14Ideal.Read.val_main_cst_9_apply, s35, Ideal.mulf_def, Ideal.ofBits_def, bits_zero, zero_add]
  refine Fin.sum_mul_add_congr fun s k hl => ?_
  refine (swapm _ _).trans ?_
  refine congrArg₂ (fun a b : EReal => a * b) ((point m c hf (at' t ht s) k _).2.trans ?_) ?_
  · rw [row_ix t ht s k hl]
    generalize Cert.Reference14Ideal.Read.val_main_v30 (F := Ideal) (A0 m c) (A1 m c) (A2 m c) = f
    blk_ext [idx t]
  · blk_ext [iblk, idx t, idx (at' t ht s)]

theorem finalB (c : Dev nD) : (dats m 0 c).arrAt 8 cfg0.N
    = Cert.Reference14Ideal.Read.val_main_v37 (F := Ideal) (A5 m c) := by
  refine (dats m 0 c).arrAt_eq_of_covers 8 _ (by decide +kernel) fun t hfl y => ?_
  have ht := (flush0_8 t).mp hfl
  blk_simp
  rw [after0_8, accB m c t ht]
  rw [Cert.Reference14Ideal.Read.val_main_v37_apply, Cert.Reference14Ideal.Read.val_main_v36_apply]
  simp only [Cert.Reference14Ideal.Read.val_main_cst_8_apply, Ideal.mulf_def, Ideal.ofBits_def, bits_zero, zero_add]
  refine Fin.sum_mul_add_congr fun s k hl => ?_
  blk_ext [iblk, idx t, idx (at' t ht s)]

theorem finalT (c : Dev nD) (hf : FinM m c) : (dats m 0 c).arrAt 9 cfg0.N
    = Cert.Reference14Ideal.Read.val_main_v71 (F := Ideal) (A0 m c) (A1 m c) (A2 m c) (A3 m c) (A5 m c) := by
  refine (dats m 0 c).arrAt_eq_of_covers 9 _ (by decide +kernel) fun t hfl y => ?_
  have ht := (flush0_9 t).mp hfl
  blk_simp
  rw [after0_9, accT m c t ht]
  rw [Cert.Reference14Ideal.Read.val_main_v71_apply, Cert.Reference14Ideal.Read.val_main_v70_apply]
  simp only [Cert.Reference14Ideal.Read.val_main_v69_apply, Cert.Reference14Ideal.Read.val_main_cst_17_apply, Ideal.mulf_def, Ideal.ofBits_def, bits_zero, zero_add]
  refine Fin.sum_mul_add_congr fun s k hl => ?_
  refine congrArg₂ (fun a b : EReal => a * b) ((point m c hf (at' t ht s) k _).1.trans ?_) ?_
  · rw [row_ix t ht s k hl]
    generalize Cert.Reference14Ideal.Read.val_main_v66 (F := Ideal) (A0 m c) (A1 m c) (A2 m c) (A3 m c) (A5 m c) = f
    blk_ext [idx t]
  · blk_ext [iblk, idx t, idx (at' t ht s)]

/-- The kernel's arrays and the reference's are the same arrays. -/
theorem algebraic : @Cert.algebraic_Kernel14Ideal_Reference14Ideal_pre_finite_ln Cert.Kernel14Ideal.Gen.facts Cert.Reference14Ideal.Gen.facts
    Cert.Pre_finite_ln.Gen.facts :=
  fun m g m' g' hp hm => ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N,
    Cert.Kernel14Ideal.Value.run_blocks m g,
    (θ_run Cert.Reference14Ideal.defs _ _).mono
      (fun r h c => ⟨((h c).1.trans ((Cert.Reference14Ideal.Read.val_main_v66_eq m' c).trans (by simp only [(hm c).1, (hm c).2.1, (hm c).2.2.1, (hm c).2.2.2.1, (hm c).2.2.2.2.2]))).trans (finalS m c (finM m hp c)).symm,
        ((h c).2.1.trans ((Cert.Reference14Ideal.Read.val_main_v72_eq m' c).trans (by simp only [(hm c).1, (hm c).2.1, (hm c).2.2.1, (hm c).2.2.2.1, (hm c).2.2.2.2.2]))).trans (finalR m c (finM m hp c)).symm,
        ((h c).2.2.1.trans ((Cert.Reference14Ideal.Read.val_main_v40_eq m' c).trans (by simp only [(hm c).1, (hm c).2.1, (hm c).2.2.1, (hm c).2.2.2.1, (hm c).2.2.2.2.2]))).trans (finalG m c (finM m hp c)).symm,
        ((h c).2.2.2.1.trans ((Cert.Reference14Ideal.Read.val_main_v37_eq _).trans (by simp only [(hm c).2.2.2.2.2]))).trans (finalB m c).symm,
        ((h c).2.2.2.2.1.trans ((Cert.Reference14Ideal.Read.val_main_v71_eq m' c).trans (by simp only [(hm c).1, (hm c).2.1, (hm c).2.2.1, (hm c).2.2.2.1, (hm c).2.2.2.2.2]))).trans (finalT m c (finM m hp c)).symm,
        (h c).2.2.2.2.2⟩)
      (Cert.Reference14Ideal.Value.run m' g')⟩

end Cert.Proof.Ln

end
-- ==== Proof.QkvF.lean ====
/- THE INPUT PROJECTION, THE ATTENTION'S THREE SECTIONS (`Kernel15`, `Reference15`): over the extended reals the tiled kernel
   and the plain product's first three sections are equal arrays. -/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.Proof.QkvF

section
open Cert.Reference15Ideal Cert.Reference15Ideal.Gen Idealize.ShloMosaic Idealize.ShloMosaic.TcCoe

/-- The reference's term over the argument arrays. -/
abbrev REF (h : FVec Ideal S8192x2048 .f32) (w : FVec Ideal S2048x4096 .f32) : FVec Ideal S3x8192x1024 .bf16 :=
  truncf .bf16 (extractStridedSlice S3x8192x1024 ![0, 0, 0] (transpose S4x8192x1024 [1, 0, 2] (shapeCast _ (Host.dotGeneral dot_S8192x2048_S2048x4096_S8192x4096_1_0_0_1_n_n none h w) shapeCasts_S8192x4096_S8192x4x1024) transposes_S8192x4x1024_S4x8192x1024_1_0_2) slices_S4x8192x1024_S3x8192x1024_0_0_0) bitsLt_bf16_f32

end

open Cert.Kernel15Ideal Cert.Kernel15Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val / 3, 0]
    ∧ win0_1.index t = ![t.val % 3, 0, 0]
    ∧ win0_2.index t = ![t.val % 3, t.val / 3, 0] :=
  (by decide +kernel : ∀ t : Fin grid0.N, _)

/-- What the host prepares: the input in bf16, the columns of the weight in four sections. -/
theorem v0 (c : Dev nD) (i : S8192x2048.Idx) : V m c main_v0 i = m ((c : Thread nD τ).loc main_arg0) i := by
  entry_read; pointwise
theorem v3 (c : Dev nD) (i : S4x2048x1024.Idx) : V m c main_v3 i = m ((c : Thread nD τ).loc main_arg1) (ix2 (i 1) ⟨(i 0).val * 1024 + (i 2).val, by idx_bounds; omega⟩) := by
  entry_read; pointwise

/-- The result array: every point writes its own block of the reference's array. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, k0_pay3, REF]
  reads_congr
  all_goals blk_simp [iblk, idx t]
  · rw [v0]; blk_ext [idx t]
  · rw [v3]; blk_ext [idx t]

/-- The kernel's array and the reference's are one array. -/
theorem algebraic : @Cert.algebraic_Kernel15Ideal_Reference15Ideal Cert.Kernel15Ideal.Gen.facts Cert.Reference15Ideal.Gen.facts :=
  fun m g m' g' _ hm => ⟨fun c => (dats m 0 c).arrAt 2 cfg0.N, Cert.Kernel15Ideal.Value.run_blocks m g,
    (θ_run Cert.Reference15Ideal.defs _ _).mono
      (fun r h c => ⟨((h c).1.trans (by simp only [(hm c).1, (hm c).2])).trans (final m c).symm, (h c).2⟩)
      (Cert.Reference15Ideal.Value.run m' g')⟩

end Cert.Proof.QkvF

end
-- ==== Proof.UF.lean ====
/- THE INPUT PROJECTION, THE STATE-SPACE SECTION (`Kernel16`, `Reference16`): over the extended reals the tiled kernel and the
   plain product's last section are equal arrays. -/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

namespace Cert.Proof.UF

section
open Cert.Reference16Ideal Cert.Reference16Ideal.Gen Idealize.ShloMosaic Idealize.ShloMosaic.TcCoe

/-- The reference's term over the argument arrays. -/
abbrev REF (h : FVec Ideal S8192x2048 .f32) (w : FVec Ideal S2048x4096 .f32) : FVec Ideal S8192x1024 .f32 :=
  extractStridedSlice S8192x1024 ![0, 3072] (Host.dotGeneral dot_S8192x2048_S2048x4096_S8192x4096_1_0_0_1_n_n none h w) slices_S8192x4096_S8192x1024_0_3072

end

open Cert.Kernel16Ideal Cert.Kernel16Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the host prepares: the input in bf16, the weight's last section of columns. -/
theorem v0 (c : Dev nD) (i : S8192x2048.Idx) : V m c main_v0 i = m ((c : Thread nD τ).loc main_arg0) i := by
  entry_read; pointwise
theorem v5 (c : Dev nD) (i : S2048x1024.Idx) : V m c main_v5 i = m ((c : Thread nD τ).loc main_arg1) (ix2 (i 0) ⟨3072 + (i 1).val, by idx_bounds; omega⟩) := by
  entry_read; pointwise

/-- The result array: every point writes its own block of the reference's array. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, REF]
  reads_congr
  all_goals blk_simp [iblk, idx t]
  · rw [v0]; blk_ext [idx t]
  · rw [v5]; blk_ext [idx t]

/-- The kernel's array and the reference's are one array. -/
theorem algebraic : @Cert.algebraic_Kernel16Ideal_Reference16Ideal Cert.Kernel16Ideal.Gen.facts Cert.Reference16Ideal.Gen.facts :=
  fun m g m' g' _ hm => ⟨fun c => (dats m 0 c).arrAt 2 cfg0.N, Cert.Kernel16Ideal.Value.run_blocks m g,
    (θ_run Cert.Reference16Ideal.defs _ _).mono
      (fun r h c => ⟨((h c).1.trans (by simp only [(hm c).1, (hm c).2])).trans (final m c).symm, (h c).2⟩)
      (Cert.Reference16Ideal.Value.run m' g')⟩

end Cert.Proof.UF

end
-- ==== Proof.GluF.lean ====
/- THE GATE'S PRODUCT (`Kernel17`, `Reference17`): over the extended reals the tiled kernel and the plain product are equal
   arrays. -/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

namespace Cert.Proof.GluF

section
open Cert.Reference17Ideal Cert.Reference17Ideal.Gen Idealize.ShloMosaic Idealize.ShloMosaic.TcCoe

/-- The reference's term over the argument arrays. -/
abbrev REF (h : FVec Ideal S8192x1024 .f32) (w : FVec Ideal S1024x1024 .f32) : FVec Ideal S8192x1024 .f32 :=
  Host.dotGeneral dot_S8192x1024_S1024x1024_S8192x1024_1_0_0_1_n_n none h w

end

open Cert.Kernel17Ideal Cert.Kernel17Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the host prepares: the weight in bf16. -/
theorem v0 (c : Dev nD) (i : S1024x1024.Idx) : V m c main_v0 i = m ((c : Thread nD τ).loc main_arg1) i := by
  entry_read; pointwise

/-- The result array: every point writes its own block of the reference's array. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, REF]
  reads_congr
  all_goals blk_simp [iblk, idx t]
  · blk_ext [iblk, idx t]
  · rw [v0]; blk_ext [idx t]

/-- The kernel's array and the reference's are one array. -/
theorem algebraic : @Cert.algebraic_Kernel17Ideal_Reference17Ideal Cert.Kernel17Ideal.Gen.facts Cert.Reference17Ideal.Gen.facts :=
  fun m g m' g' _ hm => ⟨fun c => (dats m 0 c).arrAt 2 cfg0.N, Cert.Kernel17Ideal.Value.run_blocks m g,
    (θ_run Cert.Reference17Ideal.defs _ _).mono
      (fun r h c => ⟨((h c).1.trans (by simp only [(hm c).1, (hm c).2])).trans (final m c).symm, (h c).2⟩)
      (Cert.Reference17Ideal.Value.run m' g')⟩

end Cert.Proof.GluF

end
-- ==== Proof.OutF.lean ====
/- THE OUTPUT PROJECTION (`Kernel18`, `Reference18`): over the extended reals the tiled kernel and the plain product are equal
   arrays. -/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

namespace Cert.Proof.OutF

section
open Cert.Reference18Ideal Cert.Reference18Ideal.Gen Idealize.ShloMosaic Idealize.ShloMosaic.TcCoe

/-- The reference's term over the argument arrays. -/
abbrev REF (h : FVec Ideal S8192x2048 .f32) (w : FVec Ideal S2048x2048 .f32) : FVec Ideal S8192x2048 .f32 :=
  Host.dotGeneral dot_S8192x2048_S2048x2048_S8192x2048_1_0_0_1_n_n none h w

end

open Cert.Kernel18Ideal Cert.Kernel18Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- What the host prepares: both operands in bf16. -/
theorem v0 (c : Dev nD) (i : S8192x2048.Idx) : V m c main_v0 i = m ((c : Thread nD τ).loc main_arg0) i := by
  entry_read; pointwise
theorem v1 (c : Dev nD) (i : S2048x2048.Idx) : V m c main_v1 i = m ((c : Thread nD τ).loc main_arg1) i := by
  entry_read; pointwise

/-- The result array: every point writes its own block of the reference's array. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, REF]
  reads_congr
  all_goals blk_simp [iblk, idx t]
  · rw [v0]; blk_ext [idx t]
  · rw [v1]; blk_ext [idx t]

/-- The kernel's array and the reference's are one array. -/
theorem algebraic : @Cert.algebraic_Kernel18Ideal_Reference18Ideal Cert.Kernel18Ideal.Gen.facts Cert.Reference18Ideal.Gen.facts :=
  fun m g m' g' _ hm => ⟨fun c => (dats m 0 c).arrAt 2 cfg0.N, Cert.Kernel18Ideal.Value.run_blocks m g,
    (θ_run Cert.Reference18Ideal.defs _ _).mono
      (fun r h c => ⟨((h c).1.trans (by simp only [(hm c).1, (hm c).2])).trans (final m c).symm, (h c).2⟩)
      (Cert.Reference18Ideal.Value.run m' g')⟩

end Cert.Proof.OutF

end
-- ==== Proof.Mlp1F.lean ====
/- THE FIRST MLP PRODUCT (`Kernel19`, `Reference19`): over the extended reals the tiled kernel and the plain product are equal
   arrays, the hidden columns in four sections. -/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise

@[expose] public section

set_option maxRecDepth 16384

noncomputable section

namespace Cert.Proof.Mlp1F

section
open Cert.Reference19Ideal Cert.Reference19Ideal.Gen Idealize.ShloMosaic Idealize.ShloMosaic.TcCoe

/-- The reference's term over the argument arrays. -/
abbrev REF (h : FVec Ideal S8192x2048 .f32) (w : FVec Ideal S2048x8192 .f32) : FVec Ideal S4x8192x2048 .bf16 :=
  truncf .bf16 (transpose S4x8192x2048 [1, 0, 2] (shapeCast _ (Host.dotGeneral dot_S8192x2048_S2048x8192_S8192x8192_1_0_0_1_n_n none h w) shapeCasts_S8192x8192_S8192x4x2048) transposes_S8192x4x2048_S4x8192x2048_1_0_2) bitsLt_bf16_f32

end

open Cert.Kernel19Ideal Cert.Kernel19Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val / 8, 0]
    ∧ win0_1.index t = ![t.val % 8 / 2, 0, t.val % 8 % 2]
    ∧ win0_2.index t = ![t.val % 8 / 2, t.val / 8, t.val % 8 % 2] :=
  (by decide +kernel : ∀ t : Fin grid0.N, _)

/-- What the host prepares: the input in bf16, the columns of the weight in four sections. -/
theorem v0 (c : Dev nD) (i : S8192x2048.Idx) : V m c main_v0 i = m ((c : Thread nD τ).loc main_arg0) i := by
  entry_read; pointwise
theorem v3 (c : Dev nD) (i : S4x2048x2048.Idx) : V m c main_v3 i = m ((c : Thread nD τ).loc main_arg1) (ix2 (i 1) ⟨(i 0).val * 2048 + (i 2).val, by idx_bounds; omega⟩) := by
  entry_read; pointwise

/-- The result array: every point writes its own block of the reference's array. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, k0_pay3, REF]
  reads_congr
  all_goals blk_simp [iblk, idx t]
  · rw [v0]; blk_ext [idx t]
  · rw [v3]; blk_ext [idx t]

/-- The kernel's array and the reference's are one array. -/
theorem algebraic : @Cert.algebraic_Kernel19Ideal_Reference19Ideal Cert.Kernel19Ideal.Gen.facts Cert.Reference19Ideal.Gen.facts :=
  fun m g m' g' _ hm => ⟨fun c => (dats m 0 c).arrAt 2 cfg0.N, Cert.Kernel19Ideal.Value.run_blocks m g,
    (θ_run Cert.Reference19Ideal.defs _ _).mono
      (fun r h c => ⟨((h c).1.trans (by simp only [(hm c).1, (hm c).2])).trans (final m c).symm, (h c).2⟩)
      (Cert.Reference19Ideal.Value.run m' g')⟩

end Cert.Proof.Mlp1F

end
-- ==== Proof.Mlp2F.lean ====
/- THE SECOND MLP PRODUCT (`Kernel20`, `Reference20`): over the extended reals the tiled kernel and the plain product of the
   squared ReLU are equal arrays. The kernel contracts the 8192 hidden columns in four sections of 2048, each added into a
   scratch block that the last point of a run writes back. -/
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.Mlp2F

section
open Cert.Reference20Ideal Cert.Reference20Ideal.Gen Idealize.ShloMosaic Idealize.ShloMosaic.TcCoe

/-- The reference's term over the argument arrays. -/
abbrev REF (a : FVec Ideal S8192x8192 .f32) (w : FVec Ideal S8192x2048 .f32) : FVec Ideal S8192x2048 .f32 :=
  Host.dotGeneral dot_S8192x8192_S8192x2048_S8192x2048_1_0_0_1_n_n none (mulf (maximumf a (broadcastInDim S8192x8192 ![] bcast_S_S8192x8192 (constant S_ .f32 0x00000000#32))) (maximumf a (broadcastInDim S8192x8192 ![] bcast_S_S8192x8192 (constant S_ .f32 0x00000000#32)))) w

end

open Cert.Kernel20Ideal Cert.Kernel20Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val % 4, t.val / 8, 0]
    ∧ win0_1.index t = ![t.val % 4, 0, t.val % 8 / 4]
    ∧ win0_2.index t = ![t.val / 8, t.val % 8 / 4] :=
  (by decide +kernel : ∀ t : Fin grid0.N, _)

/-- What the host prepares: the columns of the hidden units and the rows of the weight in four sections. -/
theorem v2 (c : Dev nD) (i : S4x8192x2048.Idx) : V m c main_v2 i = m ((c : Thread nD τ).loc main_arg0) (ix2 (i 1) ⟨(i 0).val * 2048 + (i 2).val, by idx_bounds; omega⟩) := by
  entry_read; pointwise
theorem v4 (c : Dev nD) (i : S4x2048x2048.Idx) : V m c main_v4 i = m ((c : Thread nD τ).loc main_arg1) (ix2 ⟨(i 0).val * 2048 + (i 1).val, by idx_bounds; omega⟩ (i 2)) := by
  entry_read; pointwise

/-- The scratch starts at zero, and a point adds its part of the contraction. -/
theorem zero_at (j : S1024x1024.Idx) : k0_pay1 (F := Ideal) j = 0 := by pointwise [k0_pay1]
abbrev part (x0 : FVec Ideal S1x1024x2048 .bf16) (x1 : FVec Ideal S1x2048x1024 .bf16) (j : S1024x1024.Idx) : EReal :=
  ∑ k : Fin 2048, max (x0 (ix3 0 (j 0) k)) 0 * max (x0 (ix3 0 (j 0) k)) 0 * x1 (ix3 0 k (j 1))
theorem pay_at (x0 : FVec Ideal S1x1024x2048 .bf16) (x1 : FVec Ideal S1x2048x1024 .bf16) (acc : FVec Ideal S1024x1024 .f32)
    (j : S1024x1024.Idx) : k0_pay2 x0 acc x1 j = acc j + part x0 x1 j := by pointwise [k0_pay2]

/-- The scratch at a flushing point holds the run's four parts. -/
theorem scratch (c : Dev nD) (t : Fin cfg0.N) (ht : t.val % 4 = 3) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  rw [Pipeline.eq_sum_fin_of_reset_step_apply_of_flush (fun n h => (outsAt0 m c n h).2) 4 (fun _ => 0)
    (fun p j => part (iblk m c 0 p) (iblk m c 1 p) j)
    (fun t h j => by rw [outsAt0_A m c t h (by omega)]; frame_out; rw [pay_at, zero_at])
    (fun t h j => by
      by_cases h1 : t.val % 4 = 3
      · rw [outsAt0_C m c t h h1]; frame_out; rw [pay_at, read_unread_whole]
      · rw [outsAt0_B m c t h h1]; frame_out; rw [pay_at, read_unread_whole]) t ht j, zero_add]

/-- At a flushing point the block written back is what the scratch then holds. -/
theorem written (c : Dev nD) (t : Fin cfg0.N) (ht : t.val % 4 = 3) :
    (outsAt0 m c t.val t.isLt).1 = (outsAt0 m c t.val t.isLt).2 := by
  rw [outsAt0_C m c t (by omega) ht]; frame_out

/-- The result array: every run of four points writes its own block of the reference's array. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht]
  rw [scratch m c t ht]
  pointwise [REF]
  refine Fin.sum_mul_add_congr fun s k hl => ?_
  reads_congr
  all_goals blk_simp [iblk]
  · rw [v2]; blk_ext [idx t, idx ⟨_, Pipeline.run_point_lt_of_flush t ht s⟩]
  · rw [v4]; blk_ext [idx t, idx ⟨_, Pipeline.run_point_lt_of_flush t ht s⟩]

/-- The kernel's array and the reference's are one array. -/
theorem algebraic : @Cert.algebraic_Kernel20Ideal_Reference20Ideal Cert.Kernel20Ideal.Gen.facts Cert.Reference20Ideal.Gen.facts :=
  fun m g m' g' _ hm => ⟨fun c => (dats m 0 c).arrAt 2 cfg0.N, Cert.Kernel20Ideal.Value.run_blocks m g,
    (θ_run Cert.Reference20Ideal.defs _ _).mono
      (fun r h c => ⟨((h c).1.trans (by simp only [(hm c).1, (hm c).2])).trans (final m c).symm, (h c).2⟩)
      (Cert.Reference20Ideal.Value.run m' g')⟩

end Cert.Proof.Mlp2F

end
-- ==== Proof.ModF.lean ====
/- THE MODULATED INPUT OF THE MLP (`Kernel21`, `Reference21`): over the extended reals the row kernel's and the reference's arrays are
   equal. -/
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.Pointwise

@[expose] public section

set_option maxRecDepth 16384

noncomputable section

namespace Cert.Proof.ModF

section
open Cert.Reference21Ideal Cert.Reference21Ideal.Gen Idealize.ShloMosaic Idealize.ShloMosaic.TcCoe

/-- The reference's term over the argument arrays. -/
abbrev REF (x : FVec Ideal S8192x2048 .f32) (w : FVec Ideal S6x2048 .f32) : FVec Ideal S8192x2048 .bf16 :=
  truncf .bf16 (addf (mulf x (broadcastInDim S8192x2048 ![0, 1] bcast_S1x2048_S8192x2048_0_1 (addf (broadcastInDim S1x2048 ![] bcast_S_S1x2048 (constant S_ .f32 0x3F800000#32)) (extractStridedSlice S1x2048 ![4, 0] w slices_S6x2048_S1x2048_4_0)))) (broadcastInDim S8192x2048 ![0, 1] bcast_S1x2048_S8192x2048_0_1 (extractStridedSlice S1x2048 ![3, 0] w slices_S6x2048_S1x2048_3_0))) bitsLt_bf16_f32

end

open Cert.Kernel21Ideal Cert.Kernel21Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The array of output window 2. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, REF]
  reads_congr
  all_goals blk_ext [iblk, idx t]

/-- The kernel's arrays and the reference's are the same arrays. -/
theorem algebraic : @Cert.algebraic_Kernel21Ideal_Reference21Ideal Cert.Kernel21Ideal.Gen.facts Cert.Reference21Ideal.Gen.facts :=
  fun m g m' g' _ hm => ⟨fun c => (dats m 0 c).arrAt 2 cfg0.N, Cert.Kernel21Ideal.Value.run_blocks m g,
    (θ_run Cert.Reference21Ideal.defs _ _).mono
      (fun r h c => ⟨((h c).1.trans (by simp only [(hm c).1, (hm c).2])).trans (final m c).symm,
        (h c).2⟩)
      (Cert.Reference21Ideal.Value.run m' g')⟩

end Cert.Proof.ModF

end
-- ==== Proof.ActF.lean ====
/- THE SKIP AND THE GELU (`Kernel22`, `Reference22`): over the extended reals the row kernel's two arrays and the reference's are
   equal. -/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Pointwise
public import proofs.«01_k».proof.Proof.Finite

@[expose] public section

set_option maxRecDepth 16384

noncomputable section

namespace Cert.Proof.ActF

section
open Cert.Reference22Ideal Cert.Reference22Ideal.Gen Idealize.ShloMosaic Idealize.ShloMosaic.TcCoe

/-- The reference's sum. -/
abbrev X (a : FVec Ideal S8192x1024 .f32) (b : FVec Ideal S8192x1024 .f32) (d : FVec Ideal S8192x1024 .f32) (w : FVec Ideal S1x1024 .f32) : FVec Ideal S8192x1024 .f32 :=
  addf (addf (mulf a (broadcastInDim S8192x1024 ![0, 1] bcast_S1x1024_S8192x1024_0_1 w)) b) d

/-- The reference's gelu of it. -/
abbrev Y (a : FVec Ideal S8192x1024 .f32) (b : FVec Ideal S8192x1024 .f32) (d : FVec Ideal S8192x1024 .f32) (w : FVec Ideal S1x1024 .f32) : FVec Ideal S8192x1024 .f32 :=
  mulf (mulf (broadcastInDim S8192x1024 ![] bcast_S_S8192x1024 (constant S_ .f32 0x3F000000#32)) (addf (addf (mulf a (broadcastInDim S8192x1024 ![0, 1] bcast_S1x1024_S8192x1024_0_1 w)) b) d)) (addf (broadcastInDim S8192x1024 ![] bcast_S_S8192x1024 (constant S_ .f32 0x3F800000#32)) (Host.tanh (mulf (broadcastInDim S8192x1024 ![] bcast_S_S8192x1024 (constant S_ .f32 0x3F4C422A#32)) (addf (addf (addf (mulf a (broadcastInDim S8192x1024 ![0, 1] bcast_S1x1024_S8192x1024_0_1 w)) b) d) (mulf (broadcastInDim S8192x1024 ![] bcast_S_S8192x1024 (Host.divf (constant S_ .f32 0x472EAB00#32) (constant S_ .f32 0x49742400#32))) (mulf (mulf (addf (addf (mulf a (broadcastInDim S8192x1024 ![0, 1] bcast_S1x1024_S8192x1024_0_1 w)) b) d) (addf (addf (mulf a (broadcastInDim S8192x1024 ![0, 1] bcast_S1x1024_S8192x1024_0_1 w)) b) d)) (addf (addf (mulf a (broadcastInDim S8192x1024 ![0, 1] bcast_S1x1024_S8192x1024_0_1 w)) b) d)))))))

end

open Cert.Kernel22Ideal Cert.Kernel22Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- The kernel's named literal. -/
theorem cubic : Named.named (F := Ideal) Cert.Kernel22Ideal.κ "cubic" (φ := .f32) 0x3D372713#32 = ((8943 / 200000 : ℝ) : EReal) :=
  IdealRules.named_const.ideal_named_scalar _ _ _ _ rfl
theorem preserves : Cert.preserves_Kernel22_Kernel22Ideal :=
  IdealRules.named_const.statement Cert.Kernel22Ideal.κ "cubic" .f32 0x3D372713#32 ((8943 / 200000 : ℝ) : EReal) rfl

theorem bits_num : Ideal.ofBits .f32 0x472EAB00#32 = ((44715 : ℝ) : EReal) := by
  simp [Ideal.ofBits, Ideal.ieee, -EReal.coe_mul]; norm_num
theorem bits_den : Ideal.ofBits .f32 0x49742400#32 = ((1000000 : ℝ) : EReal) := by
  simp [Ideal.ofBits, Ideal.ieee, -EReal.coe_mul]; norm_num

/-- The cubic term's two spellings. -/
theorem cube (v : EReal) : Named.named (F := Ideal) Cert.Kernel22Ideal.κ "cubic" (φ := .f32) 0x3D372713#32 * v * v * v
    = Ideal.div (Ideal.ofBits .f32 0x472EAB00#32) (Ideal.ofBits .f32 0x49742400#32) * (v * v * v) := by
  rw [cubic, bits_num, bits_den, Ideal.div_coe (by norm_num), ← EReal.coe_mul, mul_assoc, mul_assoc, mul_assoc]
  norm_num

/-- The array of output window 4. -/
theorem finalX (c : Dev nD) : (dats m 0 c).arrAt 4 cfg0.N
    = X (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, X]
  reads_congr
  all_goals blk_ext [iblk, idx t]

/-- The array of output window 5. -/
theorem finalY (c : Dev nD) : (dats m 0 c).arrAt 5 cfg0.N
    = Y (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, Y]
  simp only [cube]
  reads_congr
  all_goals blk_ext [iblk, idx t]

/-- The kernel's arrays and the reference's are the same arrays. -/
theorem algebraic : @Cert.algebraic_Kernel22Ideal_Reference22Ideal Cert.Kernel22Ideal.Gen.facts Cert.Reference22Ideal.Gen.facts :=
  fun m g m' g' _ hm => ⟨fun c => (dats m 0 c).arrAt 4 cfg0.N, fun c => (dats m 0 c).arrAt 5 cfg0.N, Cert.Kernel22Ideal.Value.run_blocks m g,
    (θ_run Cert.Reference22Ideal.defs _ _).mono
      (fun r h c => ⟨((h c).1.trans (by simp only [(hm c).1, (hm c).2.1, (hm c).2.2.1, (hm c).2.2.2])).trans (finalX m c).symm,
        ((h c).2.1.trans (by simp only [(hm c).1, (hm c).2.1, (hm c).2.2.1, (hm c).2.2.2])).trans (finalY m c).symm,
        (h c).2.2⟩)
      (Cert.Reference22Ideal.Value.run m' g')⟩

end Cert.Proof.ActF

end
-- ==== Proof.Silu.lean ====
/- THE SIGMOID'S QUOTIENT, over the extended reals: the product with the reciprocal of one plus an exponential is the quotient. -/
module

public import Idealize.ShloMosaic.PureOps.Ideal
public import Idealize.ShloMosaic.Lib.Pipeline.ValueKit

@[expose] public section

noncomputable section

namespace Cert.Proof.Silu

open Idealize.ShloMosaic

theorem exp_nonneg (z : EReal) : 0 ≤ Ideal.exp z := by
  induction z with
  | bot => exact le_refl (0 : EReal)
  | top => exact le_top
  | coe r => rw [Ideal.exp_coe]; exact EReal.coe_nonneg.mpr (Real.exp_pos r).le

theorem den_ne (z : EReal) : 1 + Ideal.exp z ≠ 0 :=
  (lt_of_lt_of_le zero_lt_one (le_add_of_nonneg_right (exp_nonneg z))).ne'

/-- The product with the denominator's reciprocal is the quotient. -/
theorem mul_div (x z : EReal) : x * Ideal.div 1 (1 + Ideal.exp z) = Ideal.div x (1 + Ideal.exp z) := by
  simp only [Ideal.div, if_neg (den_ne z), one_mul]

theorem swapm (x y : EReal) : x * y = y * x := mul_comm x y

end Cert.Proof.Silu

end
-- ==== Proof.MergeF.lean ====
/- THE NORMED OUTPUTS SIDE BY SIDE (`Kernel23`, `Reference23`): over the extended reals the row kernel's array, its two halves stored
   separately, is the reference's. -/
module

public import proofs.«01_k».proof.Defs
public import proofs.«01_k».proof.Proof.Gen.Kernel23Ideal.Value
public import proofs.«01_k».proof.Proof.Gen.Reference23Ideal.Run
public import Idealize.ShloMosaic.Lib.Pipeline.ValueKit
public import Idealize.ShloMosaic.Lib.Pointwise
public import proofs.«01_k».proof.Proof.Silu
public import proofs.«01_k».proof.Proof.Gen.Reference23Ideal.Read

@[expose] public section

set_option maxRecDepth 16384

noncomputable section

namespace Cert.Proof.MergeF

section
open Cert.Reference23Ideal Cert.Reference23Ideal.Gen Idealize.ShloMosaic Idealize.ShloMosaic.TcCoe

/-- The reference's term over the argument arrays. -/
abbrev REF (a : FVec Ideal S8192x1024 .f32) (g : FVec Ideal S8192x1024 .f32) (z : FVec Ideal S8192x1024 .f32) (b : FVec Ideal S1x1024 .f32) (w : FVec Ideal S1x1024 .f32) (v : FVec Ideal S1x1024 .f32) : FVec Ideal S8192x2048 .bf16 :=
  truncf .bf16 (concatenate S8192x2048 1 [⟨S8192x1024, (mulf (mulf a (broadcastInDim S8192x1024 ![0, 1] bcast_S8192x1_S8192x1024_0_1 (Host.rsqrt (addf (Host.divf (broadcastInDim S8192x1 ![0] bcast_S8192_S8192x1_0 (Host.reduceAdd (mulf a a) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 w))⟩, ⟨S8192x1024, (mulf (mulf (mulf g (Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf z (broadcastInDim S8192x1024 ![0, 1] bcast_S1x1024_S8192x1024_0_1 b))))))) (broadcastInDim S8192x1024 ![0, 1] bcast_S8192x1_S8192x1024_0_1 (Host.rsqrt (addf (Host.divf (broadcastInDim S8192x1 ![0] bcast_S8192_S8192x1_0 (Host.reduceAdd (mulf (mulf g (Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf z (broadcastInDim S8192x1024 ![0, 1] bcast_S1x1024_S8192x1024_0_1 b))))))) (mulf g (Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf z (broadcastInDim S8192x1024 ![0, 1] bcast_S1x1024_S8192x1024_0_1 b)))))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 v))⟩] concatenates_S8192x1024_S8192x1024_S8192x2048_d1) bitsLt_bf16_f32

end

open Cert.Kernel23Ideal Cert.Kernel23Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0] :=
  (by decide +kernel : ∀ t : Fin grid0.N, _)

/-- The array of output window 6. -/
theorem final (c : Dev nD) : (dats m 0 c).arrAt 6 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  canon_tiles x h using Gen.cover0_6 ..
  · open_payloads
    pointwise [k0_pay1, k0_pay3, REF]
    split
    · rename_i hc
      exfalso
      blk_simp [idx t] at hc
      omega
    simp only [zero_sub, Silu.mul_div]
    reads_congr
    all_goals blk_ext [iblk, idx t]
  · open_payloads
    pointwise [k0_pay2, REF]
    split
    case isFalse hc =>
      exfalso
      blk_simp [idx t] at hc
      omega
    reads_congr
    all_goals blk_ext [iblk, idx t]

/-- The kernel's arrays and the reference's are the same arrays. -/
theorem algebraic : @Cert.algebraic_Kernel23Ideal_Reference23Ideal Cert.Kernel23Ideal.Gen.facts Cert.Reference23Ideal.Gen.facts :=
  fun m g m' g' _ hm => ⟨fun c => (dats m 0 c).arrAt 6 cfg0.N, Cert.Kernel23Ideal.Value.run_blocks m g,
    (θ_run Cert.Reference23Ideal.defs _ _).mono
      (fun r h c => ⟨((h c).1.trans ((Cert.Reference23Ideal.Read.val_main_v34_eq _ _ _ _ _ _).trans (by simp only [(hm c).1, (hm c).2.1, (hm c).2.2.1, (hm c).2.2.2.1, (hm c).2.2.2.2.1, (hm c).2.2.2.2.2]; exact (Cert.Reference23Ideal.Read.val_main_v34_eq _ _ _ _ _ _).symm))).trans (final m c).symm,
        (h c).2⟩)
      (Cert.Reference23Ideal.Value.run m' g')⟩

end Cert.Proof.MergeF

end
-- ==== Proof.LnF.lean ====
/- THE RESIDUAL AND THE LAYER NORM AFTER IT (`Kernel24`, `Reference24`): over the extended reals the row kernel's and the reference's
   arrays are equal. -/
module

public import proofs.«01_k».proof.Defs
public import proofs.«01_k».proof.Proof.Gen.Kernel24Ideal.Value
public import proofs.«01_k».proof.Proof.Gen.Reference24Ideal.Run
public import Idealize.ShloMosaic.Lib.Pipeline.ValueKit
public import Idealize.ShloMosaic.Lib.Pointwise

@[expose] public section

set_option maxRecDepth 16384

noncomputable section

namespace Cert.Proof.LnF

section
open Cert.Reference24Ideal Cert.Reference24Ideal.Gen Idealize.ShloMosaic Idealize.ShloMosaic.TcCoe

/-- The reference's term over the argument arrays. -/
abbrev REF (x : FVec Ideal S8192x2048 .f32) (b : FVec Ideal S8192x2048 .f32) (g : FVec Ideal S6x2048 .f32) (w : FVec Ideal S1x2048 .f32) (v : FVec Ideal S1x2048 .f32) : FVec Ideal S8192x2048 .f32 :=
  addf (mulf (mulf (subf (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![5, 0] g slices_S6x2048_S1x2048_5_0))) b)) (broadcastInDim S8192x2048 ![0, 1] bcast_S8192x1_S8192x2048_0_1 (Host.divf (broadcastInDim S8192x1 ![0] bcast_S8192_S8192x1_0 (Host.reduceAdd (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![5, 0] g slices_S6x2048_S1x2048_5_0))) b)) (constant S_ .f32 0x00000000#32) reducesTo_S8192x2048_S8192_d1 h_S_)) (broadcastInDim S8192x1 ![] bcast_S_S8192x1 (constant S_ .f32 0x45000000#32))))) (broadcastInDim S8192x2048 ![0, 1] bcast_S8192x1_S8192x2048_0_1 (Host.rsqrt (addf (Host.divf (broadcastInDim S8192x1 ![0] bcast_S8192_S8192x1_0 (Host.reduceAdd (mulf (subf (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![5, 0] g slices_S6x2048_S1x2048_5_0))) b)) (broadcastInDim S8192x2048 ![0, 1] bcast_S8192x1_S8192x2048_0_1 (Host.divf (broadcastInDim S8192x1 ![0] bcast_S8192_S8192x1_0 (Host.reduceAdd (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![5, 0] g slices_S6x2048_S1x2048_5_0))) b)) (constant S_ .f32 0x00000000#32) reducesTo_S8192x2048_S8192_d1 h_S_)) (broadcastInDim S8192x1 ![] bcast_S_S8192x1 (constant S_ .f32 0x45000000#32))))) (subf (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![5, 0] g slices_S6x2048_S1x2048_5_0))) b)) (broadcastInDim S8192x2048 ![0, 1] bcast_S8192x1_S8192x2048_0_1 (Host.divf (broadcastInDim S8192x1 ![0] bcast_S8192_S8192x1_0 (Host.reduceAdd (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![5, 0] g slices_S6x2048_S1x2048_5_0))) b)) (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 w)) (broadcastInDim S8192x2048 ![0, 1] bcast_S1x2048_S8192x2048_0_1 v)

end

open Cert.Kernel24Ideal Cert.Kernel24Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0] :=
  (by decide +kernel : ∀ t : Fin grid0.N, _)

/-- The array of output window 5. -/
theorem final (c : Dev nD) : (dats m 0 c).arrAt 5 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  pointwise [k0_pay1, REF]
  reads_congr
  all_goals blk_ext [iblk, idx t]

/-- The kernel's arrays and the reference's are the same arrays. -/
theorem algebraic : @Cert.algebraic_Kernel24Ideal_Reference24Ideal Cert.Kernel24Ideal.Gen.facts Cert.Reference24Ideal.Gen.facts :=
  fun m g m' g' _ hm => ⟨fun c => (dats m 0 c).arrAt 5 cfg0.N, Cert.Kernel24Ideal.Value.run_blocks m g,
    (θ_run Cert.Reference24Ideal.defs _ _).mono
      (fun r h c => ⟨((h c).1.trans (by simp only [Cert.Reference24Ideal.Value.res_main_v29, (hm c).1, (hm c).2.1, (hm c).2.2.1, (hm c).2.2.2.1, (hm c).2.2.2.2])).trans (final m c).symm,
        (h c).2⟩)
      (Cert.Reference24Ideal.Value.run m' g')⟩

end Cert.Proof.LnF

end
-- ==== Proof.Loss.lean ====
/- THE LOSS HEAD (`Kernel25`, `Reference25`): over the extended reals the row kernel's gradient and its sums of squares, added up over
   32 blocks of 256 rows, are the reference's. -/
module

public import proofs.«01_k».proof.Defs
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import proofs.«01_k».proof.Proof.Finite
public import Idealize.ShloMosaic.Lib.Pipeline.ReadBack

@[expose] public section

set_option maxRecDepth 16384

noncomputable section

namespace Cert.Proof.Loss

section
open Cert.Reference25Ideal Cert.Reference25Ideal.Gen Idealize.ShloMosaic Idealize.ShloMosaic.TcCoe

/-- The reference's gradient. -/
abbrev D (x : FVec Ideal S8192x2048 .f32) (y : FVec Ideal S8192x2048 .f32) : FVec Ideal S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf x y))

/-- The reference's sums of squares over the rows. -/
abbrev S (x : FVec Ideal S8192x2048 .f32) (y : FVec Ideal S8192x2048 .f32) : FVec Ideal S1x2048 .f32 :=
  broadcastInDim S1x2048 ![1] bcast_S2048_S1x2048_1 (Host.reduceAdd (mulf (subf x y) (subf x y)) (constant S_ .f32 0x00000000#32) reducesTo_S8192x2048_S2048_d0 h_S_)

end

open Cert.Kernel25Ideal Cert.Kernel25Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![t.val, 0]
    ∧ win0_2.index t = ![t.val, 0]
    ∧ win0_3.index t = ![0, 0] :=
  (by decide +kernel : ∀ t : Fin grid0.N, _)

theorem bits_s : Ideal.ofBits .f32 0x3A000000#32 = ((1/2048 : ℝ) : EReal) := by
  simp [Ideal.ofBits, Ideal.ieee, -EReal.coe_mul]; norm_num
theorem bits_n : Ideal.ofBits .f32 0x45000000#32 = ((2048 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num

/-- The kernel's one factor is the product of the reference's factors. -/
theorem scale (e : EReal) : e * Ideal.ofBits .f32 0x3A000000#32
    = Ideal.div (Ideal.ofBits .f32 0x3F000000#32) (Ideal.ofBits .f32 0x45000000#32) * (Ideal.ofBits .f32 0x40000000#32 * e) := by
  rw [bits_s, bits_n, bits_two, Finite.bits_half, Ideal.div_coe (by norm_num), ← mul_assoc, ← EReal.coe_mul, ← EReal.coe_mul, mul_comm]
  norm_num

/-- One block of rows' part of the sums. -/
abbrev part (x y : FVec Ideal S256x2048 .f32) (j : S1x2048.Idx) : EReal :=
  ∑ k : Fin 256, (x (ix2 k (j 1)) - y (ix2 k (j 1))) * (x (ix2 k (j 1)) - y (ix2 k (j 1)))
theorem zero (j : S1x2048.Idx) : k0_pay3 (F := Ideal) j = 0 := by pointwise [k0_pay3]
theorem pay_at (x y : FVec Ideal S256x2048 .f32) (acc : FVec Ideal S1x2048 .f32) (j : S1x2048.Idx) :
    k0_pay4 x y acc j = acc j + part x y j := by pointwise [k0_pay1, k0_pay4]

theorem acc (c : Dev nD) (t : Fin cfg0.N) (ht : t.val % 32 = 31) (j : S1x2048.Idx) :
    (outsAt0 m c t.val t.isLt).2 j = ∑ s : Fin 32, part (iblk m c 0 ⟨32 * (t.val / 32) + s.val, Pipeline.run_point_lt_of_flush t ht s⟩)
      (iblk m c 1 ⟨32 * (t.val / 32) + s.val, Pipeline.run_point_lt_of_flush t ht s⟩) j := by
  rw [Pipeline.eq_sum_fin_of_reset_step_apply_of_flush (fun n h => (outsAt0 m c n h).2) 32 (fun _ => 0)
    (fun p j => part (iblk m c 0 p) (iblk m c 1 p) j)
    (fun t h j => by rw [outsAt0_A m c t h]; frame_out; rw [pay_at, zero])
    (fun t h j => by rw [outsAt0_B m c t h]; frame_out; rw [pay_at]) t ht j, zero_add]

/-- The array of output window 2. -/
theorem finalD (c : Dev nD) : (dats m 0 c).arrAt 2 cfg0.N
    = D (m ((c : Thread nD τ).loc main_arg0)) (m ((c : Thread nD τ).loc main_arg1)) := by
  refine (dats m 0 c).arrAt_eq_of_covers 2 _ (by decide +kernel) fun t hf y => ?_
  blk_simp
  rw [after0_2]
  have e : (outsAt0 m c t.val t.isLt).1 = k0_pay2 (iblk m c 0 t) (iblk m c 1 t) := by
    by_cases h : t.val % 32 = 0
    · rw [outsAt0_A m c t h]; frame_out
    · rw [outsAt0_B m c t h]; frame_out
  rw [e]
  pointwise [k0_pay1, k0_pay2, D]
  rw [scale]
  reads_congr
  all_goals blk_ext [iblk, idx t]

/-- The array of output window 3. -/
theorem finalS (c : Dev nD) : (dats m 0 c).arrAt 3 cfg0.N
    = S (m ((c : Thread nD τ).loc main_arg0)) (m ((c : Thread nD τ).loc main_arg1)) := by
  refine (dats m 0 c).arrAt_eq_of_covers 3 _ (by decide +kernel) fun t hf y => ?_
  have ht := (flush0_3 t).mp hf
  blk_simp
  rw [after0_3, acc m c t ht]
  pointwise [S]
  refine Fin.sum_mul_add_congr fun s k hl => ?_
  reads_congr
  all_goals blk_ext [iblk, idx t, idx ⟨_, Pipeline.run_point_lt_of_flush t ht s⟩]

/-- The kernel's arrays and the reference's are the same arrays. -/
theorem algebraic : @Cert.algebraic_Kernel25Ideal_Reference25Ideal Cert.Kernel25Ideal.Gen.facts Cert.Reference25Ideal.Gen.facts :=
  fun m g m' g' _ hm => ⟨fun c => (dats m 0 c).arrAt 2 cfg0.N, fun c => (dats m 0 c).arrAt 3 cfg0.N, Cert.Kernel25Ideal.Value.run_blocks m g,
    (θ_run Cert.Reference25Ideal.defs _ _).mono
      (fun r h c => ⟨((h c).1.trans (by simp only [(hm c).1, (hm c).2])).trans (finalD m c).symm,
        ((h c).2.1.trans (by simp only [(hm c).1, (hm c).2])).trans (finalS m c).symm,
        (h c).2.2⟩)
      (Cert.Reference25Ideal.Value.run m' g')⟩

end Cert.Proof.Loss

end
-- ==== Proof.AdaF.lean ====
/- THE MODULATION'S PRODUCT (`Kernel26`, `Reference26`): over the extended reals the tiled kernel and the plain product of the SiLU
   are equal arrays. -/
module

public import proofs.«01_k».proof.Defs
public import proofs.«01_k».proof.Proof.Gen.Kernel26Ideal.Value
public import proofs.«01_k».proof.Proof.Gen.Reference26Ideal.Run
public import Idealize.ShloMosaic.Lib.Pipeline.ValueKit
public import Idealize.ShloMosaic.Lib.Pointwise
public import proofs.«01_k».proof.Proof.Silu

@[expose] public section

set_option maxRecDepth 16384

noncomputable section

namespace Cert.Proof.AdaF

section
open Cert.Reference26Ideal Cert.Reference26Ideal.Gen Idealize.ShloMosaic Idealize.ShloMosaic.TcCoe

/-- The reference's term over the argument arrays. -/
abbrev REF (x : FVec Ideal S16x2048 .f32) (w : FVec Ideal S2048x3072 .f32) (b : FVec Ideal S1x3072 .f32) : FVec Ideal S16x3072 .f32 :=
  addf (Host.dotGeneral dot_S16x2048_S2048x3072_S16x3072_1_0_0_1_n_n none (mulf x (Host.divf (broadcastInDim S16x2048 ![] bcast_S_S16x2048 (constant S_ .f32 0x3F800000#32)) (addf (broadcastInDim S16x2048 ![] bcast_S_S16x2048 (constant S_ .f32 0x3F800000#32)) (Host.exp (Host.negf x))))) w) (broadcastInDim S16x3072 ![0, 1] bcast_S1x3072_S16x3072_0_1 b)

end

open Cert.Kernel26Ideal Cert.Kernel26Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- The array of output window 3. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold Gen.outsAt0
  frame_out
  pointwise [k0_pay1, k0_pay2, k0_pay3, REF]
  simp only [zero_add, zero_sub, Silu.mul_div]
  reads_congr
  all_goals blk_ext [iblk, idx t]

/-- The kernel's arrays and the reference's are the same arrays. -/
theorem algebraic : @Cert.algebraic_Kernel26Ideal_Reference26Ideal Cert.Kernel26Ideal.Gen.facts Cert.Reference26Ideal.Gen.facts :=
  fun m g m' g' _ hm => ⟨fun c => (dats m 0 c).arrAt 3 cfg0.N, Cert.Kernel26Ideal.Value.run_blocks m g,
    (θ_run Cert.Reference26Ideal.defs _ _).mono
      (fun r h c => ⟨((h c).1.trans (by simp only [(hm c).1, (hm c).2.1, (hm c).2.2])).trans (final m c).symm,
        (h c).2⟩)
      (Cert.Reference26Ideal.Value.run m' g')⟩

end Cert.Proof.AdaF

end
-- ==== Proof.AdaW.lean ====
/- THE GRADIENT OF THE MODULATION'S WEIGHT (`Kernel27`, `Reference27`): over the extended reals the tiled kernel and the plain
   product are equal arrays. -/
module

public import proofs.«01_k».proof.Defs
public import proofs.«01_k».proof.Proof.Gen.Kernel27Ideal.Value
public import proofs.«01_k».proof.Proof.Gen.Reference27Ideal.Run
public import Idealize.ShloMosaic.Lib.Pipeline.ValueKit
public import Idealize.ShloMosaic.Lib.Pointwise
public import proofs.«01_k».proof.Proof.Silu

@[expose] public section

set_option maxRecDepth 16384

noncomputable section

namespace Cert.Proof.AdaW

section
open Cert.Reference27Ideal Cert.Reference27Ideal.Gen Idealize.ShloMosaic Idealize.ShloMosaic.TcCoe

/-- The reference's term over the argument arrays. -/
abbrev REF (x : FVec Ideal S16x2048 .f32) (g : FVec Ideal S16x3072 .f32) : FVec Ideal S2048x3072 .f32 :=
  transpose S2048x3072 [1, 0] (Host.dotGeneral dot_S16x3072_S16x2048_S3072x2048_0_0_1_1_n_n none g (mulf x (Host.divf (broadcastInDim S16x2048 ![] bcast_S_S16x2048 (constant S_ .f32 0x3F800000#32)) (addf (broadcastInDim S16x2048 ![] bcast_S_S16x2048 (constant S_ .f32 0x3F800000#32)) (Host.exp (Host.negf x)))))) transposes_S3072x2048_S2048x3072_1_0

end

open Cert.Kernel27Ideal Cert.Kernel27Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![0, t.val / 3]
    ∧ win0_1.index t = ![0, t.val % 3]
    ∧ win0_2.index t = ![t.val / 3, t.val % 3] :=
  (by decide +kernel : ∀ t : Fin grid0.N, _)

/-- The array of output window 2. -/
theorem final (c : Dev nD) : (dats m 0 c).arrAt 2 cfg0.N
    = REF (m ((c : Thread nD τ).loc main_arg0)) (m ((c : Thread nD τ).loc main_arg3)) := by
  refine (dats m 0 c).arrAt_eq_of_covers 2 _ (by decide +kernel) fun t hf y => ?_
  blk_simp
  rw [after0_2]
  unfold Gen.outsAt0
  frame_out
  pointwise [k0_pay1, k0_pay2, REF]
  simp only [zero_add, zero_sub, Silu.mul_div]
  refine Eq.trans (α := EReal) (Finset.sum_congr rfl fun k _ => Silu.swapm _ _) ?_
  reads_congr
  all_goals blk_ext [iblk, idx t]

/-- The kernel's arrays and the reference's are the same arrays. -/
theorem algebraic : @Cert.algebraic_Kernel27Ideal_Reference27Ideal Cert.Kernel27Ideal.Gen.facts Cert.Reference27Ideal.Gen.facts :=
  fun m g m' g' _ hm => ⟨fun c => (dats m 0 c).arrAt 2 cfg0.N, Cert.Kernel27Ideal.Value.run_blocks m g,
    (θ_run Cert.Reference27Ideal.defs _ _).mono
      (fun r h c => ⟨((h c).1.trans (by simp only [(hm c).1, (hm c).2.1, (hm c).2.2.1, (hm c).2.2.2])).trans (final m c).symm,
        (h c).2⟩)
      (Cert.Reference27Ideal.Value.run m' g')⟩

end Cert.Proof.AdaW

end
-- ==== Proof.Adam.lean ====
/- THE OPTIMISER'S UPDATE (`Kernel28`, `Reference28`): over the extended reals the row kernel's and the reference's three arrays
   are equal. -/
module

public import proofs.«01_k».proof.Defs
public import proofs.«01_k».proof.Proof.Gen.Kernel28Ideal.Value
public import proofs.«01_k».proof.Proof.Gen.Reference28Ideal.Run
public import Idealize.ShloMosaic.Lib.Pipeline.ValueKit
public import Idealize.ShloMosaic.Lib.Pointwise

@[expose] public section

set_option maxRecDepth 16384

noncomputable section

namespace Cert.Proof.Adam

section
open Cert.Reference28Ideal Cert.Reference28Ideal.Gen Idealize.ShloMosaic Idealize.ShloMosaic.TcCoe

/-- The reference's update. -/
abbrev D (w : FVec Ideal S8192x2048 .f32) (g : FVec Ideal S8192x2048 .f32) (mo : FVec Ideal S8192x2048 .f32) (v : FVec Ideal S8192x2048 .f32) : FVec Ideal S8192x2048 .f32 :=
  mulf (broadcastInDim S8192x2048 ![] bcast_S_S8192x2048 (constant S_ .f32 0xBA83126F#32)) (addf (Host.divf (Host.divf (addf (mulf (broadcastInDim S8192x2048 ![] bcast_S_S8192x2048 (constant S_ .f32 0x3F666666#32)) mo) (mulf (broadcastInDim S8192x2048 ![] bcast_S_S8192x2048 (constant S_ .f32 0x3DCCCCCD#32)) g)) (broadcastInDim S8192x2048 ![] bcast_S_S8192x2048 (constant S_ .f32 0x3F26BD02#32))) (addf (Host.sqrt (Host.divf (addf (mulf (broadcastInDim S8192x2048 ![] bcast_S_S8192x2048 (constant S_ .f32 0x3F7FBE77#32)) v) (mulf (broadcastInDim S8192x2048 ![] bcast_S_S8192x2048 (constant S_ .f32 0x3A83126F#32)) (mulf g g))) (broadcastInDim S8192x2048 ![] bcast_S_S8192x2048 (constant S_ .f32 0x3C231ACC#32)))) (broadcastInDim S8192x2048 ![] bcast_S_S8192x2048 (constant S_ .f32 0x322BCC77#32)))) (mulf (broadcastInDim S8192x2048 ![] bcast_S_S8192x2048 (constant S_ .f32 0x3C23D70A#32)) w))

/-- The reference's first moment. -/
abbrev M (g : FVec Ideal S8192x2048 .f32) (mo : FVec Ideal S8192x2048 .f32) : FVec Ideal S8192x2048 .f32 :=
  addf (mulf (broadcastInDim S8192x2048 ![] bcast_S_S8192x2048 (constant S_ .f32 0x3F666666#32)) mo) (mulf (broadcastInDim S8192x2048 ![] bcast_S_S8192x2048 (constant S_ .f32 0x3DCCCCCD#32)) g)

/-- The reference's second moment. -/
abbrev W (g : FVec Ideal S8192x2048 .f32) (v : FVec Ideal S8192x2048 .f32) : FVec Ideal S8192x2048 .f32 :=
  addf (mulf (broadcastInDim S8192x2048 ![] bcast_S_S8192x2048 (constant S_ .f32 0x3F7FBE77#32)) v) (mulf (broadcastInDim S8192x2048 ![] bcast_S_S8192x2048 (constant S_ .f32 0x3A83126F#32)) (mulf g g))

end

open Cert.Kernel28Ideal Cert.Kernel28Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The array of output window 4. -/
theorem finalD (c : Dev nD) : (dats m 0 c).arrAt 4 cfg0.N
    = D (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, D]
  reads_congr
  all_goals blk_ext [iblk, idx t]

/-- The array of output window 5. -/
theorem finalM (c : Dev nD) : (dats m 0 c).arrAt 5 cfg0.N
    = M (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, M]
  reads_congr
  all_goals blk_ext [iblk, idx t]

/-- The array of output window 6. -/
theorem finalV (c : Dev nD) : (dats m 0 c).arrAt 6 cfg0.N
    = W (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay2, W]
  reads_congr
  all_goals blk_ext [iblk, idx t]

/-- The kernel's arrays and the reference's are the same arrays. -/
theorem algebraic : @Cert.algebraic_Kernel28Ideal_Reference28Ideal Cert.Kernel28Ideal.Gen.facts Cert.Reference28Ideal.Gen.facts :=
  fun m g m' g' _ hm => ⟨fun c => (dats m 0 c).arrAt 4 cfg0.N, fun c => (dats m 0 c).arrAt 5 cfg0.N, fun c => (dats m 0 c).arrAt 6 cfg0.N, Cert.Kernel28Ideal.Value.run_blocks m g,
    (θ_run Cert.Reference28Ideal.defs _ _).mono
      (fun r h c => ⟨((h c).1.trans (by simp only [(hm c).1, (hm c).2.1, (hm c).2.2.1, (hm c).2.2.2])).trans (finalD m c).symm,
        ((h c).2.1.trans (by simp only [(hm c).1, (hm c).2.1, (hm c).2.2.1, (hm c).2.2.2])).trans (finalM m c).symm,
        ((h c).2.2.1.trans (by simp only [(hm c).1, (hm c).2.1, (hm c).2.2.1, (hm c).2.2.2])).trans (finalV m c).symm,
        (h c).2.2.2⟩)
      (Cert.Reference28Ideal.Value.run m' g')⟩

end Cert.Proof.Adam

end
-- ==== Proof.Ln1.lean ====
/- THE GRADIENT OF THE POST-NORM (`Kernel29`, `Reference29`): over the extended reals, from finite arrays, the row kernel's
   closed form of the layer norm's gradient and the differentiated layer norm of the scaled residual are one array; the gradients
   of the branch, of its gate and of the norm's two vectors follow. The kernel adds the three row sums up over its 32 blocks of 256
   rows. -/
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Pre_finite_ln
public import proofs.«01_k».proof.Proof.Finite
public import Idealize.ShloMosaic.Lib.Pipeline.ReadBack

@[expose] public section

set_option maxRecDepth 16384

noncomputable section

namespace Cert.Proof.Ln1

open Cert.Kernel29Ideal Cert.Kernel29Ideal.Gen Idealize.ShloMosaic Idealize.ShloMosaic.TcCoe Idealize.SL.Sem

/-! ## One row, in the reals -/

theorem coe_sum {n : ℕ} (f : Fin n → ℝ) : (∑ k, ((f k : ℝ) : EReal)) = ((∑ k, f k : ℝ) : EReal) := by
  induction (Finset.univ : Finset (Fin n)) using Finset.induction_on with
  | empty => simp
  | insert a s h ih => rw [Finset.sum_insert h, Finset.sum_insert h, ih, EReal.coe_add]

abbrev al : ℝ := 14107901 / 2 ^ 23
abbrev ep : ℝ := 10995116 / 2 ^ 40
theorem bits_al : Ideal.ofBits .f32 0x3FD744FD#32 = ((al : ℝ) : EReal) := by
  simp [Ideal.ofBits, Ideal.ieee, -EReal.coe_mul, al]; norm_num
theorem bits_ep : Ideal.ofBits .f32 0x3727C5AC#32 = ((ep : ℝ) : EReal) := by
  simp [Ideal.ofBits, Ideal.ieee, -EReal.coe_mul, ep]; norm_num
theorem bits_n : Ideal.ofBits .f32 0x45000000#32 = ((2048 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_mhalf : Ideal.ofBits .f32 0xBF000000#32 = ((-(1/2) : ℝ) : EReal) := by
  simp [Ideal.ofBits, Ideal.ieee, -EReal.coe_mul, -EReal.coe_neg]; norm_num
theorem n_ne : (2048 : ℝ) ≠ 0 := by norm_num

abbrev Row := Fin 2048 → ℝ
def S (x b g : Row) : Row := fun k => al * x k + (1 + g k) * b k
def D (s : Row) : Row := fun k => s k - (∑ j, s j) * (1 / 2048)
def V (s : Row) : ℝ := (∑ j, D s j * D s j) * (1 / 2048) + ep
def R (s : Row) : ℝ := (√(V s))⁻¹
def DS (s y : Row) : Row := fun k =>
  R s * ((y k - (∑ j, y j) * (1 / 2048)) - D s k * R s * ((∑ j, y j * (D s j * R s)) * (1 / 2048)))

theorem V_pos (s : Row) : 0 < V s :=
  add_pos_of_nonneg_of_pos (mul_nonneg (Finset.sum_nonneg fun _ _ => mul_self_nonneg _) (by norm_num)) (by norm_num)
theorem rsqrt_V (s : Row) : Ideal.rsqrt ((V s : ℝ) : EReal) = ((R s : ℝ) : EReal) := by
  rw [Ideal.rsqrt_coe, if_neg (V_pos s).le.not_gt, if_neg (V_pos s).ne']; rfl
theorem R_sq (s : Row) : R s * R s = 1 / V s := by
  unfold R; rw [← mul_inv, Real.mul_self_sqrt (V_pos s).le, one_div]
theorem D_sum (s : Row) : ∑ k, D s k = 0 := by
  simp only [D, Finset.sum_sub_distrib, Finset.sum_const, Finset.card_univ, Fintype.card_fin, nsmul_eq_mul]; push_cast; ring

/-- The differentiated norm's spelling of the same row. -/
theorem DS_eq (s y : Row) (k : Fin 2048) :
    y k * R s + (∑ j, D s j * y j) * (-(1/2) * (R s * (1 / V s))) * (1 / 2048) * (2 * D s k)
      + ((∑ j, -(y j * R s)) + ∑ j, -((∑ j, D s j * y j) * (-(1/2) * (R s * (1 / V s))) * (1 / 2048) * (2 * D s j))) * (1 / 2048)
    = DS s y k := by
  have e : (∑ j, y j * (D s j * R s)) = R s * ∑ j, D s j * y j := by rw [Finset.mul_sum]; exact Finset.sum_congr rfl fun j _ => by ring
  have e2 : (∑ j, -((∑ j, D s j * y j) * (-(1/2) * (R s * (1 / V s))) * (1 / 2048) * (2 * D s j))) = 0 := by
    rw [Finset.sum_neg_distrib, ← Finset.mul_sum, ← Finset.mul_sum, D_sum]; ring
  have e3 : (∑ j, -(y j * R s)) = -(R s * ∑ j, y j) := by rw [Finset.sum_neg_distrib, ← Finset.sum_mul]; ring
  rw [e2, e3, DS, e, ← R_sq]
  ring

/-! ## The kernel's row -/

section
variable (v0 : FVec Ideal S1x2048 .f32) (v1 v2 v26 : FVec Ideal S256x2048 .f32) (v27 : FVec Ideal S1x2048 .f32) (p : Fin 256) (x b g t w : Row)
  (h0 : ∀ k, v0 (ix2 0 k) = (g k : EReal)) (h1 : ∀ k, v1 (ix2 p k) = (b k : EReal)) (h2 : ∀ k, v2 (ix2 p k) = (x k : EReal))
  (h26 : ∀ k, v26 (ix2 p k) = (t k : EReal)) (h27 : ∀ k, v27 (ix2 0 k) = (w k : EReal))
include h0 h1 h2

theorem pay3 (k : Fin 2048) : k0_pay3 (F := Ideal) v0 v1 v2 (ix2 p k) = ((D (S x b g) k : ℝ) : EReal) := by
  pointwise [k0_pay3]
  simp only [h0, h1, h2, bits_al, bits_n, Finite.bits_one, ← EReal.coe_one, ← EReal.coe_add, ← EReal.coe_mul, ← EReal.coe_sub, coe_sum, Ideal.div_coe n_ne]
  rfl

theorem pay4 : k0_pay4 (F := Ideal) v0 v1 v2 (ix2 p 0) = ((R (S x b g) : ℝ) : EReal) := by
  pointwise [k0_pay4]
  simp only [pay3 v0 v1 v2 p x b g h0 h1 h2, bits_ep, bits_n, ← EReal.coe_add, ← EReal.coe_mul, coe_sum, Ideal.div_coe n_ne]
  exact rsqrt_V _

theorem pay5 (k : Fin 2048) : k0_pay5 (F := Ideal) v0 v1 v2 (ix2 p k) = ((D (S x b g) k * R (S x b g) : ℝ) : EReal) := by
  pointwise [k0_pay5]
  rw [pay3 v0 v1 v2 p x b g h0 h1 h2, pay4 v0 v1 v2 p x b g h0 h1 h2, ← EReal.coe_mul]

include h26 h27
omit h0 h1 h2 in
theorem pay6 (k : Fin 2048) : k0_pay6 (F := Ideal) v26 v27 (ix2 p k) = ((t k * w k : ℝ) : EReal) := by
  pointwise [k0_pay6]
  rw [h26, h27, ← EReal.coe_mul]
omit h0 h1 h2 in
theorem pay7 (k : Fin 2048) : k0_pay7 (F := Ideal) v26 v27 (ix2 p k) = ((t k * w k - (∑ j, t j * w j) * (1 / 2048) : ℝ) : EReal) := by
  pointwise [k0_pay7]
  simp only [pay6 v26 v27 p t w h26 h27, bits_n, ← EReal.coe_mul, ← EReal.coe_sub, coe_sum, Ideal.div_coe n_ne]

theorem pay8 : k0_pay8 (F := Ideal) v0 v1 v2 v26 v27 (ix2 p 0) = ((∑ j, t j * w j * (D (S x b g) j * R (S x b g)) : ℝ) : EReal) := by
  pointwise [k0_pay8]
  simp only [pay5 v0 v1 v2 p x b g h0 h1 h2, pay6 v26 v27 p t w h26 h27, ← EReal.coe_mul, coe_sum]

theorem pay9 (k : Fin 2048) : k0_pay9 (F := Ideal) (k0_pay4 v0 v1 v2) (k0_pay5 v0 v1 v2) (k0_pay7 v26 v27) (k0_pay8 v0 v1 v2 v26 v27) (ix2 p k)
    = ((DS (S x b g) (fun k => t k * w k) k : ℝ) : EReal) := by
  pointwise [k0_pay9]
  simp only [pay4 v0 v1 v2 p x b g h0 h1 h2, pay5 v0 v1 v2 p x b g h0 h1 h2, pay7 v26 v27 p t w h26 h27,
    pay8 v0 v1 v2 v26 v27 p x b g t w h0 h1 h2 h26 h27, bits_n, ← EReal.coe_mul, ← EReal.coe_sub, Ideal.div_coe n_ne]
  rfl

end

/-! ## The reference's row -/

section
open Cert.Reference29Ideal.Read
variable (x0 x1 : FVec Ideal S8192x2048 .f32) (x2 : FVec Ideal S6x2048 .f32) (x3 : FVec Ideal S1x2048 .f32) (x5 : FVec Ideal S8192x2048 .f32)
  (q : Fin 8192) (x b g t w : Row)
  (h0 : ∀ i : S8192x2048.Idx, i 0 = q → x0 i = (x (i 1) : EReal)) (h1 : ∀ i : S8192x2048.Idx, i 0 = q → x1 i = (b (i 1) : EReal))
  (h2 : ∀ i : S6x2048.Idx, i 0 = (2 : Fin 6) → x2 i = (g (i 1) : EReal))
  (h3 : ∀ i : S1x2048.Idx, x3 i = (w (i 1) : EReal)) (h5 : ∀ i : S8192x2048.Idx, i 0 = q → x5 i = (t (i 1) : EReal))

theorem bits_zero : Ideal.ofBits .f32 0x00000000#32 = 0 := Ideal.ofBits_zero_f32

include h0 h1 h2

theorem s7 (i : S8192x2048.Idx) (hi : i 0 = q) : val_main_v7 (F := Ideal) x0 x1 x2 i = ((S x b g (i 1) : ℝ) : EReal) := by
  have e2 : x2 (idx_main_v0 (idx_main_v5 i)) = (g (i 1) : EReal) := h2 _ rfl
  simp only [val_main_v7_apply, val_main_v6_apply, val_main_v5_apply, val_main_v4_apply, val_main_v3_apply, val_main_cst_0_apply, val_main_v2_apply,
    val_main_v1_apply, val_main_cst_apply, val_main_v0_apply, h0 i hi, h1 i hi, e2, Ideal.addf_def, Ideal.mulf_def, Ideal.ofBits_def, bits_al,
    Finite.bits_one, ← EReal.coe_add, ← EReal.coe_mul]
  rfl
theorem s11 (i : Cert.Reference29Ideal.S8192x1.Idx) (hi : i 0 = q) : val_main_v11 (F := Ideal) x0 x1 x2 i = (((∑ k, S x b g k) * (1 / 2048) : ℝ) : EReal) := by
  have e : ∀ k, val_main_v7 (F := Ideal) x0 x1 x2 (idx_main_v8 (idx_main_v9 i) k) = ((S x b g k : ℝ) : EReal) := fun k => s7 x0 x1 x2 q x b g h0 h1 h2 _ hi
  simp only [val_main_v11_apply, val_main_v10_apply, val_main_cst_2_apply, val_main_v9_apply, val_main_v8_apply, val_main_cst_1_apply, e,
    Ideal.hostDivf_def, Ideal.ofBits_def, bits_n, bits_zero, zero_add, coe_sum, Ideal.div_coe n_ne, ← EReal.coe_mul]
theorem s13 (i : S8192x2048.Idx) (hi : i 0 = q) : val_main_v13 (F := Ideal) x0 x1 x2 i = ((D (S x b g) (i 1) : ℝ) : EReal) := by
  rw [val_main_v13_apply, val_main_v12_apply, s7 x0 x1 x2 q x b g h0 h1 h2 i hi, s11 x0 x1 x2 q x b g h0 h1 h2 _ hi, Ideal.subf_def, ← EReal.coe_sub]
  rfl
theorem s22 (i : S8192x2048.Idx) (hi : i 0 = q) : val_main_v22 (F := Ideal) x0 x1 x2 i = ((D (S x b g) (i 1) : ℝ) : EReal) := by
  rw [val_main_v22_apply, val_main_v21_apply, s7 x0 x1 x2 q x b g h0 h1 h2 i hi, s11 x0 x1 x2 q x b g h0 h1 h2 _ hi, Ideal.subf_def, ← EReal.coe_sub]
  rfl
theorem s24 (i : Cert.Reference29Ideal.S8192x1.Idx) (hi : i 0 = q) : val_main_v24 (F := Ideal) x0 x1 x2 i = ((V (S x b g) : ℝ) : EReal) := by
  have e : ∀ k, val_main_v13 (F := Ideal) x0 x1 x2 (idx_main_v17 (idx_main_v18 i) k) = ((D (S x b g) k : ℝ) : EReal) := fun k => s13 x0 x1 x2 q x b g h0 h1 h2 _ hi
  simp only [val_main_v24_apply, val_main_v23_apply, val_main_cst_6_apply, val_main_v20_apply, val_main_v19_apply, val_main_cst_5_apply, val_main_v18_apply,
    val_main_v17_apply, val_main_cst_4_apply, val_main_v14_apply, e, Ideal.addf_def, Ideal.mulf_def, Ideal.hostDivf_def, Ideal.ofBits_def, bits_n, bits_ep, bits_zero, zero_add,
    ← EReal.coe_mul, coe_sum, Ideal.div_coe n_ne, ← EReal.coe_add]
  rfl
theorem s25 (i : Cert.Reference29Ideal.S8192x1.Idx) (hi : i 0 = q) : val_main_v25 (F := Ideal) x0 x1 x2 i = ((R (S x b g) : ℝ) : EReal) := by
  rw [val_main_v25_apply, s24 x0 x1 x2 q x b g h0 h1 h2 i hi, Ideal.hostUnary_rsqrt_def, rsqrt_V]
theorem s28 (i : Cert.Reference29Ideal.S8192x1.Idx) (hi : i 0 = q) : val_main_v28 (F := Ideal) x0 x1 x2 i = ((-(1/2) * (R (S x b g) * (1 / V (S x b g))) : ℝ) : EReal) := by
  rw [val_main_v28_apply, val_main_v27_apply, val_main_cst_7_apply, val_main_v26_apply, s24 x0 x1 x2 q x b g h0 h1 h2 i hi, s25 x0 x1 x2 q x b g h0 h1 h2 i hi,
    Ideal.mulf_def, Ideal.hostDivf_def, Ideal.ofBits_def, bits_mhalf, Ideal.div_coe (V_pos _).ne', ← EReal.coe_mul, ← EReal.coe_mul]
/-- The normalized row. -/
theorem s30 (i : S8192x2048.Idx) (hi : i 0 = q) : val_main_v30 (F := Ideal) x0 x1 x2 i = ((D (S x b g) (i 1) * R (S x b g) : ℝ) : EReal) := by
  rw [val_main_v30_apply, val_main_v29_apply, s22 x0 x1 x2 q x b g h0 h1 h2 i hi, s25 x0 x1 x2 q x b g h0 h1 h2 _ hi, Ideal.mulf_def, ← EReal.coe_mul]

omit h0 h1 h2 in
theorem s35 (x5 : FVec Ideal S8192x2048 .f32) : val_main_v35 (F := Ideal) x5 = x5 := shapeCast_self _ _

include h3 h5
omit h0 h1 h2 in
theorem s42 (i : S8192x2048.Idx) (hi : i 0 = q) : val_main_v42 (F := Ideal) x3 x5 i = ((t (i 1) * w (i 1) : ℝ) : EReal) := by
  rw [val_main_v42_apply, s35, val_main_v41_apply, h5 i hi, h3, Ideal.mulf_def, ← EReal.coe_mul]
  rfl

abbrev C (s y : Row) : ℝ := (∑ j, D s j * y j) * (-(1/2) * (R s * (1 / V s))) * (1 / 2048)

theorem s45 (i : Cert.Reference29Ideal.S8192x1.Idx) (hi : i 0 = q) : val_main_v45 (F := Ideal) x0 x1 x2 x3 x5 i = ((∑ j, D (S x b g) j * (t j * w j) : ℝ) : EReal) := by
  have hi' : (idx_main_v45 i) 0 = q := by
    rw [← hi]; have h1 : (i 1).val < 1 := (i 1).isLt; exact Fin.ext (by show (i 0).val * 1 + (i 1).val = (i 0).val; omega)
  have e : ∀ k, val_main_v43 (F := Ideal) x0 x1 x2 x3 x5 (idx_main_v44 (idx_main_v45 i) k) = ((D (S x b g) k * (t k * w k) : ℝ) : EReal) := fun k => by
    rw [val_main_v43_apply, s22 x0 x1 x2 q x b g h0 h1 h2 _ hi', s42 x3 x5 q t w h3 h5 _ hi', Ideal.mulf_def, ← EReal.coe_mul]
    rfl
  simp only [val_main_v45_apply, val_main_v44_apply, val_main_cst_10_apply, e, Ideal.ofBits_def, bits_zero, zero_add, coe_sum]
theorem s47 (i : S8192x2048.Idx) (hi : i 0 = q) : val_main_v47 (F := Ideal) x0 x1 x2 x3 x5 i = ((t (i 1) * w (i 1) * R (S x b g) : ℝ) : EReal) := by
  rw [val_main_v47_apply, val_main_v46_apply, s42 x3 x5 q t w h3 h5 _ hi, s25 x0 x1 x2 q x b g h0 h1 h2 _ hi, Ideal.mulf_def, ← EReal.coe_mul]
theorem s51 (i : Cert.Reference29Ideal.S8192x1.Idx) (hi : i 0 = q) : val_main_v51 (F := Ideal) x0 x1 x2 x3 x5 i = ((∑ j, -(t j * w j * R (S x b g)) : ℝ) : EReal) := by
  have hi' : (idx_main_v51 i) 0 = q := by
    rw [← hi]; have h1 : (i 1).val < 1 := (i 1).isLt; exact Fin.ext (by show (i 0).val * 1 + (i 1).val = (i 0).val; omega)
  have e : ∀ k, val_main_v47 (F := Ideal) x0 x1 x2 x3 x5 (idx_main_v50 (idx_main_v51 i) k) = ((t k * w k * R (S x b g) : ℝ) : EReal) := fun k =>
    s47 x0 x1 x2 x3 x5 q x b g t w h0 h1 h2 h3 h5 _ hi'
  simp only [val_main_v51_apply, val_main_v50_apply, val_main_cst_11_apply, val_main_v49_apply, e, Ideal.hostNegf_def, Ideal.negf_def, Ideal.ofBits_def, bits_zero, zero_add,
    ← EReal.coe_neg, coe_sum]
theorem s53 (i : Cert.Reference29Ideal.S8192x1.Idx) (hi : i 0 = q) : val_main_v53 (F := Ideal) x0 x1 x2 x3 x5 i = ((C (S x b g) (fun k => t k * w k) : ℝ) : EReal) := by
  rw [val_main_v53_apply, val_main_v52_apply, val_main_cst_12_apply, val_main_v48_apply, s45 x0 x1 x2 x3 x5 q x b g t w h0 h1 h2 h3 h5 i hi, s28 x0 x1 x2 q x b g h0 h1 h2 i hi,
    Ideal.mulf_def, Ideal.hostDivf_def, Ideal.ofBits_def, bits_n, Ideal.div_coe n_ne, ← EReal.coe_mul, ← EReal.coe_mul]
theorem s56 (i : S8192x2048.Idx) (hi : i 0 = q) : val_main_v56 (F := Ideal) x0 x1 x2 x3 x5 i
    = ((C (S x b g) (fun k => t k * w k) * (2 * D (S x b g) (i 1)) : ℝ) : EReal) := by
  have e : ∀ k, val_main_v53 (F := Ideal) x0 x1 x2 x3 x5 (idx_main_v54 (idx_main_v55 i) k) = ((C (S x b g) (fun k => t k * w k) : ℝ) : EReal) := fun k =>
    s53 x0 x1 x2 x3 x5 q x b g t w h0 h1 h2 h3 h5 _ hi
  simp only [val_main_v56_apply, val_main_v55_apply, val_main_v54_apply, val_main_cst_13_apply, val_main_v16_apply, val_main_v15_apply, val_main_cst_3_apply,
    s13 x0 x1 x2 q x b g h0 h1 h2 i hi, e, Ideal.mulf_def, Ideal.ofBits_def, bits_zero, bits_two, zero_add, Fin.sum_univ_one, ← EReal.coe_mul]
theorem s59 (i : Cert.Reference29Ideal.S8192x1.Idx) (hi : i 0 = q) : val_main_v59 (F := Ideal) x0 x1 x2 x3 x5 i
    = ((∑ j, -(C (S x b g) (fun k => t k * w k) * (2 * D (S x b g) j)) : ℝ) : EReal) := by
  have hi' : (idx_main_v59 i) 0 = q := by
    rw [← hi]; have h1 : (i 1).val < 1 := (i 1).isLt; exact Fin.ext (by show (i 0).val * 1 + (i 1).val = (i 0).val; omega)
  have e : ∀ k, val_main_v56 (F := Ideal) x0 x1 x2 x3 x5 (idx_main_v58 (idx_main_v59 i) k)
      = ((C (S x b g) (fun k => t k * w k) * (2 * D (S x b g) k) : ℝ) : EReal) := fun k => s56 x0 x1 x2 x3 x5 q x b g t w h0 h1 h2 h3 h5 _ hi'
  simp only [val_main_v59_apply, val_main_v58_apply, val_main_cst_14_apply, val_main_v57_apply, e, Ideal.hostNegf_def, Ideal.negf_def, Ideal.ofBits_def, bits_zero, zero_add,
    ← EReal.coe_neg, coe_sum]
theorem s66 (i : S8192x2048.Idx) (hi : i 0 = q) : val_main_v66 (F := Ideal) x0 x1 x2 x3 x5 i
    = ((DS (S x b g) (fun k => t k * w k) (i 1) : ℝ) : EReal) := by
  have e1 : ∀ k, val_main_v51 (F := Ideal) x0 x1 x2 x3 x5 (idx_main_v64 (idx_main_v65 i) k) = ((∑ j, -(t j * w j * R (S x b g)) : ℝ) : EReal) := fun k =>
    s51 x0 x1 x2 x3 x5 q x b g t w h0 h1 h2 h3 h5 _ hi
  have e2 : ∀ k, val_main_v59 (F := Ideal) x0 x1 x2 x3 x5 (idx_main_v64 (idx_main_v65 i) k)
      = ((∑ j, -(C (S x b g) (fun k => t k * w k) * (2 * D (S x b g) j)) : ℝ) : EReal) := fun k => s59 x0 x1 x2 x3 x5 q x b g t w h0 h1 h2 h3 h5 _ hi
  simp only [val_main_v66_apply, val_main_v65_apply, val_main_v64_apply, val_main_cst_16_apply, val_main_v63_apply, val_main_v62_apply, val_main_cst_15_apply, val_main_v61_apply,
    val_main_v60_apply, s47 x0 x1 x2 x3 x5 q x b g t w h0 h1 h2 h3 h5 i hi, s56 x0 x1 x2 x3 x5 q x b g t w h0 h1 h2 h3 h5 i hi, e1, e2, Ideal.addf_def, Ideal.hostDivf_def,
    Ideal.ofBits_def, bits_zero, bits_n, zero_add, Fin.sum_univ_one, ← EReal.coe_add, ← EReal.coe_mul, Ideal.div_coe n_ne]
  exact congrArg _ (DS_eq (S x b g) (fun k => t k * w k) (i 1))

end

/-! ## The two rows agree -/

theorem ext1 {a b : ℕ} (i : (⟨2, ![a, b]⟩ : Shape).Idx) (q : Fin a) (hi : i 0 = q) : i = ix2 q (i 1) := by subst hi; exact eq_ix2 i

section
variable (x0 x1 : FVec Ideal S8192x2048 .f32) (x2 : FVec Ideal S6x2048 .f32) (x3 : FVec Ideal S1x2048 .f32) (x5 : FVec Ideal S8192x2048 .f32)

/-- The arrays the gradient reads are finite. -/
structure Fin5 : Prop where
  f0 : ∀ i, ∃ r : ℝ, x0 i = (r : EReal)
  f1 : ∀ i, ∃ r : ℝ, x1 i = (r : EReal)
  f2 : ∀ i, ∃ r : ℝ, x2 i = (r : EReal)
  f3 : ∀ i, ∃ r : ℝ, x3 i = (r : EReal)
  f5 : ∀ i, ∃ r : ℝ, x5 i = (r : EReal)

variable (v0 : FVec Ideal S1x2048 .f32) (v1 v2 v26 : FVec Ideal S256x2048 .f32) (v27 : FVec Ideal S1x2048 .f32) (hf : Fin5 x0 x1 x2 x3 x5)
  (p : Fin 256) (q : Fin 8192)
  (e0 : ∀ k : Fin 2048, v0 (ix2 0 k) = x2 (ix2 2 k)) (e1 : ∀ k : Fin 2048, v1 (ix2 p k) = x1 (ix2 q k))
  (e2 : ∀ k : Fin 2048, v2 (ix2 p k) = x0 (ix2 q k)) (e26 : ∀ k : Fin 2048, v26 (ix2 p k) = x5 (ix2 q k)) (e27 : ∀ k : Fin 2048, v27 (ix2 0 k) = x3 (ix2 0 k))
include hf e0 e1 e2 e26 e27

theorem row_eq (k : Fin 2048) :
    k0_pay9 (F := Ideal) (k0_pay4 v0 v1 v2) (k0_pay5 v0 v1 v2) (k0_pay7 v26 v27) (k0_pay8 v0 v1 v2 v26 v27) (ix2 p k)
      = Cert.Reference29Ideal.Read.val_main_v66 (F := Ideal) x0 x1 x2 x3 x5 (ix2 q k)
    ∧ k0_pay5 (F := Ideal) v0 v1 v2 (ix2 p k) = Cert.Reference29Ideal.Read.val_main_v30 (F := Ideal) x0 x1 x2 (ix2 q k) := by
  choose X hX using hf.f0
  choose B hB using hf.f1
  choose G hG using hf.f2
  choose W hW using hf.f3
  choose T hT using hf.f5
  have h0 : ∀ i : S8192x2048.Idx, i 0 = q → x0 i = (X (ix2 q (i 1)) : EReal) := fun i hi => (hX i).trans (congrArg (fun j => (X j : EReal)) (ext1 i q hi))
  have h1 : ∀ i : S8192x2048.Idx, i 0 = q → x1 i = (B (ix2 q (i 1)) : EReal) := fun i hi => (hB i).trans (congrArg (fun j => (B j : EReal)) (ext1 i q hi))
  have h2 : ∀ i : S6x2048.Idx, i 0 = (2 : Fin 6) → x2 i = (G (ix2 2 (i 1)) : EReal) := fun i hi => (hG i).trans (congrArg (fun j => (G j : EReal)) (ext1 i 2 hi))
  have h3 : ∀ i : S1x2048.Idx, x3 i = (W (ix2 0 (i 1)) : EReal) := fun i =>
    (hW i).trans (congrArg (fun j => (W j : EReal)) (ext1 i 0 (Subsingleton.elim (α := Fin 1) _ _)))
  have h5 : ∀ i : S8192x2048.Idx, i 0 = q → x5 i = (T (ix2 q (i 1)) : EReal) := fun i hi => (hT i).trans (congrArg (fun j => (T j : EReal)) (ext1 i q hi))
  exact ⟨(pay9 v0 v1 v2 v26 v27 p (fun k => X (ix2 q k)) (fun k => B (ix2 q k)) (fun k => G (ix2 2 k)) (fun k => T (ix2 q k)) (fun k => W (ix2 0 k))
      (fun k => (e0 k).trans (hG _)) (fun k => (e1 k).trans (hB _)) (fun k => (e2 k).trans (hX _)) (fun k => (e26 k).trans (hT _)) (fun k => (e27 k).trans (hW _)) k).trans
      (s66 x0 x1 x2 x3 x5 q (fun k => X (ix2 q k)) (fun k => B (ix2 q k)) (fun k => G (ix2 2 k)) (fun k => T (ix2 q k)) (fun k => W (ix2 0 k)) h0 h1 h2 h3 h5 (ix2 q k) rfl).symm,
    (pay5 v0 v1 v2 p (fun k => X (ix2 q k)) (fun k => B (ix2 q k)) (fun k => G (ix2 2 k))
      (fun k => (e0 k).trans (hG _)) (fun k => (e1 k).trans (hB _)) (fun k => (e2 k).trans (hX _)) k).trans
      (s30 x0 x1 x2 q (fun k => X (ix2 q k)) (fun k => B (ix2 q k)) (fun k => G (ix2 2 k)) h0 h1 h2 (ix2 q k) rfl).symm⟩

end

/-! ## The arrays -/

variable (m : (ℓ : Loc nD τ sig) → Buf (Elt Ideal) ℓ)

abbrev A0 (c : Dev nD) : FVec Ideal S8192x2048 .f32 := m ((c : Thread nD τ).loc main_arg0)
abbrev A1 (c : Dev nD) : FVec Ideal S8192x2048 .f32 := m ((c : Thread nD τ).loc main_arg1)
abbrev A2 (c : Dev nD) : FVec Ideal S6x2048 .f32 := m ((c : Thread nD τ).loc main_arg2)
abbrev A3 (c : Dev nD) : FVec Ideal S1x2048 .f32 := m ((c : Thread nD τ).loc main_arg3)
abbrev A5 (c : Dev nD) : FVec Ideal S8192x2048 .f32 := m ((c : Thread nD τ).loc main_arg5)
abbrev FinM (c : Dev nD) : Prop := Fin5 (A0 m c) (A1 m c) (A2 m c) (A3 m c) (A5 m c)

theorem finM (h : @Cert.Pre_Kernel29Ideal_finite_ln Cert.Pre_finite_ln.Gen.facts m) (c : Dev nD) : FinM m c := by
  have e := congrFun (h c) (fun a => a.elim0)
  have e1 := IntOp.andi_eq_one.1 e
  have e2 := IntOp.andi_eq_one.1 e1.1
  have e3 := IntOp.andi_eq_one.1 e2.1
  have e4 := IntOp.andi_eq_one.1 e3.1
  have : Subsingleton Cert.Pre_finite_ln.S_.Idx := ⟨fun a b => funext fun k => k.elim0⟩
  exact ⟨Finite.of_test _ _ _ (fun _ => Finite.bits_top) (fun _ => Finite.bits_bot) _ _ _ _ e4.1,
    Finite.of_test _ _ _ (fun _ => Finite.bits_top) (fun _ => Finite.bits_bot) _ _ _ _ e4.2,
    Finite.of_test _ _ _ (fun _ => Finite.bits_top) (fun _ => Finite.bits_bot) _ _ _ _ e3.2,
    Finite.of_test _ _ _ (fun _ => Finite.bits_top) (fun _ => Finite.bits_bot) _ _ _ _ e2.2,
    Finite.of_test _ _ _ (fun _ => Finite.bits_top) (fun _ => Finite.bits_bot) _ _ _ _ e1.2⟩

/-- Each window's block index at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![0, 0]
    ∧ win0_8.index t = ![0, 0] ∧ win0_9.index t = ![0, 0] :=
  (by decide +kernel : ∀ t : Fin grid0.N, _)

theorem swapm (x y : EReal) : x * y = y * x := mul_comm x y

theorem cfg_N : cfg0.N = 32 := by decide +kernel
/-- The array's row of a block's row. -/
def qi (t : Fin cfg0.N) (p : Fin 256) : Fin 8192 := ⟨t.val * 256 + p.val, by have h1 := t.isLt; have h2 := cfg_N; have h3 := p.isLt; omega⟩

/-- The gate's row, as the kernel's load reads it off the six rows of modulation. -/
abbrev gateRow (c : Dev nD) (t : Fin cfg0.N) : FVec Ideal S1x2048 .f32 :=
  View.ld (iblk m c 3 t) (Rect.unit ![2, 0] ![1, 2048] inb_S6x2048_S1x2048_2_0)

/-- A point's rows of `ds` and of the normalized rows are the reference's. -/
theorem point (c : Dev nD) (hf : FinM m c) (t : Fin cfg0.N) (p : Fin 256) (k : Fin 2048) :
    k0_pay9 (F := Ideal) (k0_pay4 (gateRow m c t) (iblk m c 2 t) (iblk m c 1 t)) (k0_pay5 (gateRow m c t) (iblk m c 2 t) (iblk m c 1 t))
        (k0_pay7 (iblk m c 0 t) (iblk m c 4 t)) (k0_pay8 (gateRow m c t) (iblk m c 2 t) (iblk m c 1 t) (iblk m c 0 t) (iblk m c 4 t)) (ix2 p k)
      = Cert.Reference29Ideal.Read.val_main_v66 (F := Ideal) (A0 m c) (A1 m c) (A2 m c) (A3 m c) (A5 m c) (ix2 (qi t p) k)
    ∧ k0_pay5 (F := Ideal) (gateRow m c t) (iblk m c 2 t) (iblk m c 1 t) (ix2 p k)
      = Cert.Reference29Ideal.Read.val_main_v30 (F := Ideal) (A0 m c) (A1 m c) (A2 m c) (ix2 (qi t p) k) := by
  refine row_eq _ _ _ _ _ _ _ _ _ _ hf p (qi t p) ?_ ?_ ?_ ?_ ?_ k
  all_goals intro k
  · pointwise [gateRow]
    blk_ext [iblk, idx t]
  all_goals blk_ext [iblk, idx t, qi]

abbrev dsBlk (c : Dev nD) (t : Fin cfg0.N) : FVec Ideal S256x2048 .f32 :=
  k0_pay9 (F := Ideal) (k0_pay4 (gateRow m c t) (iblk m c 2 t) (iblk m c 1 t)) (k0_pay5 (gateRow m c t) (iblk m c 2 t) (iblk m c 1 t))
    (k0_pay7 (iblk m c 0 t) (iblk m c 4 t)) (k0_pay8 (gateRow m c t) (iblk m c 2 t) (iblk m c 1 t) (iblk m c 0 t) (iblk m c 4 t))
abbrev nBlk (c : Dev nD) (t : Fin cfg0.N) : FVec Ideal S256x2048 .f32 := k0_pay5 (F := Ideal) (gateRow m c t) (iblk m c 2 t) (iblk m c 1 t)

/-- `ds`: every point writes its own block of the reference's array. -/
theorem finalS (c : Dev nD) (hf : FinM m c) : (dats m 0 c).arrAt 5 cfg0.N
    = Cert.Reference29Ideal.Read.val_main_v66 (F := Ideal) (A0 m c) (A1 m c) (A2 m c) (A3 m c) (A5 m c) := by
  refine (dats m 0 c).arrAt_eq_of_covers 5 _ (by decide +kernel) fun t _ y => ?_
  blk_simp
  rw [after0_5]
  by_cases h : t.val % 32 = 0
  · rw [outsAt0_A m c t h h h]
    frame_out
    obtain ⟨p, k, rfl⟩ : ∃ (p : Fin 256) (k : Fin 2048), y = ix2 p k := ⟨y 0, y 1, eq_ix2 y⟩
    refine (point m c hf t p k).1.trans ?_
    generalize Cert.Reference29Ideal.Read.val_main_v66 (F := Ideal) (A0 m c) (A1 m c) (A2 m c) (A3 m c) (A5 m c) = f
    blk_ext [idx t, qi]
  · rw [outsAt0_B m c t h h h]
    frame_out
    obtain ⟨p, k, rfl⟩ : ∃ (p : Fin 256) (k : Fin 2048), y = ix2 p k := ⟨y 0, y 1, eq_ix2 y⟩
    refine (point m c hf t p k).1.trans ?_
    generalize Cert.Reference29Ideal.Read.val_main_v66 (F := Ideal) (A0 m c) (A1 m c) (A2 m c) (A3 m c) (A5 m c) = f
    blk_ext [idx t, qi]

/-- The branch's gradient. -/
theorem pay10_at (v0 : FVec Ideal S1x2048 .f32) (v23 : FVec Ideal S256x1 .f32) (v25 v35 : FVec Ideal S256x2048 .f32) (v38 : FVec Ideal S256x1 .f32) (p : Fin 256) (k : Fin 2048) :
    k0_pay10 (F := Ideal) v0 v23 v25 v35 v38 (ix2 p k) = (1 + v0 (ix2 0 k)) * k0_pay9 (F := Ideal) v23 v25 v35 v38 (ix2 p k) := by pointwise [k0_pay10]
theorem gate_at (c : Dev nD) (t : Fin cfg0.N) (k : Fin 2048) : gateRow m c t (ix2 0 k) = A2 m c (ix2 2 k) := by
  pointwise [gateRow]
  blk_ext [iblk, idx t]
open Cert.Reference29Ideal.Read in
theorem v72_at (x0 x1 : FVec Ideal S8192x2048 .f32) (x2 : FVec Ideal S6x2048 .f32) (x3 : FVec Ideal S1x2048 .f32) (x5 : FVec Ideal S8192x2048 .f32) (q : Fin 8192) (k : Fin 2048) :
    val_main_v72 (F := Ideal) x0 x1 x2 x3 x5 (ix2 q k) = (1 + x2 (ix2 2 k)) * val_main_v66 (F := Ideal) x0 x1 x2 x3 x5 (ix2 q k) := by
  rw [val_main_v72_apply, val_main_v68_apply, val_main_v67_apply, val_main_v4_apply, val_main_v3_apply, val_main_cst_0_apply, val_main_v0_apply,
    Ideal.truncf_def, Ideal.mulf_def, Ideal.addf_def, Ideal.ofBits_def, Finite.bits_one]
  refine congrArg₂ (fun a b : EReal => a * b) (congrArg₂ (fun a b : EReal => a + b) rfl (congrArg x2 (ext1 _ 2 rfl))) rfl

theorem finalR (c : Dev nD) (hf : FinM m c) : (dats m 0 c).arrAt 6 cfg0.N
    = Cert.Reference29Ideal.Read.val_main_v72 (F := Ideal) (A0 m c) (A1 m c) (A2 m c) (A3 m c) (A5 m c) := by
  refine (dats m 0 c).arrAt_eq_of_covers 6 _ (by decide +kernel) fun t _ y => ?_
  blk_simp
  rw [after0_6]
  obtain ⟨p, k, rfl⟩ : ∃ (p : Fin 256) (k : Fin 2048), y = ix2 p k := ⟨y 0, y 1, eq_ix2 y⟩
  have e : (1 + gateRow m c t (ix2 0 k)) * dsBlk m c t (ix2 p k)
      = Cert.Reference29Ideal.Read.val_main_v72 (F := Ideal) (A0 m c) (A1 m c) (A2 m c) (A3 m c) (A5 m c) (ix2 (qi t p) k) := by
    rw [v72_at, gate_at, dsBlk, (point m c hf t p k).1]
  by_cases h : t.val % 32 = 0
  · rw [outsAt0_A m c t h h h]
    frame_out
    refine (pay10_at _ _ _ _ _ p k).trans (e.trans ?_)
    generalize Cert.Reference29Ideal.Read.val_main_v72 (F := Ideal) (A0 m c) (A1 m c) (A2 m c) (A3 m c) (A5 m c) = f
    blk_ext [idx t, qi]
  · rw [outsAt0_B m c t h h h]
    frame_out
    refine (pay10_at _ _ _ _ _ p k).trans (e.trans ?_)
    generalize Cert.Reference29Ideal.Read.val_main_v72 (F := Ideal) (A0 m c) (A1 m c) (A2 m c) (A3 m c) (A5 m c) = f
    blk_ext [idx t, qi]

/-! ### The three row sums -/

abbrev partG (n d : FVec Ideal S256x2048 .f32) (j : S1x2048.Idx) : EReal := ∑ k : Fin 256, d (ix2 k (j 1)) * n (ix2 k (j 1))
abbrev partB (d : FVec Ideal S256x2048 .f32) (j : S1x2048.Idx) : EReal := ∑ k : Fin 256, d (ix2 k (j 1))
theorem zero1 (j : S1x2048.Idx) : k0_pay1 (F := Ideal) j = 0 := by pointwise [k0_pay1]
theorem zero11 (j : S1x2048.Idx) : k0_pay11 (F := Ideal) j = 0 := by pointwise [k0_pay11]
theorem zero13 (j : S1x2048.Idx) : k0_pay13 (F := Ideal) j = 0 := by pointwise [k0_pay13]
theorem pay12_at (n d : FVec Ideal S256x2048 .f32) (acc : FVec Ideal S1x2048 .f32) (j : S1x2048.Idx) :
    k0_pay12 n d acc j = acc j + partG n d j := by pointwise [k0_pay12]
theorem pay14_at (d : FVec Ideal S256x2048 .f32) (acc : FVec Ideal S1x2048 .f32) (j : S1x2048.Idx) :
    k0_pay14 d acc j = acc j + partB d j := by pointwise [k0_pay14]
theorem pay2_at (v1 : FVec Ideal S256x2048 .f32) (v23 : FVec Ideal S256x1 .f32) (v25 v35 : FVec Ideal S256x2048 .f32) (v38 : FVec Ideal S256x1 .f32) (acc : FVec Ideal S1x2048 .f32) (j : S1x2048.Idx) :
    k0_pay2 (k0_pay15 v1 v23 v25 v35 v38) acc j = acc j + partG v1 (k0_pay9 v23 v25 v35 v38) j := by pointwise [k0_pay2, k0_pay15]

abbrev at' (t : Fin cfg0.N) (ht : t.val % 32 = 31) (s : Fin 32) : Fin cfg0.N := ⟨32 * (t.val / 32) + s.val, Pipeline.run_point_lt_of_flush t ht s⟩

theorem accG (c : Dev nD) (t : Fin cfg0.N) (ht : t.val % 32 = 31) (j : S1x2048.Idx) :
    (outsAt0 m c t.val t.isLt).2.2.1 j = ∑ s : Fin 32, partG (nBlk m c (at' t ht s)) (iblk m c 0 (at' t ht s)) j := by
  rw [Pipeline.eq_sum_fin_of_reset_step_apply_of_flush (fun n h => (outsAt0 m c n h).2.2.1) 32 (fun _ => 0)
    (fun p j => partG (nBlk m c p) (iblk m c 0 p) j)
    (fun t h j => by rw [outsAt0_A m c t h h h]; frame_out; rw [pay12_at, zero11]; rfl)
    (fun t h j => by rw [outsAt0_B m c t h h h]; frame_out; rw [pay12_at]; rfl) t ht j, zero_add]
theorem accB (c : Dev nD) (t : Fin cfg0.N) (ht : t.val % 32 = 31) (j : S1x2048.Idx) :
    (outsAt0 m c t.val t.isLt).2.2.2.1 j = ∑ s : Fin 32, partB (iblk m c 0 (at' t ht s)) j := by
  rw [Pipeline.eq_sum_fin_of_reset_step_apply_of_flush (fun n h => (outsAt0 m c n h).2.2.2.1) 32 (fun _ => 0)
    (fun p j => partB (iblk m c 0 p) j)
    (fun t h j => by rw [outsAt0_A m c t h h h]; frame_out; rw [pay14_at, zero13])
    (fun t h j => by rw [outsAt0_B m c t h h h]; frame_out; rw [pay14_at]) t ht j, zero_add]
theorem accT (c : Dev nD) (t : Fin cfg0.N) (ht : t.val % 32 = 31) (j : S1x2048.Idx) :
    (outsAt0 m c t.val t.isLt).2.2.2.2 j = ∑ s : Fin 32, partG (iblk m c 2 (at' t ht s)) (dsBlk m c (at' t ht s)) j := by
  rw [Pipeline.eq_sum_fin_of_reset_step_apply_of_flush (fun n h => (outsAt0 m c n h).2.2.2.2) 32 (fun _ => 0)
    (fun p j => partG (iblk m c 2 p) (dsBlk m c p) j)
    (fun t h j => by rw [outsAt0_A m c t h h h]; frame_out; rw [pay2_at, zero1]; rfl)
    (fun t h j => by rw [outsAt0_B m c t h h h]; frame_out; rw [pay2_at]; rfl) t ht j, zero_add]

/-- The row of the array a summand reads, as the sum over the blocks' rows names it. -/
theorem row_ix (t : Fin cfg0.N) (ht : t.val % 32 = 31) (s : Fin 32) (k : Fin 256) (hl : s.val * 256 + k.val < 8192) :
    qi (at' t ht s) k = ⟨s.val * 256 + k.val, hl⟩ := by
  have h1 := t.isLt
  have h2 := cfg_N
  refine Fin.ext ?_
  show (32 * (t.val / 32) + s.val) * 256 + k.val = s.val * 256 + k.val
  omega

theorem finalG (c : Dev nD) (hf : FinM m c) : (dats m 0 c).arrAt 7 cfg0.N
    = Cert.Reference29Ideal.Read.val_main_v40 (F := Ideal) (A0 m c) (A1 m c) (A2 m c) (A5 m c) := by
  refine (dats m 0 c).arrAt_eq_of_covers 7 _ (by decide +kernel) fun t hfl y => ?_
  have ht := (flush0_7 t).mp hfl
  blk_simp
  rw [after0_7, accG m c t ht]
  rw [Cert.Reference29Ideal.Read.val_main_v40_apply, Cert.Reference29Ideal.Read.val_main_v39_apply]
  simp only [Cert.Reference29Ideal.Read.val_main_v38_apply, Cert.Reference29Ideal.Read.val_main_cst_9_apply, s35, Ideal.mulf_def, Ideal.ofBits_def, bits_zero, zero_add]
  refine Fin.sum_mul_add_congr fun s k hl => ?_
  refine (swapm _ _).trans ?_
  refine congrArg₂ (fun a b : EReal => a * b) ((point m c hf (at' t ht s) k _).2.trans ?_) ?_
  · rw [row_ix t ht s k hl]
    generalize Cert.Reference29Ideal.Read.val_main_v30 (F := Ideal) (A0 m c) (A1 m c) (A2 m c) = f
    blk_ext [idx t]
  · blk_ext [iblk, idx t, idx (at' t ht s)]

theorem finalB (c : Dev nD) : (dats m 0 c).arrAt 8 cfg0.N
    = Cert.Reference29Ideal.Read.val_main_v37 (F := Ideal) (A5 m c) := by
  refine (dats m 0 c).arrAt_eq_of_covers 8 _ (by decide +kernel) fun t hfl y => ?_
  have ht := (flush0_8 t).mp hfl
  blk_simp
  rw [after0_8, accB m c t ht]
  rw [Cert.Reference29Ideal.Read.val_main_v37_apply, Cert.Reference29Ideal.Read.val_main_v36_apply]
  simp only [Cert.Reference29Ideal.Read.val_main_cst_8_apply, Ideal.mulf_def, Ideal.ofBits_def, bits_zero, zero_add]
  refine Fin.sum_mul_add_congr fun s k hl => ?_
  blk_ext [iblk, idx t, idx (at' t ht s)]

theorem finalT (c : Dev nD) (hf : FinM m c) : (dats m 0 c).arrAt 9 cfg0.N
    = Cert.Reference29Ideal.Read.val_main_v71 (F := Ideal) (A0 m c) (A1 m c) (A2 m c) (A3 m c) (A5 m c) := by
  refine (dats m 0 c).arrAt_eq_of_covers 9 _ (by decide +kernel) fun t hfl y => ?_
  have ht := (flush0_9 t).mp hfl
  blk_simp
  rw [after0_9, accT m c t ht]
  rw [Cert.Reference29Ideal.Read.val_main_v71_apply, Cert.Reference29Ideal.Read.val_main_v70_apply]
  simp only [Cert.Reference29Ideal.Read.val_main_v69_apply, Cert.Reference29Ideal.Read.val_main_cst_17_apply, Ideal.mulf_def, Ideal.ofBits_def, bits_zero, zero_add]
  refine Fin.sum_mul_add_congr fun s k hl => ?_
  refine congrArg₂ (fun a b : EReal => a * b) ((point m c hf (at' t ht s) k _).1.trans ?_) ?_
  · rw [row_ix t ht s k hl]
    generalize Cert.Reference29Ideal.Read.val_main_v66 (F := Ideal) (A0 m c) (A1 m c) (A2 m c) (A3 m c) (A5 m c) = f
    blk_ext [idx t]
  · blk_ext [iblk, idx t, idx (at' t ht s)]

/-- The kernel's arrays and the reference's are the same arrays. -/
theorem algebraic : @Cert.algebraic_Kernel29Ideal_Reference29Ideal_pre_finite_ln Cert.Kernel29Ideal.Gen.facts Cert.Reference29Ideal.Gen.facts
    Cert.Pre_finite_ln.Gen.facts :=
  fun m g m' g' hp hm => ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N,
    Cert.Kernel29Ideal.Value.run_blocks m g,
    (θ_run Cert.Reference29Ideal.defs _ _).mono
      (fun r h c => ⟨((h c).1.trans ((Cert.Reference29Ideal.Read.val_main_v66_eq m' c).trans (by simp only [(hm c).1, (hm c).2.1, (hm c).2.2.1, (hm c).2.2.2.1, (hm c).2.2.2.2.2]))).trans (finalS m c (finM m hp c)).symm,
        ((h c).2.1.trans ((Cert.Reference29Ideal.Read.val_main_v72_eq m' c).trans (by simp only [(hm c).1, (hm c).2.1, (hm c).2.2.1, (hm c).2.2.2.1, (hm c).2.2.2.2.2]))).trans (finalR m c (finM m hp c)).symm,
        ((h c).2.2.1.trans ((Cert.Reference29Ideal.Read.val_main_v40_eq m' c).trans (by simp only [(hm c).1, (hm c).2.1, (hm c).2.2.1, (hm c).2.2.2.1, (hm c).2.2.2.2.2]))).trans (finalG m c (finM m hp c)).symm,
        ((h c).2.2.2.1.trans ((Cert.Reference29Ideal.Read.val_main_v37_eq _).trans (by simp only [(hm c).2.2.2.2.2]))).trans (finalB m c).symm,
        ((h c).2.2.2.2.1.trans ((Cert.Reference29Ideal.Read.val_main_v71_eq m' c).trans (by simp only [(hm c).1, (hm c).2.1, (hm c).2.2.1, (hm c).2.2.2.1, (hm c).2.2.2.2.2]))).trans (finalT m c (finM m hp c)).symm,
        (h c).2.2.2.2.2⟩)
      (Cert.Reference29Ideal.Value.run m' g')⟩

end Cert.Proof.Ln1

end
-- ==== Proof.Reduce.lean ====
/- THE SUM OVER THE DEVICES' PARTS (`Kernel30`, `Reference30`): over the extended reals the kernel's eight additions and the plain sum
   are equal arrays. -/
module

public import proofs.«01_k».proof.Defs
public import proofs.«01_k».proof.Proof.Gen.Kernel30Ideal.Value
public import proofs.«01_k».proof.Proof.Gen.Reference30Ideal.Run
public import Idealize.ShloMosaic.Lib.Pipeline.ValueKit
public import Idealize.ShloMosaic.Lib.Pointwise

@[expose] public section

set_option maxRecDepth 16384

noncomputable section

namespace Cert.Proof.Reduce

section
open Cert.Reference30Ideal Cert.Reference30Ideal.Gen Idealize.ShloMosaic Idealize.ShloMosaic.TcCoe

/-- The reference's term over the argument array. -/
abbrev REF (x : FVec Ideal S8x1024x2048 .bf16) : FVec Ideal S1024x2048 .f32 :=
  Host.reduceAdd (extf .f32 x bitsLt_bf16_f32) (constant S_ .f32 0x00000000#32) reducesTo_S8x1024x2048_S1024x2048_d0 h_S_

end

open Cert.Kernel30Ideal Cert.Kernel30Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![0, t.val, 0]
    ∧ win0_1.index t = ![t.val, 0] :=
  (by decide +kernel : ∀ t : Fin grid0.N, _)

/-- The array of output window 1. -/
theorem final (c : Dev nD) : (dats m 0 c).arrAt 1 cfg0.N
    = REF (m ((c : Thread nD τ).loc main_arg0)) := by
  refine (dats m 0 c).arrAt_eq_of_covers 1 _ (by decide +kernel) fun t hf y => ?_
  blk_simp
  rw [after0_1]
  frame_out
  pointwise [k0_pay1, REF]
  rw [Fin.sum_univ_eight]
  reads_congr
  all_goals blk_ext [iblk, idx t]

/-- The kernel's arrays and the reference's are the same arrays. -/
theorem algebraic : @Cert.algebraic_Kernel30Ideal_Reference30Ideal Cert.Kernel30Ideal.Gen.facts Cert.Reference30Ideal.Gen.facts :=
  fun m g m' g' _ hm => ⟨fun c => (dats m 0 c).arrAt 1 cfg0.N, Cert.Kernel30Ideal.Value.run_blocks m g,
    (θ_run Cert.Reference30Ideal.defs _ _).mono
      (fun r h c => ⟨((h c).1.trans (by simp only [(hm c)])).trans (final m c).symm,
        (h c).2⟩)
      (Cert.Reference30Ideal.Value.run m' g')⟩

end Cert.Proof.Reduce

end
-- ==== Proof.ModF1.lean ====
/- THE MODULATED INPUT OF THE PROJECTION (`Kernel31`, `Reference31`): over the extended reals the row kernel's and the reference's arrays are
   equal. -/
module

public import proofs.«01_k».proof.Defs
public import proofs.«01_k».proof.Proof.Gen.Kernel31Ideal.Value
public import proofs.«01_k».proof.Proof.Gen.Reference31Ideal.Run
public import Idealize.ShloMosaic.Lib.Pipeline.ValueKit
public import Idealize.ShloMosaic.Lib.Pointwise

@[expose] public section

set_option maxRecDepth 16384

noncomputable section

namespace Cert.Proof.ModF1

section
open Cert.Reference31Ideal Cert.Reference31Ideal.Gen Idealize.ShloMosaic Idealize.ShloMosaic.TcCoe

/-- The reference's term over the argument arrays. -/
abbrev REF (x : FVec Ideal S8192x2048 .f32) (w : FVec Ideal S6x2048 .f32) : FVec Ideal S8192x2048 .bf16 :=
  truncf .bf16 (addf (mulf x (broadcastInDim S8192x2048 ![0, 1] bcast_S1x2048_S8192x2048_0_1 (addf (broadcastInDim S1x2048 ![] bcast_S_S1x2048 (constant S_ .f32 0x3F800000#32)) (extractStridedSlice S1x2048 ![1, 0] w slices_S6x2048_S1x2048_1_0)))) (broadcastInDim S8192x2048 ![0, 1] bcast_S1x2048_S8192x2048_0_1 (extractStridedSlice S1x2048 ![0, 0] w slices_S6x2048_S1x2048_0_0))) bitsLt_bf16_f32

end

open Cert.Kernel31Ideal Cert.Kernel31Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The array of output window 2. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, REF]
  reads_congr
  all_goals blk_ext [iblk, idx t]

/-- The kernel's arrays and the reference's are the same arrays. -/
theorem algebraic : @Cert.algebraic_Kernel31Ideal_Reference31Ideal Cert.Kernel31Ideal.Gen.facts Cert.Reference31Ideal.Gen.facts :=
  fun m g m' g' _ hm => ⟨fun c => (dats m 0 c).arrAt 2 cfg0.N, Cert.Kernel31Ideal.Value.run_blocks m g,
    (θ_run Cert.Reference31Ideal.defs _ _).mono
      (fun r h c => ⟨((h c).1.trans (by simp only [(hm c).1, (hm c).2])).trans (final m c).symm,
        (h c).2⟩)
      (Cert.Reference31Ideal.Value.run m' g')⟩

end Cert.Proof.ModF1

end
-- ==== Proof.LnF1.lean ====
/- THE RESIDUAL OF THE FIRST HALF AND THE LAYER NORM AFTER IT (`Kernel32`, `Reference32`): over the extended reals the row kernel's and the reference's
   arrays are equal. -/
module

public import proofs.«01_k».proof.Defs
public import proofs.«01_k».proof.Proof.Gen.Kernel32Ideal.Value
public import proofs.«01_k».proof.Proof.Gen.Reference32Ideal.Run
public import Idealize.ShloMosaic.Lib.Pipeline.ValueKit
public import Idealize.ShloMosaic.Lib.Pointwise

@[expose] public section

set_option maxRecDepth 16384

noncomputable section

namespace Cert.Proof.LnF1

section
open Cert.Reference32Ideal Cert.Reference32Ideal.Gen Idealize.ShloMosaic Idealize.ShloMosaic.TcCoe

/-- The reference's term over the argument arrays. -/
abbrev REF (x : FVec Ideal S8192x2048 .f32) (b : FVec Ideal S8192x2048 .f32) (g : FVec Ideal S6x2048 .f32) (w : FVec Ideal S1x2048 .f32) (v : FVec Ideal S1x2048 .f32) : FVec Ideal S8192x2048 .f32 :=
  addf (mulf (mulf (subf (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![2, 0] g slices_S6x2048_S1x2048_2_0))) b)) (broadcastInDim S8192x2048 ![0, 1] bcast_S8192x1_S8192x2048_0_1 (Host.divf (broadcastInDim S8192x1 ![0] bcast_S8192_S8192x1_0 (Host.reduceAdd (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![2, 0] g slices_S6x2048_S1x2048_2_0))) b)) (constant S_ .f32 0x00000000#32) reducesTo_S8192x2048_S8192_d1 h_S_)) (broadcastInDim S8192x1 ![] bcast_S_S8192x1 (constant S_ .f32 0x45000000#32))))) (broadcastInDim S8192x2048 ![0, 1] bcast_S8192x1_S8192x2048_0_1 (Host.rsqrt (addf (Host.divf (broadcastInDim S8192x1 ![0] bcast_S8192_S8192x1_0 (Host.reduceAdd (mulf (subf (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![2, 0] g slices_S6x2048_S1x2048_2_0))) b)) (broadcastInDim S8192x2048 ![0, 1] bcast_S8192x1_S8192x2048_0_1 (Host.divf (broadcastInDim S8192x1 ![0] bcast_S8192_S8192x1_0 (Host.reduceAdd (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![2, 0] g slices_S6x2048_S1x2048_2_0))) b)) (constant S_ .f32 0x00000000#32) reducesTo_S8192x2048_S8192_d1 h_S_)) (broadcastInDim S8192x1 ![] bcast_S_S8192x1 (constant S_ .f32 0x45000000#32))))) (subf (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![2, 0] g slices_S6x2048_S1x2048_2_0))) b)) (broadcastInDim S8192x2048 ![0, 1] bcast_S8192x1_S8192x2048_0_1 (Host.divf (broadcastInDim S8192x1 ![0] bcast_S8192_S8192x1_0 (Host.reduceAdd (addf (mulf (broadcastInDim S8192x2048 ![] bcast_S_S8192x2048 (constant S_ .f32 0x3FD744FD#32)) x) (mulf (broadcastInDim S8192x2048 ![0, 1] bcast_S1x2048_S8192x2048_0_1 (addf (broadcastInDim S1x2048 ![] bcast_S_S1x2048 (constant S_ .f32 0x3F800000#32)) (extractStridedSlice S1x2048 ![2, 0] g slices_S6x2048_S1x2048_2_0))) b)) (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 w)) (broadcastInDim S8192x2048 ![0, 1] bcast_S1x2048_S8192x2048_0_1 v)

end

open Cert.Kernel32Ideal Cert.Kernel32Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0] :=
  (by decide +kernel : ∀ t : Fin grid0.N, _)

/-- The array of output window 5. -/
theorem final (c : Dev nD) : (dats m 0 c).arrAt 5 cfg0.N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  pointwise [k0_pay1, REF]
  reads_congr
  all_goals blk_ext [iblk, idx t]

/-- The kernel's arrays and the reference's are the same arrays. -/
theorem algebraic : @Cert.algebraic_Kernel32Ideal_Reference32Ideal Cert.Kernel32Ideal.Gen.facts Cert.Reference32Ideal.Gen.facts :=
  fun m g m' g' _ hm => ⟨fun c => (dats m 0 c).arrAt 5 cfg0.N, Cert.Kernel32Ideal.Value.run_blocks m g,
    (θ_run Cert.Reference32Ideal.defs _ _).mono
      (fun r h c => ⟨((h c).1.trans (by simp only [Cert.Reference32Ideal.Value.res_main_v29, (hm c).1, (hm c).2.1, (hm c).2.2.1, (hm c).2.2.2.1, (hm c).2.2.2.2])).trans (final m c).symm,
        (h c).2⟩)
      (Cert.Reference32Ideal.Value.run m' g')⟩

end Cert.Proof.LnF1

end
-- ==== Proof.ModX1.lean ====
/- THE GRADIENT OF THE FIRST HALF'S MODULATION (`Kernel33`, `Reference33`): over the extended reals the row kernel and the differentiated
   modulation `x * (1 + scale) + shift`, beside the scaled residual, end with equal arrays. The kernel adds the two row sums
   up over its 32 blocks of 256 rows. -/
module

public import proofs.«01_k».proof.Defs
public import proofs.«01_k».proof.Proof.Gen.Kernel33Ideal.Value
public import proofs.«01_k».proof.Proof.Gen.Reference33Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Proof.ModX1

section
open Cert.Reference33Ideal Cert.Reference33Ideal.Gen Idealize.ShloMosaic Idealize.ShloMosaic.TcCoe

/-- The reference's terms over the argument arrays. -/
abbrev REFX (x : FVec Ideal S8192x2048 .f32) (w : FVec Ideal S6x2048 .f32) (ds dh : FVec Ideal S8192x2048 .f32) : FVec Ideal S8192x2048 .f32 :=
  addf (mulf (shapeCast _ dh shapeCasts_S8192x2048_S8192x2048) (broadcastInDim S8192x2048 ![0, 1] bcast_S1x2048_S8192x2048_0_1 (addf (broadcastInDim S1x2048 ![] bcast_S_S1x2048 (constant S_ .f32 0x3F800000#32)) (extractStridedSlice S1x2048 ![1, 0] w slices_S6x2048_S1x2048_1_0)))) (mulf (broadcastInDim S8192x2048 ![] bcast_S_S8192x2048 (constant S_ .f32 0x3FD744FD#32)) ds)
abbrev REFC (x : FVec Ideal S8192x2048 .f32) (w : FVec Ideal S6x2048 .f32) (ds dh : FVec Ideal S8192x2048 .f32) : FVec Ideal S1x2048 .f32 :=
  shapeCast _ (Host.reduceAdd (mulf x (shapeCast _ dh shapeCasts_S8192x2048_S8192x2048)) (constant S_ .f32 0x00000000#32) reducesTo_S8192x2048_S2048_d0 h_S_) shapeCasts_S2048_S1x2048
abbrev REFH (x : FVec Ideal S8192x2048 .f32) (w : FVec Ideal S6x2048 .f32) (ds dh : FVec Ideal S8192x2048 .f32) : FVec Ideal S1x2048 .f32 :=
  shapeCast _ (Host.reduceAdd dh (constant S_ .f32 0x00000000#32) reducesTo_S8192x2048_S2048_d0 h_S_) shapeCasts_S2048_S1x2048

end

open Cert.Kernel33Ideal Cert.Kernel33Ideal.Gen Idealize.ShloMosaic Idealize.ShloMosaic.TcCoe Idealize.SL.Sem

variable (m : (ℓ : Loc nD τ sig) → Buf (Elt Ideal) ℓ)

/-- Each window's block index at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] :=
  (by decide +kernel : ∀ t : Fin grid0.N, _)

theorem swap (x y : EReal) : x + y = y + x := add_comm x y
theorem swapm (x y : EReal) : x * y = y * x := mul_comm x y

/-- The rows' result: every point writes its own block of the reference's array. -/
theorem finalX (c : Dev nD) : (dats m 0 c).arrAt 4 cfg0.N
    = REFX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h : t.val % 32 = 0
  · rw [outsAt0_A m c t h h]
    frame_out
    pointwise [k0_pay1, REFX]
    refine Eq.trans ?_ (swap _ _)
    reads_congr
    all_goals blk_ext [iblk, idx t]
  · rw [outsAt0_B m c t h h]
    frame_out
    pointwise [k0_pay1, REFX]
    refine Eq.trans ?_ (swap _ _)
    reads_congr
    all_goals blk_ext [iblk, idx t]

abbrev partC (x0 x1 : FVec Ideal S256x2048 .f32) (j : S1x2048.Idx) : EReal := ∑ k : Fin 256, x0 (ix2 k (j 1)) * x1 (ix2 k (j 1))
abbrev partH (x0 : FVec Ideal S256x2048 .f32) (j : S1x2048.Idx) : EReal := ∑ k : Fin 256, x0 (ix2 k (j 1))
theorem zero2 (j : S1x2048.Idx) : k0_pay2 (F := Ideal) j = 0 := by pointwise [k0_pay2]
theorem zero4 (j : S1x2048.Idx) : k0_pay4 (F := Ideal) j = 0 := by pointwise [k0_pay4]
theorem pay3_at (x0 x1 : FVec Ideal S256x2048 .f32) (acc : FVec Ideal S1x2048 .f32) (j : S1x2048.Idx) :
    k0_pay3 x0 x1 acc j = acc j + partC x0 x1 j := by pointwise [k0_pay3]
theorem pay5_at (x0 : FVec Ideal S256x2048 .f32) (acc : FVec Ideal S1x2048 .f32) (j : S1x2048.Idx) :
    k0_pay5 x0 acc j = acc j + partH x0 j := by pointwise [k0_pay5]

theorem accC (c : Dev nD) (t : Fin cfg0.N) (ht : t.val % 32 = 31) (j : S1x2048.Idx) :
    (outsAt0 m c t.val t.isLt).2.1 j = ∑ s : Fin 32, partC (iblk m c 1 ⟨32 * (t.val / 32) + s.val, Pipeline.run_point_lt_of_flush t ht s⟩)
      (iblk m c 2 ⟨32 * (t.val / 32) + s.val, Pipeline.run_point_lt_of_flush t ht s⟩) j := by
  rw [Pipeline.eq_sum_fin_of_reset_step_apply_of_flush (fun n h => (outsAt0 m c n h).2.1) 32 (fun _ => 0)
    (fun p j => partC (iblk m c 1 p) (iblk m c 2 p) j)
    (fun t h j => by rw [outsAt0_A m c t h h]; frame_out; rw [pay3_at, zero2])
    (fun t h j => by rw [outsAt0_B m c t h h]; frame_out; rw [pay3_at]) t ht j, zero_add]
theorem accH (c : Dev nD) (t : Fin cfg0.N) (ht : t.val % 32 = 31) (j : S1x2048.Idx) :
    (outsAt0 m c t.val t.isLt).2.2 j = ∑ s : Fin 32, partH (iblk m c 1 ⟨32 * (t.val / 32) + s.val, Pipeline.run_point_lt_of_flush t ht s⟩) j := by
  rw [Pipeline.eq_sum_fin_of_reset_step_apply_of_flush (fun n h => (outsAt0 m c n h).2.2) 32 (fun _ => 0)
    (fun p j => partH (iblk m c 1 p) j)
    (fun t h j => by rw [outsAt0_A m c t h h]; frame_out; rw [pay5_at, zero4])
    (fun t h j => by rw [outsAt0_B m c t h h]; frame_out; rw [pay5_at]) t ht j, zero_add]

theorem finalC (c : Dev nD) : (dats m 0 c).arrAt 5 cfg0.N
    = REFC (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht := (flush0_5 t).mp hf
  blk_simp
  rw [after0_5, accC m c t ht]
  pointwise [REFC]
  refine Fin.sum_mul_add_congr fun s k hl => ?_
  refine (swapm _ _).trans ?_
  reads_congr
  all_goals blk_ext [iblk, idx t, idx ⟨_, Pipeline.run_point_lt_of_flush t ht s⟩]
theorem finalH (c : Dev nD) : (dats m 0 c).arrAt 6 cfg0.N
    = REFH (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht := (flush0_6 t).mp hf
  blk_simp
  rw [after0_6, accH m c t ht]
  pointwise [REFH]
  refine Fin.sum_mul_add_congr fun s k hl => ?_
  reads_congr
  all_goals blk_ext [iblk, idx t, idx ⟨_, Pipeline.run_point_lt_of_flush t ht s⟩]

/-- The kernel's arrays and the reference's are the same arrays. -/
theorem algebraic : @Cert.algebraic_Kernel33Ideal_Reference33Ideal Cert.Kernel33Ideal.Gen.facts Cert.Reference33Ideal.Gen.facts :=
  fun m g m' g' _ hm => ⟨fun c => (dats m 0 c).arrAt 4 cfg0.N, fun c => (dats m 0 c).arrAt 5 cfg0.N, fun c => (dats m 0 c).arrAt 6 cfg0.N,
    Cert.Kernel33Ideal.Value.run_blocks m g,
    (θ_run Cert.Reference33Ideal.defs _ _).mono
      (fun r h c => ⟨((h c).1.trans (by simp only [(hm c).1, (hm c).2.1, (hm c).2.2.1, (hm c).2.2.2])).trans (finalX m c).symm,
        ((h c).2.1.trans (by simp only [(hm c).1, (hm c).2.1, (hm c).2.2.1, (hm c).2.2.2]; rfl)).trans (finalC m c).symm,
        ((h c).2.2.1.trans (by simp only [(hm c).1, (hm c).2.1, (hm c).2.2.1, (hm c).2.2.2])).trans (finalH m c).symm, (h c).2.2.2⟩)
      (Cert.Reference33Ideal.Value.run m' g')⟩

end Cert.Proof.ModX1

end
-- ==== Proof.lean ====
module

public import proofs.«01_k».proof.Defs
public import Idealize.ShloMosaic.Lib.Quiescent
public import proofs.«01_k».proof.Proof.Gen.Pre_finite_act
public import proofs.«01_k».proof.Proof.Gen.Pre_finite_merge
public import proofs.«01_k».proof.Proof.Gen.Pre_finite_ln
public import proofs.«01_k».proof.Proof.Gen.Kernel.Frame
public import proofs.«01_k».proof.Proof.Gen.KernelIdeal.Frame
public import proofs.«01_k».proof.Proof.Gen.ReferenceIdeal.Run
public import proofs.«01_k».proof.Proof.Mlp2X
public import proofs.«01_k».proof.Proof.Gen.Kernel2.Frame
public import proofs.«01_k».proof.Proof.Gen.Kernel2Ideal.Frame
public import proofs.«01_k».proof.Proof.Gen.Reference2Ideal.Run
public import proofs.«01_k».proof.Proof.Mlp2W
public import proofs.«01_k».proof.Proof.Gen.Kernel3.Frame
public import proofs.«01_k».proof.Proof.Gen.Kernel3Ideal.Frame
public import proofs.«01_k».proof.Proof.Gen.Reference3Ideal.Run
public import proofs.«01_k».proof.Proof.Mlp1X
public import proofs.«01_k».proof.Proof.Gen.Kernel4.Frame
public import proofs.«01_k».proof.Proof.Gen.Kernel4Ideal.Frame
public import proofs.«01_k».proof.Proof.Gen.Reference4Ideal.Run
public import proofs.«01_k».proof.Proof.Mlp1W
public import proofs.«01_k».proof.Proof.Gen.Kernel5.Frame
public import proofs.«01_k».proof.Proof.Gen.Kernel5Ideal.Frame
public import proofs.«01_k».proof.Proof.Gen.Reference5Ideal.Run
public import proofs.«01_k».proof.Proof.OutX
public import proofs.«01_k».proof.Proof.Gen.Kernel6.Frame
public import proofs.«01_k».proof.Proof.Gen.Kernel6Ideal.Frame
public import proofs.«01_k».proof.Proof.Gen.Reference6Ideal.Run
public import proofs.«01_k».proof.Proof.OutW
public import proofs.«01_k».proof.Proof.Gen.Kernel7.Frame
public import proofs.«01_k».proof.Proof.Gen.Kernel7Ideal.Frame
public import proofs.«01_k».proof.Proof.Gen.Reference7Ideal.Run
public import proofs.«01_k».proof.Proof.GluX
public import proofs.«01_k».proof.Proof.Gen.Kernel8.Frame
public import proofs.«01_k».proof.Proof.Gen.Kernel8Ideal.Frame
public import proofs.«01_k».proof.Proof.Gen.Reference8Ideal.Run
public import proofs.«01_k».proof.Proof.GluW
public import proofs.«01_k».proof.Proof.Gen.Kernel9.Frame
public import proofs.«01_k».proof.Proof.Gen.Kernel9Ideal.Frame
public import proofs.«01_k».proof.Proof.Gen.Reference9Ideal.Run
public import proofs.«01_k».proof.Proof.ProjX
public import proofs.«01_k».proof.Proof.Gen.Kernel10.Frame
public import proofs.«01_k».proof.Proof.Gen.Kernel10Ideal.Frame
public import proofs.«01_k».proof.Proof.Gen.Reference10Ideal.Run
public import proofs.«01_k».proof.Proof.ProjW
public import proofs.«01_k».proof.Proof.Gen.Kernel11.Frame
public import proofs.«01_k».proof.Proof.Gen.Kernel11Ideal.Frame
public import proofs.«01_k».proof.Proof.Gen.Reference11Ideal.Run
public import proofs.«01_k».proof.Proof.ModX
public import proofs.«01_k».proof.Proof.Gen.Kernel12.Frame
public import proofs.«01_k».proof.Proof.Gen.Kernel12Ideal.Frame
public import proofs.«01_k».proof.Proof.Gen.Reference12Ideal.Run
public import proofs.«01_k».proof.Proof.Act
public import proofs.«01_k».proof.Proof.Gen.Kernel13.Frame
public import proofs.«01_k».proof.Proof.Gen.Kernel13Ideal.Frame
public import proofs.«01_k».proof.Proof.Gen.Reference13Ideal.Run
public import proofs.«01_k».proof.Proof.Merge
public import proofs.«01_k».proof.Proof.Gen.Kernel14.Frame
public import proofs.«01_k».proof.Proof.Gen.Kernel14Ideal.Frame
public import proofs.«01_k».proof.Proof.Gen.Reference14Ideal.Run
public import proofs.«01_k».proof.Proof.Ln
public import proofs.«01_k».proof.Proof.Gen.Kernel15.Frame
public import proofs.«01_k».proof.Proof.Gen.Kernel15Ideal.Frame
public import proofs.«01_k».proof.Proof.Gen.Reference15Ideal.Run
public import proofs.«01_k».proof.Proof.QkvF
public import proofs.«01_k».proof.Proof.Gen.Kernel16.Frame
public import proofs.«01_k».proof.Proof.Gen.Kernel16Ideal.Frame
public import proofs.«01_k».proof.Proof.Gen.Reference16Ideal.Run
public import proofs.«01_k».proof.Proof.UF
public import proofs.«01_k».proof.Proof.Gen.Kernel17.Frame
public import proofs.«01_k».proof.Proof.Gen.Kernel17Ideal.Frame
public import proofs.«01_k».proof.Proof.Gen.Reference17Ideal.Run
public import proofs.«01_k».proof.Proof.GluF
public import proofs.«01_k».proof.Proof.Gen.Kernel18.Frame
public import proofs.«01_k».proof.Proof.Gen.Kernel18Ideal.Frame
public import proofs.«01_k».proof.Proof.Gen.Reference18Ideal.Run
public import proofs.«01_k».proof.Proof.OutF
public import proofs.«01_k».proof.Proof.Gen.Kernel19.Frame
public import proofs.«01_k».proof.Proof.Gen.Kernel19Ideal.Frame
public import proofs.«01_k».proof.Proof.Gen.Reference19Ideal.Run
public import proofs.«01_k».proof.Proof.Mlp1F
public import proofs.«01_k».proof.Proof.Gen.Kernel20.Frame
public import proofs.«01_k».proof.Proof.Gen.Kernel20Ideal.Frame
public import proofs.«01_k».proof.Proof.Gen.Reference20Ideal.Run
public import proofs.«01_k».proof.Proof.Mlp2F
public import proofs.«01_k».proof.Proof.Gen.Kernel21.Frame
public import proofs.«01_k».proof.Proof.Gen.Kernel21Ideal.Frame
public import proofs.«01_k».proof.Proof.Gen.Reference21Ideal.Run
public import proofs.«01_k».proof.Proof.ModF
public import proofs.«01_k».proof.Proof.Gen.Kernel22.Frame
public import proofs.«01_k».proof.Proof.Gen.Kernel22Ideal.Frame
public import proofs.«01_k».proof.Proof.Gen.Reference22Ideal.Run
public import proofs.«01_k».proof.Proof.ActF
public import proofs.«01_k».proof.Proof.Gen.Kernel23.Frame
public import proofs.«01_k».proof.Proof.Gen.Kernel23Ideal.Frame
public import proofs.«01_k».proof.Proof.Gen.Reference23Ideal.Run
public import proofs.«01_k».proof.Proof.MergeF
public import proofs.«01_k».proof.Proof.Gen.Kernel24.Frame
public import proofs.«01_k».proof.Proof.Gen.Kernel24Ideal.Frame
public import proofs.«01_k».proof.Proof.Gen.Reference24Ideal.Run
public import proofs.«01_k».proof.Proof.LnF
public import proofs.«01_k».proof.Proof.Gen.Kernel25.Frame
public import proofs.«01_k».proof.Proof.Gen.Kernel25Ideal.Frame
public import proofs.«01_k».proof.Proof.Gen.Reference25Ideal.Run
public import proofs.«01_k».proof.Proof.Loss
public import proofs.«01_k».proof.Proof.Gen.Kernel26.Frame
public import proofs.«01_k».proof.Proof.Gen.Kernel26Ideal.Frame
public import proofs.«01_k».proof.Proof.Gen.Reference26Ideal.Run
public import proofs.«01_k».proof.Proof.AdaF
public import proofs.«01_k».proof.Proof.Gen.Kernel27.Frame
public import proofs.«01_k».proof.Proof.Gen.Kernel27Ideal.Frame
public import proofs.«01_k».proof.Proof.Gen.Reference27Ideal.Run
public import proofs.«01_k».proof.Proof.AdaW
public import proofs.«01_k».proof.Proof.Gen.Kernel28.Frame
public import proofs.«01_k».proof.Proof.Gen.Kernel28Ideal.Frame
public import proofs.«01_k».proof.Proof.Gen.Reference28Ideal.Run
public import proofs.«01_k».proof.Proof.Adam
public import proofs.«01_k».proof.Proof.Gen.Kernel29.Frame
public import proofs.«01_k».proof.Proof.Gen.Kernel29Ideal.Frame
public import proofs.«01_k».proof.Proof.Gen.Reference29Ideal.Run
public import proofs.«01_k».proof.Proof.Ln1
public import proofs.«01_k».proof.Proof.Gen.Kernel30.Frame
public import proofs.«01_k».proof.Proof.Gen.Kernel30Ideal.Frame
public import proofs.«01_k».proof.Proof.Gen.Reference30Ideal.Run
public import proofs.«01_k».proof.Proof.Reduce
public import proofs.«01_k».proof.Proof.Gen.Kernel31.Frame
public import proofs.«01_k».proof.Proof.Gen.Kernel31Ideal.Frame
public import proofs.«01_k».proof.Proof.Gen.Reference31Ideal.Run
public import proofs.«01_k».proof.Proof.ModF1
public import proofs.«01_k».proof.Proof.Gen.Kernel32.Frame
public import proofs.«01_k».proof.Proof.Gen.Kernel32Ideal.Frame
public import proofs.«01_k».proof.Proof.Gen.Reference32Ideal.Run
public import proofs.«01_k».proof.Proof.LnF1
public import proofs.«01_k».proof.Proof.Gen.Kernel33.Frame
public import proofs.«01_k».proof.Proof.Gen.Kernel33Ideal.Frame
public import proofs.«01_k».proof.Proof.Gen.Reference33Ideal.Run
public import proofs.«01_k».proof.Proof.ModX1

@[expose] public section

noncomputable section

namespace Cert.Proof

open Idealize.ShloMosaic Idealize.SL.Sem

set_option maxHeartbeats 1000000 in
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Pre_finite_act.Gen.facts, Cert.Pre_finite_merge.Gen.facts, Cert.Pre_finite_ln.Gen.facts,
    fun m ρ _ => Cert.Kernel.Gen.frame m ρ,
    fun m ρ _ => Cert.KernelIdeal.Gen.frame m ρ,
    fun m ρ _ => (θ_run Cert.ReferenceIdeal.defs _ _).mono (fun r h => ⟨fun c => (h c).2, sem_eq_zero_of_no_sems rfl r.2⟩)
      (Cert.ReferenceIdeal.Value.run m ρ),
    fun m ρ _ => Cert.Kernel2.Gen.frame m ρ,
    fun m ρ _ => Cert.Kernel2Ideal.Gen.frame m ρ,
    fun m ρ _ => (θ_run Cert.Reference2Ideal.defs _ _).mono (fun r h => ⟨fun c => (h c).2, sem_eq_zero_of_no_sems rfl r.2⟩)
      (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2, sem_eq_zero_of_no_sems rfl r.2⟩)
      (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2, sem_eq_zero_of_no_sems rfl r.2⟩)
      (Cert.Reference4Ideal.Value.run m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2, sem_eq_zero_of_no_sems rfl r.2⟩)
      (Cert.Reference5Ideal.Value.run m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2, sem_eq_zero_of_no_sems rfl r.2⟩)
      (Cert.Reference6Ideal.Value.run m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2, sem_eq_zero_of_no_sems rfl r.2⟩)
      (Cert.Reference7Ideal.Value.run m ρ),
    fun m ρ _ => Cert.Kernel8.Gen.frame m ρ,
    fun m ρ _ => Cert.Kernel8Ideal.Gen.frame m ρ,
    fun m ρ _ => (θ_run Cert.Reference8Ideal.defs _ _).mono (fun r h => ⟨fun c => (h c).2, sem_eq_zero_of_no_sems rfl r.2⟩)
      (Cert.Reference8Ideal.Value.run m ρ),
    fun m ρ _ => Cert.Kernel9.Gen.frame m ρ,
    fun m ρ _ => Cert.Kernel9Ideal.Gen.frame m ρ,
    fun m ρ _ => (θ_run Cert.Reference9Ideal.defs _ _).mono (fun r h => ⟨fun c => (h c).2, sem_eq_zero_of_no_sems rfl r.2⟩)
      (Cert.Reference9Ideal.Value.run m ρ),
    fun m ρ _ => Cert.Kernel10.Gen.frame m ρ,
    fun m ρ _ => Cert.Kernel10Ideal.Gen.frame m ρ,
    fun m ρ _ => (θ_run Cert.Reference10Ideal.defs _ _).mono (fun r h => ⟨fun c => (h c).2, sem_eq_zero_of_no_sems rfl r.2⟩)
      (Cert.Reference10Ideal.Value.run m ρ),
    fun m ρ _ => Cert.Kernel11.Gen.frame m ρ,
    fun m ρ _ => Cert.Kernel11Ideal.Gen.frame m ρ,
    fun m ρ _ => (θ_run Cert.Reference11Ideal.defs _ _).mono (fun r h => ⟨fun c => (h c).2.2.2, sem_eq_zero_of_no_sems rfl r.2⟩)
      (Cert.Reference11Ideal.Value.run m ρ),
    fun m ρ _ => Cert.Kernel12.Gen.frame m ρ,
    fun m ρ _ => Cert.Kernel12Ideal.Gen.frame m ρ,
    fun m ρ _ => Cert.Kernel12Ideal.Gen.frame m ρ,
    fun m ρ _ => (θ_run Cert.Reference12Ideal.defs _ _).mono (fun r h => ⟨fun c => (h c).2.2.2, sem_eq_zero_of_no_sems rfl r.2⟩)
      (Cert.Reference12Ideal.Value.run m ρ),
    fun m ρ _ => (θ_run Cert.Reference12Ideal.defs _ _).mono (fun r h => ⟨fun c => (h c).2.2.2, sem_eq_zero_of_no_sems rfl r.2⟩)
      (Cert.Reference12Ideal.Value.run m ρ),
    fun m ρ _ => Cert.Kernel13.Gen.frame m ρ,
    fun m ρ _ => Cert.Kernel13Ideal.Gen.frame m ρ,
    fun m ρ _ => Cert.Kernel13Ideal.Gen.frame m ρ,
    fun m ρ _ => (θ_run Cert.Reference13Ideal.defs _ _).mono (fun r h => ⟨fun c => (h c).2.2.2.2.2.2, sem_eq_zero_of_no_sems rfl r.2⟩)
      (Cert.Reference13Ideal.Value.run m ρ),
    fun m ρ _ => (θ_run Cert.Reference13Ideal.defs _ _).mono (fun r h => ⟨fun c => (h c).2.2.2.2.2.2, sem_eq_zero_of_no_sems rfl r.2⟩)
      (Cert.Reference13Ideal.Value.run m ρ),
    fun m ρ _ => Cert.Kernel14.Gen.frame m ρ,
    fun m ρ _ => Cert.Kernel14Ideal.Gen.frame m ρ,
    fun m ρ _ => Cert.Kernel14Ideal.Gen.frame m ρ,
    fun m ρ _ => (θ_run Cert.Reference14Ideal.defs _ _).mono (fun r h => ⟨fun c => (h c).2.2.2.2.2, sem_eq_zero_of_no_sems rfl r.2⟩)
      (Cert.Reference14Ideal.Value.run m ρ),
    fun m ρ _ => (θ_run Cert.Reference14Ideal.defs _ _).mono (fun r h => ⟨fun c => (h c).2.2.2.2.2, sem_eq_zero_of_no_sems rfl r.2⟩)
      (Cert.Reference14Ideal.Value.run m ρ),
    fun m ρ _ => Cert.Kernel15.Gen.frame m ρ,
    fun m ρ _ => Cert.Kernel15Ideal.Gen.frame m ρ,
    fun m ρ _ => (θ_run Cert.Reference15Ideal.defs _ _).mono (fun r h => ⟨fun c => (h c).2, sem_eq_zero_of_no_sems rfl r.2⟩)
      (Cert.Reference15Ideal.Value.run m ρ),
    fun m ρ _ => Cert.Kernel16.Gen.frame m ρ,
    fun m ρ _ => Cert.Kernel16Ideal.Gen.frame m ρ,
    fun m ρ _ => (θ_run Cert.Reference16Ideal.defs _ _).mono (fun r h => ⟨fun c => (h c).2, sem_eq_zero_of_no_sems rfl r.2⟩)
      (Cert.Reference16Ideal.Value.run m ρ),
    fun m ρ _ => Cert.Kernel17.Gen.frame m ρ,
    fun m ρ _ => Cert.Kernel17Ideal.Gen.frame m ρ,
    fun m ρ _ => (θ_run Cert.Reference17Ideal.defs _ _).mono (fun r h => ⟨fun c => (h c).2, sem_eq_zero_of_no_sems rfl r.2⟩)
      (Cert.Reference17Ideal.Value.run m ρ),
    fun m ρ _ => Cert.Kernel18.Gen.frame m ρ,
    fun m ρ _ => Cert.Kernel18Ideal.Gen.frame m ρ,
    fun m ρ _ => (θ_run Cert.Reference18Ideal.defs _ _).mono (fun r h => ⟨fun c => (h c).2, sem_eq_zero_of_no_sems rfl r.2⟩)
      (Cert.Reference18Ideal.Value.run m ρ),
    fun m ρ _ => Cert.Kernel19.Gen.frame m ρ,
    fun m ρ _ => Cert.Kernel19Ideal.Gen.frame m ρ,
    fun m ρ _ => (θ_run Cert.Reference19Ideal.defs _ _).mono (fun r h => ⟨fun c => (h c).2, sem_eq_zero_of_no_sems rfl r.2⟩)
      (Cert.Reference19Ideal.Value.run m ρ),
    fun m ρ _ => Cert.Kernel20.Gen.frame m ρ,
    fun m ρ _ => Cert.Kernel20Ideal.Gen.frame m ρ,
    fun m ρ _ => (θ_run Cert.Reference20Ideal.defs _ _).mono (fun r h => ⟨fun c => (h c).2, sem_eq_zero_of_no_sems rfl r.2⟩)
      (Cert.Reference20Ideal.Value.run m ρ),
    fun m ρ _ => Cert.Kernel21.Gen.frame m ρ,
    fun m ρ _ => Cert.Kernel21Ideal.Gen.frame m ρ,
    fun m ρ _ => (θ_run Cert.Reference21Ideal.defs _ _).mono (fun r h => ⟨fun c => (h c).2, sem_eq_zero_of_no_sems rfl r.2⟩)
      (Cert.Reference21Ideal.Value.run m ρ),
    fun m ρ _ => Cert.Kernel22.Gen.frame m ρ,
    fun m ρ _ => Cert.Kernel22Ideal.Gen.frame m ρ,
    fun m ρ _ => (θ_run Cert.Reference22Ideal.defs _ _).mono (fun r h => ⟨fun c => (h c).2.2, sem_eq_zero_of_no_sems rfl r.2⟩)
      (Cert.Reference22Ideal.Value.run m ρ),
    fun m ρ _ => Cert.Kernel23.Gen.frame m ρ,
    fun m ρ _ => Cert.Kernel23Ideal.Gen.frame m ρ,
    fun m ρ _ => (θ_run Cert.Reference23Ideal.defs _ _).mono (fun r h => ⟨fun c => (h c).2, sem_eq_zero_of_no_sems rfl r.2⟩)
      (Cert.Reference23Ideal.Value.run m ρ),
    fun m ρ _ => Cert.Kernel24.Gen.frame m ρ,
    fun m ρ _ => Cert.Kernel24Ideal.Gen.frame m ρ,
    fun m ρ _ => (θ_run Cert.Reference24Ideal.defs _ _).mono (fun r h => ⟨fun c => (h c).2, sem_eq_zero_of_no_sems rfl r.2⟩)
      (Cert.Reference24Ideal.Value.run m ρ),
    fun m ρ _ => Cert.Kernel25.Gen.frame m ρ,
    fun m ρ _ => Cert.Kernel25Ideal.Gen.frame m ρ,
    fun m ρ _ => (θ_run Cert.Reference25Ideal.defs _ _).mono (fun r h => ⟨fun c => (h c).2.2, sem_eq_zero_of_no_sems rfl r.2⟩)
      (Cert.Reference25Ideal.Value.run m ρ),
    fun m ρ _ => Cert.Kernel26.Gen.frame m ρ,
    fun m ρ _ => Cert.Kernel26Ideal.Gen.frame m ρ,
    fun m ρ _ => (θ_run Cert.Reference26Ideal.defs _ _).mono (fun r h => ⟨fun c => (h c).2, sem_eq_zero_of_no_sems rfl r.2⟩)
      (Cert.Reference26Ideal.Value.run m ρ),
    fun m ρ _ => Cert.Kernel27.Gen.frame m ρ,
    fun m ρ _ => Cert.Kernel27Ideal.Gen.frame m ρ,
    fun m ρ _ => (θ_run Cert.Reference27Ideal.defs _ _).mono (fun r h => ⟨fun c => (h c).2, sem_eq_zero_of_no_sems rfl r.2⟩)
      (Cert.Reference27Ideal.Value.run m ρ),
    fun m ρ _ => Cert.Kernel28.Gen.frame m ρ,
    fun m ρ _ => Cert.Kernel28Ideal.Gen.frame m ρ,
    fun m ρ _ => (θ_run Cert.Reference28Ideal.defs _ _).mono (fun r h => ⟨fun c => (h c).2.2.2, sem_eq_zero_of_no_sems rfl r.2⟩)
      (Cert.Reference28Ideal.Value.run m ρ),
    fun m ρ _ => Cert.Kernel29.Gen.frame m ρ,
    fun m ρ _ => Cert.Kernel29Ideal.Gen.frame m ρ,
    fun m ρ _ => Cert.Kernel29Ideal.Gen.frame m ρ,
    fun m ρ _ => (θ_run Cert.Reference29Ideal.defs _ _).mono (fun r h => ⟨fun c => (h c).2.2.2.2.2, sem_eq_zero_of_no_sems rfl r.2⟩)
      (Cert.Reference29Ideal.Value.run m ρ),
    fun m ρ _ => (θ_run Cert.Reference29Ideal.defs _ _).mono (fun r h => ⟨fun c => (h c).2.2.2.2.2, sem_eq_zero_of_no_sems rfl r.2⟩)
      (Cert.Reference29Ideal.Value.run m ρ),
    fun m ρ _ => Cert.Kernel30.Gen.frame m ρ,
    fun m ρ _ => Cert.Kernel30Ideal.Gen.frame m ρ,
    fun m ρ _ => (θ_run Cert.Reference30Ideal.defs _ _).mono (fun r h => ⟨fun c => (h c).2, sem_eq_zero_of_no_sems rfl r.2⟩)
      (Cert.Reference30Ideal.Value.run m ρ),
    fun m ρ _ => Cert.Kernel31.Gen.frame m ρ,
    fun m ρ _ => Cert.Kernel31Ideal.Gen.frame m ρ,
    fun m ρ _ => (θ_run Cert.Reference31Ideal.defs _ _).mono (fun r h => ⟨fun c => (h c).2, sem_eq_zero_of_no_sems rfl r.2⟩)
      (Cert.Reference31Ideal.Value.run m ρ),
    fun m ρ _ => Cert.Kernel32.Gen.frame m ρ,
    fun m ρ _ => Cert.Kernel32Ideal.Gen.frame m ρ,
    fun m ρ _ => (θ_run Cert.Reference32Ideal.defs _ _).mono (fun r h => ⟨fun c => (h c).2, sem_eq_zero_of_no_sems rfl r.2⟩)
      (Cert.Reference32Ideal.Value.run m ρ),
    fun m ρ _ => Cert.Kernel33.Gen.frame m ρ,
    fun m ρ _ => Cert.Kernel33Ideal.Gen.frame m ρ,
    fun m ρ _ => (θ_run Cert.Reference33Ideal.defs _ _).mono (fun r h => ⟨fun c => (h c).2.2.2, sem_eq_zero_of_no_sems rfl r.2⟩)
      (Cert.Reference33Ideal.Value.run m ρ),
    trivial, Cert.Proof.Mlp2X.algebraic,
    trivial, Cert.Proof.Mlp2W.algebraic,
    trivial, Cert.Proof.Mlp1X.algebraic,
    trivial, Cert.Proof.Mlp1W.algebraic,
    trivial, Cert.Proof.OutX.algebraic,
    trivial, Cert.Proof.OutW.algebraic,
    trivial, Cert.Proof.GluX.algebraic,
    trivial, Cert.Proof.GluW.algebraic,
    trivial, Cert.Proof.ProjX.algebraic,
    trivial, Cert.Proof.ProjW.algebraic,
    trivial, Cert.Proof.ModX.algebraic,
    Cert.Proof.Act.preserves, Cert.Proof.Act.algebraic,
    trivial, Cert.Proof.Merge.algebraic,
    trivial, Cert.Proof.Ln.algebraic,
    trivial, Cert.Proof.QkvF.algebraic,
    trivial, Cert.Proof.UF.algebraic,
    trivial, Cert.Proof.GluF.algebraic,
    trivial, Cert.Proof.OutF.algebraic,
    trivial, Cert.Proof.Mlp1F.algebraic,
    trivial, Cert.Proof.Mlp2F.algebraic,
    trivial, Cert.Proof.ModF.algebraic,
    Cert.Proof.ActF.preserves, Cert.Proof.ActF.algebraic,
    trivial, Cert.Proof.MergeF.algebraic,
    trivial, Cert.Proof.LnF.algebraic,
    trivial, Cert.Proof.Loss.algebraic,
    trivial, Cert.Proof.AdaF.algebraic,
    trivial, Cert.Proof.AdaW.algebraic,
    trivial, Cert.Proof.Adam.algebraic,
    trivial, Cert.Proof.Ln1.algebraic,
    trivial, Cert.Proof.Reduce.algebraic,
    trivial, Cert.Proof.ModF1.algebraic,
    trivial, Cert.Proof.LnF1.algebraic,
    trivial, Cert.Proof.ModX1.algebraic⟩

end Cert.Proof

end
